-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "x_q_log2_scale" .f32 0x3E0293EE#32 (((11863283 / 134217728) * (Real.log 2)⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "x_q_log2_scale" .f32 0x3E0293EE#32 (((11863283 / 134217728) * (Real.log 2)⁻¹ : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  IdealRules.named_const.Statement Cert.Kernel6Ideal.κ "q_log2_scale" .f32 0x3E38AA3B#32 (((1 / 8) * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_v27_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v89) = v0 c
          ∧ r.2.mem ((c.tc : Thread Cert.Reference6Ideal.nD Cert.Reference6Ideal.τ).loc Cert.Reference6Ideal.main_v90) = v1 c
          ∧ r.2.mem ((c.tc : Thread Cert.Reference6Ideal.nD Cert.Reference6Ideal.τ).loc Cert.Reference6Ideal.main_v91) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite4.lean ====
abbrev S8x8192x1024 : Shape := ⟨3, ![8, 8192, 1024]⟩
abbrev S8x256x1024 : Shape := ⟨3, ![8, 256, 1024]⟩
abbrev S8x8192x16x64 : Shape := ⟨4, ![8, 8192, 16, 64]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S_ : Shape := ⟨0, ![]⟩

class Facts : Prop where
  bcast_S_S8x8192x1024 : S_.BroadcastsInDim S8x8192x1024 (![] : Fin 0 → Fin S8x8192x1024.rank)
  bcast_S_S8x256x1024 : S_.BroadcastsInDim S8x256x1024 (![] : Fin 0 → Fin S8x256x1024.rank)
  bcast_S_S8x8192x16x64 : S_.BroadcastsInDim S8x8192x16x64 (![] : Fin 0 → Fin S8x8192x16x64.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x512 : S_.BroadcastsInDim S1024x512 (![] : Fin 0 → Fin S1024x512.rank)

variable [Facts]

def fn_part1 {F : FTy → Type} [FloatOps F] (main_arg6 : FVec F S1024x512 .f32) (main_arg7 : FVec F S1024x1024 .f32) (main_v2 : IVec S8x8192x1024 1) (main_v5 : IVec S8x256x1024 1) (main_v8 : IVec S8x8192x16x64 1) (main_v11 : IVec S1024x1024 1) (main_v14 : IVec S1024 1) (main_v17 : IVec S1024 1) : IVec S8x8192x1024 1 × IVec S8x256x1024 1 × IVec S8x8192x16x64 1 × IVec S1024x1024 1 × IVec S1024 1 × IVec S1024 1 × IVec S1024x512 1 × IVec S1024x1024 1 :=
  let main_v18 : FVec F S1024x512 .f32 := Host.absf main_arg6
  let main_cst_5 : FVec F S_ .f32 := constant S_ .f32 0x7F800000#32
  let main_v19 : FVec F S1024x512 .f32 := broadcastInDim S1024x512 ![] bcast_S_S1024x512 main_cst_5
  let main_v20 : IVec S1024x512 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  (main_v2, main_v5, main_v8, main_v11, main_v14, main_v17, main_v20, main_v23)

def fn {F : FTy → Type} [FloatOps F] (main_arg0 : FVec F S8x8192x1024 .f32) (main_arg1 : FVec F S8x256x1024 .f32) (main_arg2 : FVec F S8x8192x16x64 .f32) (main_arg3 : FVec F S1024x1024 .f32) (main_arg4 : FVec F S1024 .f32) (main_arg5 : FVec F S1024 .f32) (main_arg6 : FVec F S1024x512 .f32) (main_arg7 : FVec F S1024x1024 .f32) (main_arg8 : FVec F S512x1024 .f32) : IVec S8x8192x1024 1 × IVec S8x256x1024 1 × IVec S8x8192x16x64 1 × IVec S1024x1024 1 × IVec S1024 1 × IVec S1024 1 × IVec S1024x512 1 × IVec S1024x1024 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S8x256x1024 .f32 := Host.absf main_arg1
  let main_cst_0 : FVec F S_ .f32 := constant S_ .f32 0x7F800000#32
  let main_v4 : FVec F S8x256x1024 .f32 := broadcastInDim S8x256x1024 ![] bcast_S_S8x256x1024 main_cst_0
  let main_v5 : IVec S8x256x1024 1 := cmpf .olt main_v3 main_v4
  let main_v6 : FVec F S8x8192x16x64 .f32 := Host.absf main_arg2
  let main_cst_1 : FVec F S_ .f32 := constant S_ .f32 0x7F800000#32
  let main_v7 : FVec F S8x8192x16x64 .f32 := broadcastInDim S8x8192x16x64 ![] bcast_S_S8x8192x16x64 main_cst_1
  let main_v8 : IVec S8x8192x16x64 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_v2 main_v5 main_v8 main_v11 main_v14 main_v17
-- ==== Pre_finite5.lean ====
abbrev S8x8192x1024 : Shape := ⟨3, ![8, 8192, 1024]⟩
abbrev S8x256x1024 : Shape := ⟨3, ![8, 256, 1024]⟩
abbrev S8x8192x8x64 : Shape := ⟨4, ![8, 8192, 8, 64]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S_ : Shape := ⟨0, ![]⟩

class Facts : Prop where
  bcast_S_S8x8192x1024 : S_.BroadcastsInDim S8x8192x1024 (![] : Fin 0 → Fin S8x8192x1024.rank)
  bcast_S_S8x256x1024 : S_.BroadcastsInDim S8x256x1024 (![] : Fin 0 → Fin S8x256x1024.rank)
  bcast_S_S8x8192x8x64 : S_.BroadcastsInDim S8x8192x8x64 (![] : Fin 0 → Fin S8x8192x8x64.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x512 : S_.BroadcastsInDim S1024x512 (![] : Fin 0 → Fin S1024x512.rank)

variable [Facts]

def fn_part1 {F : FTy → Type} [FloatOps F] (main_arg6 : FVec F S1024 .f32) (main_arg7 : FVec F S1024x512 .f32) (main_arg8 : FVec F S1024x1024 .f32) (main_v2 : IVec S8x8192x1024 1) (main_v5 : IVec S8x256x1024 1) (main_v8 : IVec S8x8192x8x64 1) (main_v11 : IVec S8x8192x8x64 1) (main_v14 : IVec S1024x1024 1) (main_v17 : IVec S1024 1) : IVec S8x8192x1024 1 × IVec S8x256x1024 1 × IVec S8x8192x8x64 1 × IVec S8x8192x8x64 1 × IVec S1024x1024 1 × IVec S1024 1 × IVec S1024 1 × IVec S1024x512 1 × IVec S1024x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x512 .f32 := Host.absf main_arg7
  let main_cst_6 : FVec F S_ .f32 := constant S_ .f32 0x7F800000#32
  let main_v22 : FVec F S1024x512 .f32 := broadcastInDim S1024x512 ![] bcast_S_S1024x512 main_cst_6
  let main_v23 : IVec S1024x512 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  (main_v2, main_v5, main_v8, main_v11, main_v14, main_v17, main_v20, main_v23, main_v26)

def fn {F : FTy → Type} [FloatOps F] (main_arg0 : FVec F S8x8192x1024 .f32) (main_arg1 : FVec F S8x256x1024 .f32) (main_arg2 : FVec F S8x8192x8x64 .f32) (main_arg3 : FVec F S8x8192x8x64 .f32) (main_arg4 : FVec F S1024x1024 .f32) (main_arg5 : FVec F S1024 .f32) (main_arg6 : FVec F S1024 .f32) (main_arg7 : FVec F S1024x512 .f32) (main_arg8 : FVec F S1024x1024 .f32) (main_arg9 : FVec F S512x1024 .f32) : IVec S8x8192x1024 1 × IVec S8x256x1024 1 × IVec S8x8192x8x64 1 × IVec S8x8192x8x64 1 × IVec S1024x1024 1 × IVec S1024 1 × IVec S1024 1 × IVec S1024x512 1 × IVec S1024x1024 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S8x256x1024 .f32 := Host.absf main_arg1
  let main_cst_0 : FVec F S_ .f32 := constant S_ .f32 0x7F800000#32
  let main_v4 : FVec F S8x256x1024 .f32 := broadcastInDim S8x256x1024 ![] bcast_S_S8x256x1024 main_cst_0
  let main_v5 : IVec S8x256x1024 1 := cmpf .olt main_v3 main_v4
  let main_v6 : FVec F S8x8192x8x64 .f32 := Host.absf main_arg2
  let main_cst_1 : FVec F S_ .f32 := constant S_ .f32 0x7F800000#32
  let main_v7 : FVec F S8x8192x8x64 .f32 := broadcastInDim S8x8192x8x64 ![] bcast_S_S8x8192x8x64 main_cst_1
  let main_v8 : IVec S8x8192x8x64 1 := cmpf .olt main_v6 main_v7
  let main_v9 : FVec F S8x8192x8x64 .f32 := Host.absf main_arg3
  let main_cst_2 : FVec F S_ .f32 := constant S_ .f32 0x7F800000#32
  let main_v10 : FVec F S8x8192x8x64 .f32 := broadcastInDim S8x8192x8x64 ![] bcast_S_S8x8192x8x64 main_cst_2
  let main_v11 : IVec S8x8192x8x64 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_v2 main_v5 main_v8 main_v11 main_v14 main_v17
-- ==== Pre_finite_scores.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S_ : Shape := ⟨0, ![]⟩

class Facts : Prop where
  bcast_S_S8x8192x8x64 : S_.BroadcastsInDim S8x8192x8x64 (![] : Fin 0 → Fin S8x8192x8x64.rank)
  bcast_S_S8x8192x8x32 : S_.BroadcastsInDim S8x8192x8x32 (![] : Fin 0 → Fin S8x8192x8x32.rank)
  bcast_S_S8x8192x32 : S_.BroadcastsInDim S8x8192x32 (![] : Fin 0 → Fin S8x8192x32.rank)

variable [Facts]

def fn {F : FTy → Type} [FloatOps F] (main_arg0 : FVec F S8x8192x8x64 .f32) (main_arg1 : FVec F S8x8192x8x32 .f32) (main_arg2 : FVec F S8x8192x8x64 .f32) (main_arg3 : FVec F S8x8192x32 .f32) (main_arg4 : FVec F S8x8192x8x64 .f32) : IVec S8x8192x8x64 1 × IVec S8x8192x8x32 1 × IVec S8x8192x8x64 1 × IVec S8x8192x32 1 :=
  let main_v0 : FVec F S8x8192x8x64 .f32 := Host.absf main_arg0
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_v3 : FVec F S8x8192x8x32 .f32 := Host.absf main_arg1
  let main_cst_0 : FVec F S_ .f32 := constant S_ .f32 0x7F800000#32
  let main_v4 : FVec F S8x8192x8x32 .f32 := broadcastInDim S8x8192x8x32 ![] bcast_S_S8x8192x8x32 main_cst_0
  let main_v5 : IVec S8x8192x8x32 1 := cmpf .olt main_v3 main_v4
  let main_v6 : FVec F S8x8192x8x64 .f32 := Host.absf main_arg2
  let main_cst_1 : FVec F S_ .f32 := constant S_ .f32 0x7F800000#32
  let main_v7 : FVec F S8x8192x8x64 .f32 := broadcastInDim S8x8192x8x64 ![] bcast_S_S8x8192x8x64 main_cst_1
  let main_v8 : IVec S8x8192x8x64 1 := cmpf .olt main_v6 main_v7
  let main_v9 : FVec F S8x8192x32 .f32 := Host.absf main_arg3
  let main_cst_2 : FVec F S_ .f32 := constant S_ .f32 0x7F800000#32
  let main_v10 : FVec F S8x8192x32 .f32 := broadcastInDim S8x8192x32 ![] bcast_S_S8x8192x32 main_cst_2
  let main_v11 : IVec S8x8192x32 1 := cmpf .olt main_v9 main_v10
  (main_v2, main_v5, main_v8, main_v11)
-- ==== Kernel.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S_ : Shape := ⟨0, ![]⟩
abbrev S8x8192x8x96 : Shape := ⟨4, ![8, 8192, 8, 96]⟩
abbrev S8x8192x8x128 : Shape := ⟨4, ![8, 8192, 8, 128]⟩
abbrev S8x8192x1x32 : Shape := ⟨4, ![8, 8192, 1, 32]⟩
abbrev S65536x1024 : Shape := ⟨2, ![65536, 1024]⟩
abbrev S65536x512 : Shape := ⟨2, ![65536, 512]⟩
abbrev S512x512 : Shape := ⟨2, ![512, 512]⟩
abbrev S8192x512 : Shape := ⟨2, ![8192, 512]⟩
abbrev S8192x256 : Shape := ⟨2, ![8192, 256]⟩
abbrev S512x256 : Shape := ⟨2, ![512, 256]⟩
abbrev S8192x128 : Shape := ⟨2, ![8192, 128]⟩
abbrev S512x128 : Shape := ⟨2, ![512, 128]⟩
abbrev S512x1 : Shape := ⟨2, ![512, 1]⟩
abbrev S2048x128 : Shape := ⟨2, ![2048, 128]⟩
abbrev S512x2048 : Shape := ⟨2, ![512, 2048]⟩
abbrev S512 : Shape := ⟨1, ![512]⟩
abbrev S1536x128 : Shape := ⟨2, ![1536, 128]⟩
abbrev S512x1536 : Shape := ⟨2, ![512, 1536]⟩
abbrev S1024x128 : Shape := ⟨2, ![1024, 128]⟩
abbrev S512x1024 : Shape := ⟨2, ![512, 1024]⟩

abbrev nBuf : Space → Nat
  | .hbm => 28
  | .vmem => 12
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x32, .f32⟩
  | .hbm, ⟨2, _⟩ => ⟨S8x8192x8x64, .f32⟩
  | .hbm, ⟨3, _⟩ => ⟨S8x8192x32, .f32⟩
  | .hbm, ⟨4, _⟩ => ⟨S8x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8192x8x96, .f32⟩
  | .hbm, ⟨10, _⟩ => ⟨S8x8192x8x96, .f32⟩
  | .hbm, ⟨11, _⟩ => ⟨S8x8192x8x96, .f32⟩
  | .hbm, ⟨12, _⟩ => ⟨S_, .i32⟩
  | .hbm, ⟨13, _⟩ => ⟨S_, .f32⟩
  | .hbm, ⟨14, _⟩ => ⟨S8x8192x8x128, .f32⟩
  | .hbm, ⟨15, _⟩ => ⟨S8x8192x1x32, .f32⟩
  | .hbm, ⟨16, _⟩ => ⟨S8x8192x8x32, .f32⟩
  | .hbm, ⟨17, _⟩ => ⟨S8x8192x8x96, .f32⟩
  | .hbm, ⟨18, _⟩ => ⟨S_, .i32⟩
  | .hbm, ⟨19, _⟩ => ⟨S_, .f32⟩
  | .hbm, ⟨20, _⟩ => ⟨S8x8192x8x128, .f32⟩
  | .hbm, ⟨21, _⟩ => ⟨S65536x1024, .f32⟩
  | .hbm, ⟨22, _⟩ => ⟨S65536x1024, .bf16⟩
  | .hbm, ⟨23, _⟩ => ⟨S65536x1024, .f32⟩
  | .hbm, ⟨24, _⟩ => ⟨S65536x1024, .bf16⟩
  | .hbm, ⟨25, _⟩ => ⟨S65536x512, .f32⟩
  | .hbm, ⟨26, _⟩ => ⟨S65536x512, .bf16⟩
  | .hbm, ⟨27, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S8192x256, .bf16⟩
  | .local _ .vmem, ⟨5, _⟩ => ⟨S8192x256, .bf16⟩
  | .local _ .vmem, ⟨6, _⟩ => ⟨S512x256, .bf16⟩
  | .local _ .vmem, ⟨7, _⟩ => ⟨S512x256, .bf16⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S8192x128, .bf16⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

@[reducible] def k0_t1_loop (i : grid0.Coords) : Scf.Loop 32 :=
  let c0_i32_11 : BitVec 32 := 0#32
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_13 : BitVec 32 := 1#32
  ⟨c0_i32_11, v38, c1_i32_13⟩
def k0_mult1 (i : grid0.Coords) (k0_t1 : Fin (k0_t1_loop i).trips) : BitVec 32 :=
  let c0_i32_11 : BitVec 32 := 0#32
  let c1_i32_13 : BitVec 32 := 1#32
  let arg11 : BitVec 32 := Scf.iv c0_i32_11 c1_i32_13 k0_t1
  let c2048_i32_30 : BitVec 32 := 2048#32
  let v69 : BitVec 32 := Scalar.muli arg11 c2048_i32_30
  v69
def k0_off1 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c2048_i32_30 : BitVec 32 := 2048#32
  let v69 : BitVec 32 := Scalar.muli arg11 c2048_i32_30
  let v70 : BitVec 32 := v69
  let v71 : Index := Scalar.indexCast v70
  let c0_31 : Index := 0#32
  ![v71.toNat, 0]
def k0_off2 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c2048_i32_30 : BitVec 32 := 2048#32
  let v69 : BitVec 32 := Scalar.muli arg11 c2048_i32_30
  let v70 : BitVec 32 := v69
  let v82 : Index := Scalar.indexCast v70
  let c0_34 : Index := 0#32
  ![v82.toNat, 0]
def k0_off3 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c2048_i32_30 : BitVec 32 := 2048#32
  let v69 : BitVec 32 := Scalar.muli arg11 c2048_i32_30
  let v70 : BitVec 32 := v69
  let v90 : Index := Scalar.indexCast v70
  let c128_36 : Index := 128#32
  ![v90.toNat, 128]
def k0_off4 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c2048_i32_30 : BitVec 32 := 2048#32
  let v69 : BitVec 32 := Scalar.muli arg11 c2048_i32_30
  let v70 : BitVec 32 := v69
  let v109 : Index := Scalar.indexCast v70
  let c256_41 : Index := 256#32
  ![v109.toNat, 256]
def k0_off5 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c2048_i32_30 : BitVec 32 := 2048#32
  let v69 : BitVec 32 := Scalar.muli arg11 c2048_i32_30
  let v70 : BitVec 32 := v69
  let v128 : Index := Scalar.indexCast v70
  let c384_46 : Index := 384#32
  ![v128.toNat, 384]
@[reducible] def k0_t2_loop (i : grid0.Coords) : Scf.Loop 32 :=
  let c0_i32_11 : BitVec 32 := 0#32
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let v35 : BitVec 32 := Scalar.addi c0_i32_11 v34
  let c1_i32_14 : BitVec 32 := 1#32
  ⟨v38, v35, c1_i32_14⟩
def k0_mult2 (i : grid0.Coords) (k0_t2 : Fin (k0_t2_loop i).trips) : BitVec 32 :=
  let c0_i32_11 : BitVec 32 := 0#32
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_14 : BitVec 32 := 1#32
  let arg11 : BitVec 32 := Scf.iv v38 c1_i32_14 k0_t2
  let c2048_i32_30 : BitVec 32 := 2048#32
  let v69 : BitVec 32 := Scalar.muli arg11 c2048_i32_30
  v69
def k0_off6 (i : grid0.Coords) (k0_t2 : Fin (k0_t2_loop i).trips) : Fin 2 → Nat :=
  let c0_i32_11 : BitVec 32 := 0#32
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_14 : BitVec 32 := 1#32
  let arg11 : BitVec 32 := Scf.iv v38 c1_i32_14 k0_t2
  let c2048_i32_30 : BitVec 32 := 2048#32
  let v69 : BitVec 32 := Scalar.muli arg11 c2048_i32_30
  let v70 : BitVec 32 := v69
  let v71 : Index := Scalar.indexCast v70
  let c0_31 : Index := 0#32
  ![v71.toNat, 0]
def k0_off7 (i : grid0.Coords) (k0_t2 : Fin (k0_t2_loop i).trips) : Fin 2 → Nat :=
  let c0_i32_11 : BitVec 32 := 0#32
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_14 : BitVec 32 := 1#32
  let arg11 : BitVec 32 := Scf.iv v38 c1_i32_14 k0_t2
  let c2048_i32_30 : BitVec 32 := 2048#32
  let v69 : BitVec 32 := Scalar.muli arg11 c2048_i32_30
  let v70 : BitVec 32 := v69
  let v82 : Index := Scalar.indexCast v70
  let c0_34 : Index := 0#32
  ![v82.toNat, 0]
def k0_off8 (i : grid0.Coords) (k0_t2 : Fin (k0_t2_loop i).trips) : Fin 2 → Nat :=
  let c0_i32_11 : BitVec 32 := 0#32
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_14 : BitVec 32 := 1#32
  let arg11 : BitVec 32 := Scf.iv v38 c1_i32_14 k0_t2
  let c2048_i32_30 : BitVec 32 := 2048#32
  let v69 : BitVec 32 := Scalar.muli arg11 c2048_i32_30
  let v70 : BitVec 32 := v69
  let v90 : Index := Scalar.indexCast v70
  let c128_36 : Index := 128#32
  ![v90.toNat, 128]
def k0_off9 (i : grid0.Coords) (k0_t2 : Fin (k0_t2_loop i).trips) : Fin 2 → Nat :=
  let c0_i32_11 : BitVec 32 := 0#32
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_14 : BitVec 32 := 1#32
  let arg11 : BitVec 32 := Scf.iv v38 c1_i32_14 k0_t2
  let c2048_i32_30 : BitVec 32 := 2048#32
  let v69 : BitVec 32 := Scalar.muli arg11 c2048_i32_30
  let v70 : BitVec 32 := v69
  let v109 : Index := Scalar.indexCast v70
  let c256_41 : Index := 256#32
  ![v109.toNat, 256]
def k0_off10 (i : grid0.Coords) (k0_t2 : Fin (k0_t2_loop i).trips) : Fin 2 → Nat :=
  let c0_i32_11 : BitVec 32 := 0#32
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let v34 : BitVec 32 := Scalar.subi v33 c0_i32_11
  let c1_i32_12 : BitVec 32 := 1#32
  let v36 : BitVec 32 := Scalar.divsi v34 c1_i32_12
  let v37 : BitVec 32 := Scalar.muli v36 c1_i32_12
  let v38 : BitVec 32 := Scalar.addi c0_i32_11 v37
  let c1_i32_14 : BitVec 32 := 1#32
  let arg11 : BitVec 32 := Scf.iv v38 c1_i32_14 k0_t2
  let c2048_i32_30 : BitVec 32 := 2048#32
  let v69 : BitVec 32 := Scalar.muli arg11 c2048_i32_30
  let v70 : BitVec 32 := v69
  let v128 : Index := Scalar.indexCast v70
  let c384_46 : Index := 384#32
  ![v128.toNat, 384]
def k0_cond2 (i : grid0.Coords) : BitVec 1 :=
  let arg2 : BitVec 32 := BitVec.ofNat 32 (i 2).val
  let c4_i32 : BitVec 32 := 4#32
  let c0_i32_15 : BitVec 32 := 0#32
  let v41 : BitVec 1 := Scalar.cmpi .eq c4_i32 c0_i32_15
  let c1_i32_16 : BitVec 32 := 1#32
  let v42 : BitVec 32 := Scalar.select v41 c1_i32_16 c4_i32
  let v43 : BitVec 32 := Scalar.remsi arg2 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_20 : BitVec 32 := 0#32
  let v51 : BitVec 32 := Scalar.maxsi v50 c0_i32_20
  let c3_i32 : BitVec 32 := 3#32
  let v52 : BitVec 32 := Scalar.minsi v51 c3_i32
  let c0_i32_21 : BitVec 32 := 0#32
  let v53 : BitVec 1 := Scalar.cmpi .ne v52 c0_i32_21
  v53

def k0_cond3 (i : grid0.Coords) : BitVec 1 :=
  let arg2 : BitVec 32 := BitVec.ofNat 32 (i 2).val
  let c4_i32 : BitVec 32 := 4#32
  let c0_i32_15 : BitVec 32 := 0#32
  let v41 : BitVec 1 := Scalar.cmpi .eq c4_i32 c0_i32_15
  let c1_i32_16 : BitVec 32 := 1#32
  let v42 : BitVec 32 := Scalar.select v41 c1_i32_16 c4_i32
  let v43 : BitVec 32 := Scalar.remsi arg2 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_20 : BitVec 32 := 0#32
  let v51 : BitVec 32 := Scalar.maxsi v50 c0_i32_20
  let c3_i32 : BitVec 32 := 3#32
  let v52 : BitVec 32 := Scalar.minsi v51 c3_i32
  let c1_i32_30 : BitVec 32 := 1#32
  let v69 : BitVec 32 := Scalar.subi v52 c1_i32_30
  let c0_i32_31 : BitVec 32 := 0#32
  let v70 : BitVec 1 := Scalar.cmpi .ne v69 c0_i32_31
  v70

def k0_cond4 (i : grid0.Coords) : BitVec 1 :=
  let arg2 : BitVec 32 := BitVec.ofNat 32 (i 2).val
  let c4_i32 : BitVec 32 := 4#32
  let c0_i32_15 : BitVec 32 := 0#32
  let v41 : BitVec 1 := Scalar.cmpi .eq c4_i32 c0_i32_15
  let c1_i32_16 : BitVec 32 := 1#32
  let v42 : BitVec 32 := Scalar.select v41 c1_i32_16 c4_i32
  let v43 : BitVec 32 := Scalar.remsi arg2 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_20 : BitVec 32 := 0#32
  let v51 : BitVec 32 := Scalar.maxsi v50 c0_i32_20
  let c3_i32 : BitVec 32 := 3#32
  let v52 : BitVec 32 := Scalar.minsi v51 c3_i32
  let c1_i32_30 : BitVec 32 := 1#32
  let v69 : BitVec 32 := Scalar.subi v52 c1_i32_30
  let c1_i32_32 : BitVec 32 := 1#32
  let v72 : BitVec 32 := Scalar.subi v69 c1_i32_32
  let c0_i32_33 : BitVec 32 := 0#32
  let v73 : BitVec 1 := Scalar.cmpi .ne v72 c0_i32_33
  v73

def k0_mult3 (i : grid0.Coords) : BitVec 32 :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  v75
def k0_off11 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  let v76 : BitVec 32 := v75
  let v77 : Index := Scalar.indexCast v76
  let c0_35 : Index := 0#32
  ![v77.toNat, 0]
def k0_off12 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  let v76 : BitVec 32 := v75
  let v88 : Index := Scalar.indexCast v76
  let c0_38 : Index := 0#32
  ![v88.toNat, 0]
def k0_off13 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  let v76 : BitVec 32 := v75
  let v96 : Index := Scalar.indexCast v76
  let c128_40 : Index := 128#32
  ![v96.toNat, 128]
def k0_off14 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  let v76 : BitVec 32 := v75
  let v115 : Index := Scalar.indexCast v76
  let c256_45 : Index := 256#32
  ![v115.toNat, 256]
def k0_off15 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  let v76 : BitVec 32 := v75
  let v134 : Index := Scalar.indexCast v76
  let c384_50 : Index := 384#32
  ![v134.toNat, 384]
def k0_mult4 (i : grid0.Coords) : BitVec 32 :=
  let arg2 : BitVec 32 := BitVec.ofNat 32 (i 2).val
  let c512_i32 : BitVec 32 := 512#32
  let v16 : BitVec 32 := Scalar.muli arg2 c512_i32
  v16
def k0_off16 (i : grid0.Coords) : Fin 2 → Nat :=
  let arg2 : BitVec 32 := BitVec.ofNat 32 (i 2).val
  let c512_i32 : BitVec 32 := 512#32
  let v16 : BitVec 32 := Scalar.muli arg2 c512_i32
  let v153 : BitVec 32 := v16
  let v154 : Index := Scalar.indexCast v153
  let c0_55 : Index := 0#32
  ![v154.toNat, 0]
def k0_off17 (i : grid0.Coords) : Fin 2 → Nat :=
  let arg2 : BitVec 32 := BitVec.ofNat 32 (i 2).val
  let c512_i32 : BitVec 32 := 512#32
  let v16 : BitVec 32 := Scalar.muli arg2 c512_i32
  let v153 : BitVec 32 := v16
  let v175 : Index := Scalar.indexCast v153
  let c0_60 : Index := 0#32
  ![v175.toNat, 0]
def k0_off18 (i : grid0.Coords) : Fin 2 → Nat :=
  let arg2 : BitVec 32 := BitVec.ofNat 32 (i 2).val
  let c512_i32 : BitVec 32 := 512#32
  let v16 : BitVec 32 := Scalar.muli arg2 c512_i32
  let v153 : BitVec 32 := v16
  let v183 : Index := Scalar.indexCast v153
  let c128_62 : Index := 128#32
  ![v183.toNat, 128]
def k0_off19 (i : grid0.Coords) : Fin 2 → Nat :=
  let arg2 : BitVec 32 := BitVec.ofNat 32 (i 2).val
  let c512_i32 : BitVec 32 := 512#32
  let v16 : BitVec 32 := Scalar.muli arg2 c512_i32
  let v153 : BitVec 32 := v16
  let v212 : Index := Scalar.indexCast v153
  let c256_69 : Index := 256#32
  ![v212.toNat, 256]
def k0_off20 (i : grid0.Coords) : Fin 2 → Nat :=
  let arg2 : BitVec 32 := BitVec.ofNat 32 (i 2).val
  let c512_i32 : BitVec 32 := 512#32
  let v16 : BitVec 32 := Scalar.muli arg2 c512_i32
  let v153 : BitVec 32 := v16
  let v241 : Index := Scalar.indexCast v153
  let c384_76 : Index := 384#32
  ![v241.toNat, 384]
def k0_mult5 (i : grid0.Coords) : BitVec 32 :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  v75
def k0_off21 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  let v76 : BitVec 32 := v75
  let v77 : Index := Scalar.indexCast v76
  let c0_35 : Index := 0#32
  ![v77.toNat, 0]
def k0_off22 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  let v76 : BitVec 32 := v75
  let v88 : Index := Scalar.indexCast v76
  let c0_38 : Index := 0#32
  ![v88.toNat, 0]
def k0_off23 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  let v76 : BitVec 32 := v75
  let v96 : Index := Scalar.indexCast v76
  let c128_40 : Index := 128#32
  ![v96.toNat, 128]
def k0_off24 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  let v76 : BitVec 32 := v75
  let v115 : Index := Scalar.indexCast v76
  let c256_45 : Index := 256#32
  ![v115.toNat, 256]
def k0_off25 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_34 : BitVec 32 := 2048#32
  let v75 : BitVec 32 := Scalar.muli v33 c2048_i32_34
  let v76 : BitVec 32 := v75
  let v134 : Index := Scalar.indexCast v76
  let c384_50 : Index := 384#32
  ![v134.toNat, 384]
def k0_mult6 (i : grid0.Coords) : BitVec 32 :=
  let arg2 : BitVec 32 := BitVec.ofNat 32 (i 2).val
  let c512_i32 : BitVec 32 := 512#32
  let v16 : BitVec 32 := Scalar.muli arg2 c512_i32
  v16
def k0_off26 (i : grid0.Coords) : Fin 2 → Nat :=
  let arg2 : BitVec 32 := BitVec.ofNat 32 (i 2).val
  let c512_i32 : BitVec 32 := 512#32
  let v16 : BitVec 32 := Scalar.muli arg2 c512_i32
  let v153 : BitVec 32 := v16
  let v154 : Index := Scalar.indexCast v153
  let c0_55 : Index := 0#32
  ![v154.toNat, 0]
def k0_off27 (i : grid0.Coords) : Fin 2 → Nat :=
  let arg2 : BitVec 32 := BitVec.ofNat 32 (i 2).val
  let c512_i32 : BitVec 32 := 512#32
  let v16 : BitVec 32 := Scalar.muli arg2 c512_i32
  let v153 : BitVec 32 := v16
  let v175 : Index := Scalar.indexCast v153
  let c0_60 : Index := 0#32
  ![v175.toNat, 0]
def k0_off28 (i : grid0.Coords) : Fin 2 → Nat :=
  let arg2 : BitVec 32 := BitVec.ofNat 32 (i 2).val
  let c512_i32 : BitVec 32 := 512#32
  let v16 : BitVec 32 := Scalar.muli arg2 c512_i32
  let v153 : BitVec 32 := v16
  let v183 : Index := Scalar.indexCast v153
  let c128_62 : Index := 128#32
  ![v183.toNat, 128]
def k0_off29 (i : grid0.Coords) : Fin 2 → Nat :=
  let arg2 : BitVec 32 := BitVec.ofNat 32 (i 2).val
  let c512_i32 : BitVec 32 := 512#32
  let v16 : BitVec 32 := Scalar.muli arg2 c512_i32
  let v153 : BitVec 32 := v16
  let v212 : Index := Scalar.indexCast v153
  let c256_69 : Index := 256#32
  ![v212.toNat, 256]
def k0_off30 (i : grid0.Coords) : Fin 2 → Nat :=
  let arg2 : BitVec 32 := BitVec.ofNat 32 (i 2).val
  let c512_i32 : BitVec 32 := 512#32
  let v16 : BitVec 32 := Scalar.muli arg2 c512_i32
  let v153 : BitVec 32 := v16
  let v241 : Index := Scalar.indexCast v153
  let c384_76 : Index := 384#32
  ![v241.toNat, 384]
def k0_mult7 (i : grid0.Coords) : BitVec 32 :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_32 : BitVec 32 := 2048#32
  let v72 : BitVec 32 := Scalar.muli v33 c2048_i32_32
  v72
def k0_off31 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_32 : BitVec 32 := 2048#32
  let v72 : BitVec 32 := Scalar.muli v33 c2048_i32_32
  let v73 : BitVec 32 := v72
  let v74 : Index := Scalar.indexCast v73
  let c0_33 : Index := 0#32
  ![v74.toNat, 0]
def k0_off32 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_32 : BitVec 32 := 2048#32
  let v72 : BitVec 32 := Scalar.muli v33 c2048_i32_32
  let v73 : BitVec 32 := v72
  let v85 : Index := Scalar.indexCast v73
  let c0_36 : Index := 0#32
  ![v85.toNat, 0]
def k0_off33 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_32 : BitVec 32 := 2048#32
  let v72 : BitVec 32 := Scalar.muli v33 c2048_i32_32
  let v73 : BitVec 32 := v72
  let v93 : Index := Scalar.indexCast v73
  let c128_38 : Index := 128#32
  ![v93.toNat, 128]
def k0_off34 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_32 : BitVec 32 := 2048#32
  let v72 : BitVec 32 := Scalar.muli v33 c2048_i32_32
  let v73 : BitVec 32 := v72
  let v112 : Index := Scalar.indexCast v73
  let c256_43 : Index := 256#32
  ![v112.toNat, 256]
def k0_off35 (i : grid0.Coords) : Fin 2 → Nat :=
  let arg2 : BitVec 32 := BitVec.ofNat 32 (i 2).val
  let c512_i32 : BitVec 32 := 512#32
  let v16 : BitVec 32 := Scalar.muli arg2 c512_i32
  let c0_i32_6 : BitVec 32 := 0#32
  let v18 : BitVec 1 := Scalar.cmpi .sgt v16 c0_i32_6
  let v19 : BitVec 32 := Scalar.extui v18
  let c0_i32_7 : BitVec 32 := 0#32
  let v20 : BitVec 1 := Scalar.cmpi .slt v16 c0_i32_7
  let v21 : BitVec 32 := Scalar.extui v20
  let v22 : BitVec 32 := Scalar.subi v19 v21
  let c2048_i32 : BitVec 32 := 2048#32
  let c0_i32_8 : BitVec 32 := 0#32
  let v23 : BitVec 1 := Scalar.cmpi .sgt c2048_i32 c0_i32_8
  let v24 : BitVec 32 := Scalar.extui v23
  let c0_i32_9 : BitVec 32 := 0#32
  let v25 : BitVec 1 := Scalar.cmpi .slt c2048_i32 c0_i32_9
  let v26 : BitVec 32 := Scalar.extui v25
  let v27 : BitVec 32 := Scalar.subi v24 v26
  let v28 : BitVec 1 := Scalar.cmpi .ne v22 v27
  let v29 : BitVec 32 := Scalar.remsi v16 c2048_i32
  let c0_i32_10 : BitVec 32 := 0#32
  let v30 : BitVec 1 := Scalar.cmpi .ne v29 c0_i32_10
  let v31 : BitVec 1 := Scalar.andi v28 v30
  let v17 : BitVec 32 := Scalar.divsi v16 c2048_i32
  let c1_i32 : BitVec 32 := 1#32
  let v32 : BitVec 32 := Scalar.subi v17 c1_i32
  let v33 : BitVec 32 := Scalar.select v31 v32 v17
  let c2048_i32_32 : BitVec 32 := 2048#32
  let v72 : BitVec 32 := Scalar.muli v33 c2048_i32_32
  let v73 : BitVec 32 := v72
  let v131 : Index := Scalar.indexCast v73
  let c384_48 : Index := 384#32
  ![v131.toNat, 384]
def k0_mult8 (i : grid0.Coords) : BitVec 32 :=
  let arg2 : BitVec 32 := BitVec.ofNat 32 (i 2).val
  let c512_i32 : BitVec 32 := 512#32
  let v16 : BitVec 32 := Scalar.muli arg2 c512_i32
  v16
def k0_off36 (i : grid0.Coords) : Fin 2 → Nat :=
  let arg2 : BitVec 32 := BitVec.ofNat 32 (i 2).val
  let c512_i32 : BitVec 32 := 512#32
  let v16 : BitVec 32 := Scalar.muli arg2 c512_i32
  let v150 : BitVec 32 := v16
  let v151 : Index := Scalar.indexCast v150
  let c0_53 : Index := 0#32
  ![v151.toNat, 0]
def k0_off37 (i : grid0.Coords) : Fin 2 → Nat :=
  let arg2 : BitVec 32 := BitVec.ofNat 32 (i 2).val
  let c512_i32 : BitVec 32 := 512#32
  let v16 : BitVec 32 := Scalar.muli arg2 c512_i32
  let v150 : BitVec 32 := v16
  let v172 : Index := Scalar.indexCast v150
  let c0_58 : Index := 0#32
  ![v172.toNat, 0]
def k0_off38 (i : grid0.Coords) : Fin 2 → Nat :=
  let arg2 : BitVec 32 := BitVec.ofNat 32 (i 2).val
  let c512_i32 : BitVec 32 := 512#32
  let v16 : BitVec 32 := Scalar.muli arg2 c512_i32
  let v150 : BitVec 32 := v16
  let v180 : Index := Scalar.indexCast v150
  let c128_60 : Index := 128#32
  ![v180.toNat, 128]
def k0_off39 (i : grid0.Coords) : Fin 2 → Nat :=
  let arg2 : BitVec 32 := BitVec.ofNat 32 (i 2).val
  let c512_i32 : BitVec 32 := 512#32
  let v16 : BitVec 32 := Scalar.muli arg2 c512_i32
  let v150 : BitVec 32 := v16
  let v209 : Index := Scalar.indexCast v150
  let c256_67 : Index := 256#32
  ![v209.toNat, 256]
def k0_off40 (i : grid0.Coords) : Fin 2 → Nat :=
  let arg2 : BitVec 32 := BitVec.ofNat 32 (i 2).val
  let c512_i32 : BitVec 32 := 512#32
  let v16 : BitVec 32 := Scalar.muli arg2 c512_i32
  let v150 : BitVec 32 := v16
  let v238 : Index := Scalar.indexCast v150
  let c384_74 : Index := 384#32
  ![v238.toNat, 384]
def k0_mult9 (i : grid0.Coords) : BitVec 32 :=
  let arg2 : BitVec 32 := BitVec.ofNat 32 (i 2).val
  let c512_i32 : BitVec 32 := 512#32
  let v16 : BitVec 32 := Scalar.muli arg2 c512_i32
  v16
def k0_off41 (i : grid0.Coords) : Fin 2 → Nat :=
  let arg2 : BitVec 32 := BitVec.ofNat 32 (i 2).val
  let c512_i32 : BitVec 32 := 512#32
  let v16 : BitVec 32 := Scalar.muli arg2 c512_i32
  let v69 : BitVec 32 := v16
  let v70 : Index := Scalar.indexCast v69
  let c0_30 : Index := 0#32
  ![v70.toNat, 0]
def k0_off42 (i : grid0.Coords) : Fin 2 → Nat :=
  let arg2 : BitVec 32 := BitVec.ofNat 32 (i 2).val
  let c512_i32 : BitVec 32 := 512#32
  let v16 : BitVec 32 := Scalar.muli arg2 c512_i32
  let v69 : BitVec 32 := v16
  let v91 : Index := Scalar.indexCast v69
  let c0_35 : Index := 0#32
  ![v91.toNat, 0]
def k0_off43 (i : grid0.Coords) : Fin 2 → Nat :=
  let arg2 : BitVec 32 := BitVec.ofNat 32 (i 2).val
  let c512_i32 : BitVec 32 := 512#32
  let v16 : BitVec 32 := Scalar.muli arg2 c512_i32
  let v69 : BitVec 32 := v16
  let v99 : Index := Scalar.indexCast v69
  let c128_37 : Index := 128#32
  ![v99.toNat, 128]
def k0_off44 (i : grid0.Coords) : Fin 2 → Nat :=
  let arg2 : BitVec 32 := BitVec.ofNat 32 (i 2).val
  let c512_i32 : BitVec 32 := 512#32
  let v16 : BitVec 32 := Scalar.muli arg2 c512_i32
  let v69 : BitVec 32 := v16
  let v128 : Index := Scalar.indexCast v69
  let c256_44 : Index := 256#32
  ![v128.toNat, 256]
def k0_off45 (i : grid0.Coords) : Fin 2 → Nat :=
  let arg2 : BitVec 32 := BitVec.ofNat 32 (i 2).val
  let c512_i32 : BitVec 32 := 512#32
  let v16 : BitVec 32 := Scalar.muli arg2 c512_i32
  let v69 : BitVec 32 := v16
  let v157 : Index := Scalar.indexCast v69
  let c384_51 : Index := 384#32
  ![v157.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S8x8x8192x8192 : Shape := ⟨4, ![8, 8, 8192, 8192]⟩
abbrev S8x8192x8192x8 : Shape := ⟨4, ![8, 8192, 8192, 8]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S65536x512 : Shape := ⟨2, ![65536, 512]⟩

abbrev nBuf : Space → Nat
  | .hbm => 42
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x32, .f32⟩
  | .hbm, ⟨2, _⟩ => ⟨S8x8192x8x64, .f32⟩
  | .hbm, ⟨3, _⟩ => ⟨S8x8192x32, .f32⟩
  | .hbm, ⟨4, _⟩ => ⟨S8x8192x8x64, .f32⟩
  | .hbm, ⟨5, _⟩ => ⟨S8x8x8192x8192, .f32⟩
  | .hbm, ⟨6, _⟩ => ⟨S8x8192x8192x8, .f32⟩
  | .hbm, ⟨7, _⟩ => ⟨S8x8x8192x8192, .f32⟩
  | .hbm, ⟨8, _⟩ => ⟨S8x8x8192x8192, .f32⟩
  | .hbm, ⟨9, _⟩ => ⟨S_, .f32⟩
  | .hbm, ⟨10, _⟩ => ⟨S8x8x8192x8192, .f32⟩
  | .hbm, ⟨11, _⟩ => ⟨S8x8x8192x8192, .f32⟩
  | .hbm, ⟨12, _⟩ => ⟨S8192, .i32⟩
  | .hbm, ⟨13, _⟩ => ⟨S8192x1, .i32⟩
  | .hbm, ⟨14, _⟩ => ⟨S8192, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S8x8x8192x8192, .i1⟩
  | .hbm, ⟨22, _⟩ => ⟨S8x8x8192x8192, .f32⟩
  | .hbm, ⟨23, _⟩ => ⟨S8x8x8192x8192, .f32⟩
  | .hbm, ⟨24, _⟩ => ⟨S_, .f32⟩
  | .hbm, ⟨25, _⟩ => ⟨S8x8x8192, .f32⟩
  | .hbm, ⟨26, _⟩ => ⟨S_, .f32⟩
  | .hbm, ⟨27, _⟩ => ⟨S8x8x8192, .f32⟩
  | .hbm, ⟨28, _⟩ => ⟨S8x8x8192, .f32⟩
  | .hbm, ⟨29, _⟩ => ⟨S8x8x8192x1, .f32⟩
  | .hbm, ⟨30, _⟩ => ⟨S8x8x8192x8192, .f32⟩
  | .hbm, ⟨31, _⟩ => ⟨S8x8x8192x8192, .f32⟩
  | .hbm, ⟨32, _⟩ => ⟨S8x8x8192x8192, .f32⟩
  | .hbm, ⟨33, _⟩ => ⟨S_, .f32⟩
  | .hbm, ⟨34, _⟩ => ⟨S8x8x8192, .f32⟩
  | .hbm, ⟨35, _⟩ => ⟨S8x8x8192x1, .f32⟩
  | .hbm, ⟨36, _⟩ => ⟨S8x8x8192x8192, .f32⟩
  | .hbm, ⟨37, _⟩ => ⟨S8x8x8192x8192, .f32⟩
  | .hbm, ⟨38, _⟩ => ⟨S8x8x64x8192, .f32⟩
  | .hbm, ⟨39, _⟩ => ⟨S8x8192x8x64, .f32⟩
  | .hbm, ⟨40, _⟩ => ⟨S65536x512, .f32⟩
  | .hbm, ⟨41, _⟩ => ⟨S65536x512, .bf16⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩
abbrev S65536x1024 : Shape := ⟨2, ![65536, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S8x8192x2816, .f32⟩
  | .hbm, ⟨23, _⟩ => ⟨S8x8192x2816, .f32⟩
  | .hbm, ⟨24, _⟩ => ⟨S8x8192x2816, .f32⟩
  | .hbm, ⟨25, _⟩ => ⟨S_, .f32⟩
  | .hbm, ⟨26, _⟩ => ⟨S8x8192x2816, .f32⟩
  | .hbm, ⟨27, _⟩ => ⟨S8x8192x2816, .f32⟩
  | .hbm, ⟨28, _⟩ => ⟨S_, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x2816, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S_, .f32⟩
  | .hbm, ⟨41, _⟩ => ⟨S8x8192x1, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x8192x1, .f32⟩
  | .hbm, ⟨47, _⟩ => ⟨S8x8192x1024, .f32⟩
  | .hbm, ⟨48, _⟩ => ⟨S8x8192x1024, .f32⟩
  | .hbm, ⟨49, _⟩ => ⟨S1x1x1024, .f32⟩
  | .hbm, ⟨50, _⟩ => ⟨S8x8192x1024, .f32⟩
  | .hbm, ⟨51, _⟩ => ⟨S8x8192x1024, .f32⟩
  | .hbm, ⟨52, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩
abbrev S65536x1024 : Shape := ⟨2, ![65536, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x2816, .f32⟩
  | .hbm, ⟨22, _⟩ => ⟨S8x8192x2816, .f32⟩
  | .hbm, ⟨23, _⟩ => ⟨S8x8192x2816, .f32⟩
  | .hbm, ⟨24, _⟩ => ⟨S_, .f32⟩
  | .hbm, ⟨25, _⟩ => ⟨S8x8192x2816, .f32⟩
  | .hbm, ⟨26, _⟩ => ⟨S8x8192x2816, .f32⟩
  | .hbm, ⟨27, _⟩ => ⟨S_, .f32⟩
  | .hbm, ⟨28, _⟩ => ⟨S8x8192x2816, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x1024, .f32⟩
  | .hbm, ⟨34, _⟩ => ⟨S8x8192x1024, .f32⟩
  | .hbm, ⟨35, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel4.lean ====
abbrev S8x8192x1024 : Shape := ⟨3, ![8, 8192, 1024]⟩
abbrev S8x256x1024 : Shape := ⟨3, ![8, 256, 1024]⟩
abbrev S8x8192x16x64 : Shape := ⟨4, ![8, 8192, 16, 64]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S65536x1024 : Shape := ⟨2, ![65536, 1024]⟩
abbrev S1024x1 : Shape := ⟨2, ![1024, 1]⟩
abbrev S1024x128 : Shape := ⟨2, ![1024, 128]⟩
abbrev S256x128 : Shape := ⟨2, ![256, 128]⟩
abbrev S1024x256 : Shape := ⟨2, ![1024, 256]⟩

abbrev nBuf : Space → Nat
  | .hbm => 21
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .f32⟩
  | .hbm, ⟨2, _⟩ => ⟨S8x8192x16x64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x512, .f32⟩
  | .hbm, ⟨7, _⟩ => ⟨S1024x1024, .f32⟩
  | .hbm, ⟨8, _⟩ => ⟨S512x1024, .f32⟩
  | .hbm, ⟨9, _⟩ => ⟨S2048x1024, .f32⟩
  | .hbm, ⟨10, _⟩ => ⟨S1x1024, .f32⟩
  | .hbm, ⟨11, _⟩ => ⟨S1024x1024, .bf16⟩
  | .hbm, ⟨12, _⟩ => ⟨S2048x1024, .bf16⟩
  | .hbm, ⟨13, _⟩ => ⟨S65536x1024, .f32⟩
  | .hbm, ⟨14, _⟩ => ⟨S65536x1024, .f32⟩
  | .hbm, ⟨15, _⟩ => ⟨S65536x1024, .bf16⟩
  | .hbm, ⟨16, _⟩ => ⟨S1024x1024, .bf16⟩
  | .hbm, ⟨17, _⟩ => ⟨S1x1024, .f32⟩
  | .hbm, ⟨18, _⟩ => ⟨S1024x512, .bf16⟩
  | .hbm, ⟨19, _⟩ => ⟨S512x1024, .bf16⟩
  | .hbm, ⟨20, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x512, .bf16⟩
  | .local _ .vmem, ⟨13, _⟩ => ⟨S256x1024, .bf16⟩
  | .local _ .vmem, ⟨14, _⟩ => ⟨S256x1024, .bf16⟩
  | .local _ .vmem, ⟨15, _⟩ => ⟨S512x1024, .bf16⟩
  | .local _ .vmem, ⟨16, _⟩ => ⟨S1024x1024, .f32⟩
  | .local _ .vmem, ⟨17, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S512x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel4Ideal.lean ====
variable {F : FTy → Type} [FloatOps F] [Named F]
def κ : String → Option EReal := fun
  | "x_q_log2_scale" => some (((11863283 / 134217728) * (Real.log 2)⁻¹ : ℝ) : EReal)
  | _ => none
-- ==== Reference4Ideal.lean ====
abbrev S8x8192x1024 : Shape := ⟨3, ![8, 8192, 1024]⟩
abbrev S8x256x1024 : Shape := ⟨3, ![8, 256, 1024]⟩
abbrev S8x8192x16x64 : Shape := ⟨4, ![8, 8192, 16, 64]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x256 : Shape := ⟨2, ![8, 256]⟩
abbrev S8x256x1 : Shape := ⟨3, ![8, 256, 1]⟩
abbrev S8x8192x512 : Shape := ⟨3, ![8, 8192, 512]⟩
abbrev S8x8192x4x128 : Shape := ⟨4, ![8, 8192, 4, 128]⟩
abbrev S8x256x8x128 : Shape := ⟨4, ![8, 256, 8, 128]⟩
abbrev S8x256x4x128 : Shape := ⟨4, ![8, 256, 4, 128]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩
abbrev S65536x1024 : Shape := ⟨2, ![65536, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .f32⟩
  | .hbm, ⟨2, _⟩ => ⟨S8x8192x16x64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x512, .f32⟩
  | .hbm, ⟨7, _⟩ => ⟨S1024x1024, .f32⟩
  | .hbm, ⟨8, _⟩ => ⟨S512x1024, .f32⟩
  | .hbm, ⟨9, _⟩ => ⟨S8x8192x1024, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S8x8192x1, .f32⟩
  | .hbm, ⟨23, _⟩ => ⟨S8x8192x1024, .f32⟩
  | .hbm, ⟨24, _⟩ => ⟨S8x8192x1024, .f32⟩
  | .hbm, ⟨25, _⟩ => ⟨S1x1x1024, .f32⟩
  | .hbm, ⟨26, _⟩ => ⟨S8x8192x1024, .f32⟩
  | .hbm, ⟨27, _⟩ => ⟨S8x8192x1024, .f32⟩
  | .hbm, ⟨28, _⟩ => ⟨S8x256x1024, .f32⟩
  | .hbm, ⟨29, _⟩ => ⟨S_, .f32⟩
  | .hbm, ⟨30, _⟩ => ⟨S8x256, .f32⟩
  | .hbm, ⟨31, _⟩ => ⟨S8x256x1, .f32⟩
  | .hbm, ⟨32, _⟩ => ⟨S_, .f32⟩
  | .hbm, ⟨33, _⟩ => ⟨S8x256x1, .f32⟩
  | .hbm, ⟨34, _⟩ => ⟨S8x256x1, .f32⟩
  | .hbm, ⟨35, _⟩ => ⟨S_, .f32⟩
  | .hbm, ⟨36, _⟩ => ⟨S8x256x1, .f32⟩
  | .hbm, ⟨37, _⟩ => ⟨S8x256x1, .f32⟩
  | .hbm, ⟨38, _⟩ => ⟨S8x256x1, .f32⟩
  | .hbm, ⟨39, _⟩ => ⟨S8x256x1024, .f32⟩
  | .hbm, ⟨40, _⟩ => ⟨S8x256x1024, .f32⟩
  | .hbm, ⟨41, _⟩ => ⟨S1x1x1024, .f32⟩
  | .hbm, ⟨42, _⟩ => ⟨S8x256x1024, .f32⟩
  | .hbm, ⟨43, _⟩ => ⟨S8x256x1024, .f32⟩
  | .hbm, ⟨44, _⟩ => ⟨S8x8192x512, .f32⟩
  | .hbm, ⟨45, _⟩ => ⟨S8x8192x4x128, .f32⟩
  | .hbm, ⟨46, _⟩ => ⟨S8x256x1024, .f32⟩
  | .hbm, ⟨47, _⟩ => ⟨S8x256x8x128, .f32⟩
  | .hbm, ⟨48, _⟩ => ⟨S8x256x4x128, .f32⟩
  | .hbm, ⟨49, _⟩ => ⟨S8x256x4x128, .f32⟩
  | .hbm, ⟨50, _⟩ => ⟨S8x4x8192x256, .f32⟩
  | .hbm, ⟨51, _⟩ => ⟨S_, .f32⟩
  | .hbm, ⟨52, _⟩ => ⟨S8x4x8192x256, .f32⟩
  | .hbm, ⟨53, _⟩ => ⟨S8x4x8192x256, .f32⟩
  | .hbm, ⟨54, _⟩ => ⟨S_, .f32⟩
  | .hbm, ⟨55, _⟩ => ⟨S8x4x8192, .f32⟩
  | .hbm, ⟨56, _⟩ => ⟨S_, .f32⟩
  | .hbm, ⟨57, _⟩ => ⟨S8x4x8192, .f32⟩
  | .hbm, ⟨58, _⟩ => ⟨S8x4x8192, .f32⟩
  | .hbm, ⟨59, _⟩ => ⟨S8x4x8192x1, .f32⟩
  | .hbm, ⟨60, _⟩ => ⟨S8x4x8192x256, .f32⟩
  | .hbm, ⟨61, _⟩ => ⟨S8x4x8192x256, .f32⟩
  | .hbm, ⟨62, _⟩ => ⟨S8x4x8192x256, .f32⟩
  | .hbm, ⟨63, _⟩ => ⟨S_, .f32⟩
  | .hbm, ⟨64, _⟩ => ⟨S8x4x8192, .f32⟩
  | .hbm, ⟨65, _⟩ => ⟨S8x4x8192x1, .f32⟩
  | .hbm, ⟨66, _⟩ => ⟨S8x4x8192x256, .f32⟩
  | .hbm, ⟨67, _⟩ => ⟨S8x4x8192x256, .f32⟩
  | .hbm, ⟨68, _⟩ => ⟨S8x4x128x8192, .f32⟩
  | .hbm, ⟨69, _⟩ => ⟨S8x8192x4x128, .f32⟩
  | .hbm, ⟨70, _⟩ => ⟨S8x8192x512, .f32⟩
  | .hbm, ⟨71, _⟩ => ⟨S8x8192x1024, .f32⟩
  | .hbm, ⟨72, _⟩ => ⟨S8x8192x1024, .f32⟩
  | .hbm, ⟨73, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel5.lean ====
abbrev S8x8192x1024 : Shape := ⟨3, ![8, 8192, 1024]⟩
abbrev S8x256x1024 : Shape := ⟨3, ![8, 256, 1024]⟩
abbrev S8x8192x8x64 : Shape := ⟨4, ![8, 8192, 8, 64]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S65536x512 : Shape := ⟨2, ![65536, 512]⟩
abbrev S65536x1024 : Shape := ⟨2, ![65536, 1024]⟩
abbrev S1024x1 : Shape := ⟨2, ![1024, 1]⟩
abbrev S1024x128 : Shape := ⟨2, ![1024, 128]⟩
abbrev S256x128 : Shape := ⟨2, ![256, 128]⟩
abbrev S1024x256 : Shape := ⟨2, ![1024, 256]⟩

abbrev nBuf : Space → Nat
  | .hbm => 27
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .f32⟩
  | .hbm, ⟨2, _⟩ => ⟨S8x8192x8x64, .f32⟩
  | .hbm, ⟨3, _⟩ => ⟨S8x8192x8x64, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x512, .f32⟩
  | .hbm, ⟨8, _⟩ => ⟨S1024x1024, .f32⟩
  | .hbm, ⟨9, _⟩ => ⟨S512x1024, .f32⟩
  | .hbm, ⟨10, _⟩ => ⟨S2048x1024, .f32⟩
  | .hbm, ⟨11, _⟩ => ⟨S1x1024, .f32⟩
  | .hbm, ⟨12, _⟩ => ⟨S1024x1024, .bf16⟩
  | .hbm, ⟨13, _⟩ => ⟨S2048x1024, .bf16⟩
  | .hbm, ⟨14, _⟩ => ⟨S65536x512, .f32⟩
  | .hbm, ⟨15, _⟩ => ⟨S65536x512, .bf16⟩
  | .hbm, ⟨16, _⟩ => ⟨S65536x512, .f32⟩
  | .hbm, ⟨17, _⟩ => ⟨S65536x512, .bf16⟩
  | .hbm, ⟨18, _⟩ => ⟨S65536x1024, .f32⟩
  | .hbm, ⟨19, _⟩ => ⟨S512x1024, .f32⟩
  | .hbm, ⟨20, _⟩ => ⟨S512x1024, .f32⟩
  | .hbm, ⟨21, _⟩ => ⟨S512x1024, .bf16⟩
  | .hbm, ⟨22, _⟩ => ⟨S512x1024, .bf16⟩
  | .hbm, ⟨23, _⟩ => ⟨S1x1024, .f32⟩
  | .hbm, ⟨24, _⟩ => ⟨S1024x512, .bf16⟩
  | .hbm, ⟨25, _⟩ => ⟨S512x1024, .bf16⟩
  | .hbm, ⟨26, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1024x512, .bf16⟩
  | .local _ .vmem, ⟨16, _⟩ => ⟨S256x1024, .bf16⟩
  | .local _ .vmem, ⟨17, _⟩ => ⟨S256x1024, .bf16⟩
  | .local _ .vmem, ⟨18, _⟩ => ⟨S512x1024, .bf16⟩
  | .local _ .vmem, ⟨19, _⟩ => ⟨S1024x1024, .f32⟩
  | .local _ .vmem, ⟨20, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S512x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== Kernel5Ideal.lean ====
variable {F : FTy → Type} [FloatOps F] [Named F]
def κ : String → Option EReal := fun
  | "x_q_log2_scale" => some (((11863283 / 134217728) * (Real.log 2)⁻¹ : ℝ) : EReal)
  | _ => none
-- ==== Reference5Ideal.lean ====
abbrev S8x8192x1024 : Shape := ⟨3, ![8, 8192, 1024]⟩
abbrev S8x256x1024 : Shape := ⟨3, ![8, 256, 1024]⟩
abbrev S8x8192x8x64 : Shape := ⟨4, ![8, 8192, 8, 64]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S8x8192x512 : Shape := ⟨3, ![8, 8192, 512]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x256 : Shape := ⟨2, ![8, 256]⟩
abbrev S8x256x1 : Shape := ⟨3, ![8, 256, 1]⟩
abbrev S8x8192x4x128 : Shape := ⟨4, ![8, 8192, 4, 128]⟩
abbrev S8x256x8x128 : Shape := ⟨4, ![8, 256, 8, 128]⟩
abbrev S8x256x4x128 : Shape := ⟨4, ![8, 256, 4, 128]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩
abbrev S65536x1024 : Shape := ⟨2, ![65536, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .f32⟩
  | .hbm, ⟨2, _⟩ => ⟨S8x8192x8x64, .f32⟩
  | .hbm, ⟨3, _⟩ => ⟨S8x8192x8x64, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x512, .f32⟩
  | .hbm, ⟨8, _⟩ => ⟨S1024x1024, .f32⟩
  | .hbm, ⟨9, _⟩ => ⟨S512x1024, .f32⟩
  | .hbm, ⟨10, _⟩ => ⟨S8x8192x512, .f32⟩
  | .hbm, ⟨11, _⟩ => ⟨S8x8192x512, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | .hbm, ⟨31, _⟩ => ⟨S8x256x1024, .f32⟩
  | .hbm, ⟨32, _⟩ => ⟨S_, .f32⟩
  | .hbm, ⟨33, _⟩ => ⟨S8x256, .f32⟩
  | .hbm, ⟨34, _⟩ => ⟨S8x256x1, .f32⟩
  | .hbm, ⟨35, _⟩ => ⟨S_, .f32⟩
  | .hbm, ⟨36, _⟩ => ⟨S8x256x1, .f32⟩
  | .hbm, ⟨37, _⟩ => ⟨S8x256x1, .f32⟩
  | .hbm, ⟨38, _⟩ => ⟨S_, .f32⟩
  | .hbm, ⟨39, _⟩ => ⟨S8x256x1, .f32⟩
  | .hbm, ⟨40, _⟩ => ⟨S8x256x1, .f32⟩
  | .hbm, ⟨41, _⟩ => ⟨S8x256x1, .f32⟩
  | .hbm, ⟨42, _⟩ => ⟨S8x256x1024, .f32⟩
  | .hbm, ⟨43, _⟩ => ⟨S8x256x1024, .f32⟩
  | .hbm, ⟨44, _⟩ => ⟨S1x1x1024, .f32⟩
  | .hbm, ⟨45, _⟩ => ⟨S8x256x1024, .f32⟩
  | .hbm, ⟨46, _⟩ => ⟨S8x256x1024, .f32⟩
  | .hbm, ⟨47, _⟩ => ⟨S8x8192x512, .f32⟩
  | .hbm, ⟨48, _⟩ => ⟨S8x8192x4x128, .f32⟩
  | .hbm, ⟨49, _⟩ => ⟨S8x256x1024, .f32⟩
  | .hbm, ⟨50, _⟩ => ⟨S8x256x8x128, .f32⟩
  | .hbm, ⟨51, _⟩ => ⟨S8x256x4x128, .f32⟩
  | .hbm, ⟨52, _⟩ => ⟨S8x256x4x128, .f32⟩
  | .hbm, ⟨53, _⟩ => ⟨S8x4x8192x256, .f32⟩
  | .hbm, ⟨54, _⟩ => ⟨S_, .f32⟩
  | .hbm, ⟨55, _⟩ => ⟨S8x4x8192x256, .f32⟩
  | .hbm, ⟨56, _⟩ => ⟨S8x4x8192x256, .f32⟩
  | .hbm, ⟨57, _⟩ => ⟨S_, .f32⟩
  | .hbm, ⟨58, _⟩ => ⟨S8x4x8192, .f32⟩
  | .hbm, ⟨59, _⟩ => ⟨S_, .f32⟩
  | .hbm, ⟨60, _⟩ => ⟨S8x4x8192, .f32⟩
  | .hbm, ⟨61, _⟩ => ⟨S8x4x8192, .f32⟩
  | .hbm, ⟨62, _⟩ => ⟨S8x4x8192x1, .f32⟩
  | .hbm, ⟨63, _⟩ => ⟨S8x4x8192x256, .f32⟩
  | .hbm, ⟨64, _⟩ => ⟨S8x4x8192x256, .f32⟩
  | .hbm, ⟨65, _⟩ => ⟨S8x4x8192x256, .f32⟩
  | .hbm, ⟨66, _⟩ => ⟨S_, .f32⟩
  | .hbm, ⟨67, _⟩ => ⟨S8x4x8192, .f32⟩
  | .hbm, ⟨68, _⟩ => ⟨S8x4x8192x1, .f32⟩
  | .hbm, ⟨69, _⟩ => ⟨S8x4x8192x256, .f32⟩
  | .hbm, ⟨70, _⟩ => ⟨S8x4x8192x256, .f32⟩
  | .hbm, ⟨71, _⟩ => ⟨S8x4x128x8192, .f32⟩
  | .hbm, ⟨72, _⟩ => ⟨S8x8192x4x128, .f32⟩
  | .hbm, ⟨73, _⟩ => ⟨S8x8192x512, .f32⟩
  | .hbm, ⟨74, _⟩ => ⟨S8x8192x1024, .f32⟩
  | .hbm, ⟨75, _⟩ => ⟨S8x8192x1024, .f32⟩
  | .hbm, ⟨76, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel6.lean ====
abbrev S8x8192x1024 : Shape := ⟨3, ![8, 8192, 1024]⟩
abbrev S8x8192 : Shape := ⟨2, ![8, 8192]⟩
abbrev S1024 : Shape := ⟨1, ![1024]⟩
abbrev S1024x3072 : Shape := ⟨2, ![1024, 3072]⟩
abbrev S32 : Shape := ⟨1, ![32]⟩
abbrev S_ : Shape := ⟨0, ![]⟩
abbrev S8x8192x1 : Shape := ⟨3, ![8, 8192, 1]⟩
abbrev S1x1x32 : Shape := ⟨3, ![1, 1, 32]⟩
abbrev S8x8192x32 : Shape := ⟨3, ![8, 8192, 32]⟩
abbrev S65536x32 : Shape := ⟨2, ![65536, 32]⟩
abbrev S65536x128 : Shape := ⟨2, ![65536, 128]⟩
abbrev S65536x1024 : Shape := ⟨2, ![65536, 1024]⟩
abbrev S1x1024 : Shape := ⟨2, ![1, 1024]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 38
  | .vmem => 14
  | .smem => 0
  | _ => 0

abbrev bufTy : (tb : Table) → Fin (tcTables nBuf tb) → BufTy
  | .hbm, ⟨0, _⟩ => ⟨S8x8192x1024, .f32⟩
  | .hbm, ⟨1, _⟩ => ⟨S8x8192, .i32⟩
  | .hbm, ⟨2, _⟩ => ⟨S1024, .f32⟩
  | .hbm, ⟨3, _⟩ => ⟨S1024x3072, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8x8192, .f32⟩
  | .hbm, ⟨19, _⟩ => ⟨S8x8192x1, .f32⟩
  | .hbm, ⟨20, _⟩ => ⟨S1x1x32, .f32⟩
  | .hbm, ⟨21, _⟩ => ⟨S8x8192x32, .f32⟩
  | .hbm, ⟨22, _⟩ => ⟨S8x8192x32, .f32⟩
  | .hbm, ⟨23, _⟩ => ⟨S8x8192x32, .f32⟩
  | .hbm, ⟨24, _⟩ => ⟨S8x8192x32, .f32⟩
  | .hbm, ⟨25, _⟩ => ⟨S8x8192x32, .f32⟩
  | .hbm, ⟨26, _⟩ => ⟨S65536x32, .f32⟩
  | .hbm, ⟨27, _⟩ => ⟨S65536x32, .f32⟩
  | .hbm, ⟨28, _⟩ => ⟨S65536x128, .f32⟩
  | .hbm, ⟨29, _⟩ => ⟨S65536x32, .f32⟩
  | .hbm, ⟨30, _⟩ => ⟨S65536x32, .f32⟩
  | .hbm, ⟨31, _⟩ => ⟨S65536x128, .f32⟩
  | .hbm, ⟨32, _⟩ => ⟨S65536x1024, .f32⟩
  | .hbm, ⟨33, _⟩ => ⟨S1x1024, .f32⟩
  | .hbm, ⟨34, _⟩ => ⟨S1024x3072, .bf16⟩
  | .hbm, ⟨35, _⟩ => ⟨S65536x1024, .f32⟩
  | .hbm, ⟨36, _⟩ => ⟨S65536x1024, .f32⟩
  | .hbm, ⟨37, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel6Ideal.lean ====
variable {F : FTy → Type} [FloatOps F] [Named F]
def κ : String → Option EReal := fun
  | "q_log2_scale" => some (((1 / 8) * (Real.log 2)⁻¹ : ℝ) : EReal)
  | _ => none
-- ==== Reference6Ideal.lean ====
abbrev S8x8192x1024 : Shape := ⟨3, ![8, 8192, 1024]⟩
abbrev S8x8192 : Shape := ⟨2, ![8, 8192]⟩
abbrev S1024 : Shape := ⟨1, ![1024]⟩
abbrev S1024x3072 : Shape := ⟨2, ![1024, 3072]⟩
abbrev S_ : Shape := ⟨0, ![]⟩
abbrev S8x8192x1 : Shape := ⟨3, ![8, 8192, 1]⟩
abbrev S1x1x1024 : Shape := ⟨3, ![1, 1, 1024]⟩
abbrev S8x8192x3072 : Shape := ⟨3, ![8, 8192, 3072]⟩
abbrev S8x8192x48x64 : Shape := ⟨4, ![8, 8192, 48, 64]⟩
abbrev S8x8192x16x64 : Shape := ⟨4, ![8, 8192, 16, 64]⟩
abbrev S32 : Shape := ⟨1, ![32]⟩
abbrev S1x1x32 : Shape := ⟨3, ![1, 1, 32]⟩
abbrev S8x8192x32 : Shape := ⟨3, ![8, 8192, 32]⟩
abbrev S8x8192x1x32 : Shape := ⟨4, ![8, 8192, 1, 32]⟩
abbrev S8x8192x16x32 : Shape := ⟨4, ![8, 8192, 16, 32]⟩
abbrev S65536x1024 : Shape := ⟨2, ![65536, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192, .i32⟩
  | .hbm, ⟨2, _⟩ => ⟨S1024, .f32⟩
  | .hbm, ⟨3, _⟩ => ⟨S1024x3072, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x3072, .f32⟩
  | .hbm, ⟨21, _⟩ => ⟨S8x8192x48x64, .f32⟩
  | .hbm, ⟨22, _⟩ => ⟨S8x8192x16x64, .f32⟩
  | .hbm, ⟨23, _⟩ => ⟨S8x8192x16x64, .f32⟩
  | .hbm, ⟨24, _⟩ => ⟨S8x8192x16x64, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S8x8192, .f32⟩
  | .hbm, ⟨40, _⟩ => ⟨S8x8192x1, .f32⟩
  | .hbm, ⟨41, _⟩ => ⟨S1x1x32, .f32⟩
  | .hbm, ⟨42, _⟩ => ⟨S8x8192x32, .f32⟩
  | .hbm, ⟨43, _⟩ => ⟨S8x8192x32, .f32⟩
  | .hbm, ⟨44, _⟩ => ⟨S8x8192x32, .f32⟩
  | .hbm, ⟨45, _⟩ => ⟨S8x8192x32, .f32⟩
  | .hbm, ⟨46, _⟩ => ⟨S8x8192x1x32, .f32⟩
  | .hbm, ⟨47, _⟩ => ⟨S8x8192x32, .f32⟩
  | .hbm, ⟨48, _⟩ => ⟨S8x8192x1x32, .f32⟩
  | .hbm, ⟨49, _⟩ => ⟨S8x8192x16x32, .f32⟩
  | .hbm, ⟨50, _⟩ => ⟨S8x8192x16x32, .f32⟩
  | .hbm, ⟨51, _⟩ => ⟨S8x8192x16x32, .f32⟩
  | .hbm, ⟨52, _⟩ => ⟨S8x8192x16x32, .f32⟩
  | .hbm, ⟨53, _⟩ => ⟨S8x8192x16x32, .f32⟩
  | .hbm, ⟨54, _⟩ => ⟨S8x8192x16x32, .f32⟩
  | .hbm, ⟨55, _⟩ => ⟨S8x8192x16x32, .f32⟩
  | .hbm, ⟨56, _⟩ => ⟨S8x8192x16x32, .f32⟩
  | .hbm, ⟨57, _⟩ => ⟨S8x8192x16x32, .f32⟩
  | .hbm, ⟨58, _⟩ => ⟨S8x8192x16x32, .f32⟩
  | .hbm, ⟨59, _⟩ => ⟨S8x8192x16x32, .f32⟩
  | .hbm, ⟨60, _⟩ => ⟨S8x8192x16x32, .f32⟩
  | .hbm, ⟨61, _⟩ => ⟨S8x8192x16x64, .f32⟩
  | .hbm, ⟨62, _⟩ => ⟨S_, .f32⟩
  | .hbm, ⟨63, _⟩ => ⟨S8x8192x16x64, .f32⟩
  | .hbm, ⟨64, _⟩ => ⟨S8x8192x16x64, .f32⟩
  | .hbm, ⟨65, _⟩ => ⟨S_, .f32⟩
  | .hbm, ⟨66, _⟩ => ⟨S_, .f32⟩
  | .hbm, ⟨67, _⟩ => ⟨S8x8192x16x64, .f32⟩
  | .hbm, ⟨68, _⟩ => ⟨S8x8192x16x64, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S8x8192, .f32⟩
  | .hbm, ⟨84, _⟩ => ⟨S8x8192x1, .f32⟩
  | .hbm, ⟨85, _⟩ => ⟨S1x1x32, .f32⟩
  | .hbm, ⟨86, _⟩ => ⟨S8x8192x32, .f32⟩
  | .hbm, ⟨87, _⟩ => ⟨S8x8192x32, .f32⟩
  | .hbm, ⟨88, _⟩ => ⟨S8x8192x32, .f32⟩
  | .hbm, ⟨89, _⟩ => ⟨S8x8192x32, .f32⟩
  | .hbm, ⟨90, _⟩ => ⟨S8x8192x1x32, .f32⟩
  | .hbm, ⟨91, _⟩ => ⟨S8x8192x32, .f32⟩
  | .hbm, ⟨92, _⟩ => ⟨S8x8192x1x32, .f32⟩
  | .hbm, ⟨93, _⟩ => ⟨S8x8192x16x32, .f32⟩
  | .hbm, ⟨94, _⟩ => ⟨S8x8192x16x32, .f32⟩
  | .hbm, ⟨95, _⟩ => ⟨S8x8192x16x32, .f32⟩
  | .hbm, ⟨96, _⟩ => ⟨S8x8192x16x32, .f32⟩
  | .hbm, ⟨97, _⟩ => ⟨S8x8192x16x32, .f32⟩
  | .hbm, ⟨98, _⟩ => ⟨S8x8192x16x32, .f32⟩
  | .hbm, ⟨99, _⟩ => ⟨S8x8192x16x32, .f32⟩
  | .hbm, ⟨100, _⟩ => ⟨S8x8192x16x32, .f32⟩
  | .hbm, ⟨101, _⟩ => ⟨S8x8192x16x32, .f32⟩
  | .hbm, ⟨102, _⟩ => ⟨S8x8192x16x32, .f32⟩
  | .hbm, ⟨103, _⟩ => ⟨S8x8192x16x32, .f32⟩
  | .hbm, ⟨104, _⟩ => ⟨S8x8192x16x32, .f32⟩
  | .hbm, ⟨105, _⟩ => ⟨S8x8192x16x64, .f32⟩
  | .hbm, ⟨106, _⟩ => ⟨S65536x1024, .f32⟩
  | .hbm, ⟨107, _⟩ => ⟨S65536x1024, .f32⟩
  | .hbm, ⟨108, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_10 : Ref sig .tc := ⟨.hbm, 77, rfl⟩
abbrev main_v62 : Ref sig .tc := ⟨.hbm, 78, rfl⟩
abbrev main_v63 : Ref sig .tc := ⟨.hbm, 79, rfl⟩
abbrev main_cst_11 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩

abbrev nD : Nat := 1
abbrev τ : Topo := Topo.v7x

variable {F : FTy → Type} [FloatOps F]
-- ==== Proof.Ffn.Math.lean ====
/-
  The feed-forward block of one token, over the extended reals: what both the kernel and the reference compute of a row.

  `normRow x g` is RMS normalisation of the row `x` with gain `g`; `act` is one hidden unit of the gated network (the
  SiLU of the gate times the linear unit); `ffnRow` is the row plus the network's output.  `sum_tiles` cuts the sum over
  the 2816 hidden units into the eleven tiles of 256 units which the kernel adds one after another.
-/
module

public import Idealize.ShloMosaic.Lib.Pointwise
public import Idealize.ShloMosaic.Lib.Pipeline.ValueKit

@[expose] public section

noncomputable section

open Idealize.ShloMosaic

namespace Cert.Ffn

/-- RMS normalisation of a row of 1024 numbers: each times the reciprocal root of the mean square plus `ε`, times its gain. -/
def normRow (x g : Fin 1024 → EReal) (k : Fin 1024) : EReal :=
  x k * Ideal.rsqrt (Ideal.div (∑ i : Fin 1024, x i * x i) (Ideal.ofBits .f32 0x44800000#32) + Ideal.ofBits .f32 0x358637BD#32) * g k

/-- Hidden unit `j` of the gated network, from the normalised row `h`. -/
def act (h : Fin 1024 → EReal) (wg wu : Fin 1024 → Fin 2816 → EReal) (j : Fin 2816) : EReal :=
  (∑ k : Fin 1024, h k * wg k j) * Ideal.logistic (∑ k : Fin 1024, h k * wg k j) * ∑ k : Fin 1024, h k * wu k j

/-- The row plus the gated network of its normalisation. -/
def ffnRow (x g : Fin 1024 → EReal) (wg wu : Fin 1024 → Fin 2816 → EReal) (wd : Fin 2816 → Fin 1024 → EReal) (l : Fin 1024) : EReal :=
  x l + ∑ j : Fin 2816, act (normRow x g) wg wu j * wd j l

/-- The whole block on the array `x` of 8 × 8192 tokens: row `i` of the result is the block at token `i`. -/
def ffnAll (x : FVec Ideal ⟨3, ![8, 8192, 1024]⟩ .f32) (g : FVec Ideal ⟨1, ![1024]⟩ .f32) (wg wu : FVec Ideal ⟨2, ![1024, 2816]⟩ .f32)
    (wd : FVec Ideal ⟨2, ![2816, 1024]⟩ .f32) (i : Fin 65536) : Fin 1024 → EReal :=
  ffnRow (fun k => x (ix3 ⟨i.val / 8192, by omega⟩ ⟨i.val % 8192, Nat.mod_lt _ (by decide)⟩ k)) (fun k => g (ix1 k))
    (fun k j => wg (ix2 k j)) (fun k j => wu (ix2 k j)) (fun j k => wd (ix2 j k))

/-- Place `j` of tile `p` among the 2816 hidden units. -/
abbrev unit (p : Fin 11) (j : Fin 256) : Fin 2816 := ⟨p.val * 256 + j.val, by omega⟩

/-- The sum over the hidden units, tile by tile. -/
theorem sum_tiles (f : Fin 2816 → EReal) : ∑ j : Fin 2816, f j = ∑ p : Fin 11, ∑ j : Fin 256, f (unit p j) := by
  rw [← Finset.sum_product', Finset.univ_product_univ]
  refine (Fintype.sum_equiv (finProdFinEquiv (m := 11) (n := 256)) (fun q => f (unit q.1 q.2)) f fun q => ?_).symm
  congr 1
  apply Fin.ext
  simp only [unit, finProdFinEquiv_apply_val]
  omega

/-- A number plus eleven others added one after another is the number plus their sum. -/
theorem add_eleven (a : EReal) (F : Fin 11 → EReal) :
    a + F 0 + F 1 + F 2 + F 3 + F 4 + F 5 + F 6 + F 7 + F 8 + F 9 + F 10 = a + ∑ p, F p := by
  simp only [Fin.sum_univ_succ, Fin.sum_univ_zero, add_zero, add_assoc]
  rfl

/-- A number plus the eleven tiles added one after another is the number plus the whole sum. -/
theorem add_tiles (a : EReal) (f : Fin 2816 → EReal) :
    a + (∑ j : Fin 256, f ⟨j.val, by omega⟩) + (∑ j : Fin 256, f ⟨256 + j.val, by omega⟩) + (∑ j : Fin 256, f ⟨512 + j.val, by omega⟩) + (∑ j : Fin 256, f ⟨768 + j.val, by omega⟩) + (∑ j : Fin 256, f ⟨1024 + j.val, by omega⟩) + (∑ j : Fin 256, f ⟨1280 + j.val, by omega⟩) + (∑ j : Fin 256, f ⟨1536 + j.val, by omega⟩) + (∑ j : Fin 256, f ⟨1792 + j.val, by omega⟩) + (∑ j : Fin 256, f ⟨2048 + j.val, by omega⟩) + (∑ j : Fin 256, f ⟨2304 + j.val, by omega⟩) + (∑ j : Fin 256, f ⟨2560 + j.val, by omega⟩) = a + ∑ j, f j := by
  have h0 : ∑ j : Fin 256, f ⟨j.val, by omega⟩ = ∑ j : Fin 256, f (unit 0 j) :=
    Finset.sum_congr rfl fun j _ => congrArg f (Fin.ext (by simp only [unit, Fin.val_zero]; omega))
  rw [h0]
  exact (add_eleven a fun p => ∑ j, f (unit p j)).trans (congrArg (a + ·) (sum_tiles f).symm)

end Cert.Ffn

end
-- ==== Proof.Ffn.Block2.lean ====
module

public import proofs.«01_k».proof.Proof.Ffn.Math
public import proofs.«01_k».proof.Proof.Gen.Kernel2Ideal.Value

@[expose] public section

set_option maxRecDepth 16384

noncomputable section

open Idealize.ShloMosaic

namespace Cert.Ffn2

open Cert.Kernel2Ideal Cert.Kernel2Ideal.Gen

theorem norm_apply (x0 : Vec Ideal S1024x1024 .f32) (x1 : Vec Ideal S1x1024 .f32) (r k : Fin 1024) :
    k0_pay2 x0 x1 (ix2 r k) = Ffn.normRow (fun i => x0 (ix2 r i)) (fun i => x1 (ix2 0 i)) k := by
  pointwise [k0_pay2, k0_pay1, Ffn.normRow]

theorem out_apply (x0 : Vec Ideal S1024x1024 .f32) (x1 : Vec Ideal S1x1024 .f32) (x2 x3 : Vec Ideal S1024x2816 .bf16)
    (x4 : Vec Ideal S2816x1024 .bf16) (x5 : Vec Ideal S1x1024 .f32) (r l : Fin 1024) :
    out0_6 x0 x1 x2 x3 x4 x5 (ix2 r l) = Ffn.normRow (Ffn.ffnRow (fun i => x0 (ix2 r i)) (fun i => x1 (ix2 0 i))
      (fun k j => x2 (ix2 k j)) (fun k j => x3 (ix2 k j)) (fun j i => x4 (ix2 j i))) (fun i => x5 (ix2 0 i)) l := by
  unfold_out out0_6
  frame_out
  pointwise [k0_pay11, k0_pay10, k0_pay9, k0_pay8, k0_pay7, k0_pay6, k0_pay5, k0_pay4, k0_pay3, k0_pay1, norm_apply]
  show _ = (Ffn.ffnRow _ _ _ _ _ l) * _ * _
  unfold Ffn.ffnRow
  simp only [← Ffn.add_tiles]
  rfl

end Cert.Ffn2

end
-- ==== Proof.Ffn.Value2.lean ====
module

public import proofs.«01_k».proof.Proof.Ffn.Block2
public import proofs.«01_k».proof.Proof.Gen.Reference2Ideal.Run
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Ffn2

/-- The feed-forward block with the final normalisation, at every token. -/
def spec (x : FVec Ideal ⟨3, ![8, 8192, 1024]⟩ .f32) (g : FVec Ideal ⟨1, ![1024]⟩ .f32) (wg wu : FVec Ideal ⟨2, ![1024, 2816]⟩ .f32)
    (wd : FVec Ideal ⟨2, ![2816, 1024]⟩ .f32) (gf : FVec Ideal ⟨1, ![1024]⟩ .f32) : FVec Ideal ⟨2, ![65536, 1024]⟩ .f32 :=
  fun i => Ffn.normRow (Ffn.ffnAll x g wg wu wd (i 0)) (fun k => gf (ix1 k)) (i 1)

namespace Kernel

open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

abbrev result (c : Dev nD) : FVec Ideal S65536x1024 .f32 :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A block of `x` is 1024 tokens of the array, in order. -/
theorem read0 (c : Dev nD) (t : Fin cfg0.N) (r k : Fin 1024) (h : t.val * 1024 + r.val < 65536) : iblk m c 0 t (ix2 r k)
    = m ((c : Thread nD τ).loc main_arg0) (ix3 ⟨(t.val * 1024 + r.val) / 8192, by omega⟩ ⟨(t.val * 1024 + r.val) % 8192, Nat.mod_lt _ (by decide)⟩ k) := by
  blk_ext! [iblk, V, idx t]

theorem read1 (c : Dev nD) (t : Fin cfg0.N) (k : Fin 1024) : iblk m c 1 t (ix2 0 k) = m ((c : Thread nD τ).loc main_arg1) (ix1 k) := by
  blk_ext! [iblk, V, idx t]

theorem read2 (c : Dev nD) (t : Fin cfg0.N) (k : Fin 1024) (j : Fin 2816) : iblk m c 2 t (ix2 k j) = m ((c : Thread nD τ).loc main_arg2) (ix2 k j) := by
  blk_ext! [iblk, V, idx t]

theorem read3 (c : Dev nD) (t : Fin cfg0.N) (k : Fin 1024) (j : Fin 2816) : iblk m c 3 t (ix2 k j) = m ((c : Thread nD τ).loc main_arg3) (ix2 k j) := by
  blk_ext! [iblk, V, idx t]

theorem read4 (c : Dev nD) (t : Fin cfg0.N) (j : Fin 2816) (k : Fin 1024) : iblk m c 4 t (ix2 j k) = m ((c : Thread nD τ).loc main_arg4) (ix2 j k) := by
  blk_ext! [iblk, V, idx t]

theorem read5 (c : Dev nD) (t : Fin cfg0.N) (k : Fin 1024) : iblk m c 5 t (ix2 0 k) = m ((c : Thread nD τ).loc main_arg5) (ix1 k) := by
  blk_ext! [iblk, V, idx t]

/-- Where row `r` of point `t`'s block sits in the result. -/
theorem place (t : Fin cfg0.N) (r l : Fin 1024) (h : t.val * 1024 + r.val < 65536) :
    ((cfg0.win 6).blk t).view.emb (ix2 r l) = (ix2 ⟨t.val * 1024 + r.val, h⟩ l : S65536x1024.Idx) := by
  blk_ext [idx t]

theorem point (c : Dev nD) (t : Fin cfg0.N) (y : S1024x1024.Idx) :
    out0_6 (iblk m c 0 t) (iblk m c 1 t) (iblk m c 2 t) (iblk m c 3 t) (iblk m c 4 t) (iblk m c 5 t) y
      = result m c (((cfg0.win 6).blk t).view.emb y) := by
  idx_vars y
  have h : t.val * 1024 + y0.val < 65536 := by
    have := t.isLt
    have hN : cfg0.N = 64 := N_0
    omega
  rw [place t y0 y1 h]
  refine (out_apply _ _ _ _ _ _ y0 y1).trans ?_
  show Ffn.normRow (Ffn.ffnRow _ _ _ _ _) _ y1 = Ffn.normRow (Ffn.ffnRow _ _ _ _ _) _ y1
  exact congrFun (congr (congrArg Ffn.normRow (funext fun l => congrFun (congr (congr (congr (congr (congrArg Ffn.ffnRow
    (funext fun k => read0 m c t y0 k h)) (funext fun k => read1 m c t k)) (funext fun k => funext fun j => read2 m c t k j))
    (funext fun k => funext fun j => read3 m c t k j)) (funext fun j => funext fun k => read4 m c t j k)) l))
    (funext fun k => read5 m c t k)) y1

theorem final (c : Dev nD) : (dats m 0 c).arrAt 6 cfg0.N = result m c := by
  refine (dats m 0 c).arrAt_eq_of_covers 6 _ (by decide +kernel) fun t _ y => ?_
  blk_simp
  rw [after0_6]
  exact point m c t y

end Kernel

namespace Reference

open Cert.Reference2Ideal

theorem value (m : (ℓ : Loc nD τ sig) → Buf (Elt Ideal) ℓ) (c : Dev nD) : Value.res_main_v32 m c
    = spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  funext i
  unfold Value.res_main_v32
  clean_types
  idx_vars i
  simp only [spec, Ffn.ffnAll, Ffn.normRow, Ffn.ffnRow, Ffn.act, Ideal.logistic]
  pointwise

end Reference

end Cert.Ffn2

end
-- ==== Proof.Ffn.Block3.lean ====
module

public import proofs.«01_k».proof.Proof.Ffn.Math
public import proofs.«01_k».proof.Proof.Gen.Kernel3Ideal.Value

@[expose] public section

set_option maxRecDepth 16384

noncomputable section

open Idealize.ShloMosaic

namespace Cert.Ffn3

open Cert.Kernel3Ideal Cert.Kernel3Ideal.Gen

theorem norm_apply (x0 : Vec Ideal S1024x1024 .f32) (x1 : Vec Ideal S1x1024 .f32) (r k : Fin 1024) :
    k0_pay3 x0 x1 (ix2 r k) = Ffn.normRow (fun i => x0 (ix2 r i)) (fun i => x1 (ix2 0 i)) k := by
  pointwise [k0_pay3, k0_pay2, Ffn.normRow]

/-- The block's row `r`: the feed-forward block of the token in that row. -/
theorem out_apply (x0 : Vec Ideal S1024x1024 .f32) (x1 : Vec Ideal S1x1024 .f32) (x2 x3 : Vec Ideal S1024x2816 .bf16)
    (x4 : Vec Ideal S2816x1024 .bf16) (r l : Fin 1024) :
    out0_5 x0 x1 x2 x3 x4 (ix2 r l) = Ffn.ffnRow (fun i => x0 (ix2 r i)) (fun i => x1 (ix2 0 i))
      (fun k j => x2 (ix2 k j)) (fun k j => x3 (ix2 k j)) (fun j i => x4 (ix2 j i)) l := by
  unfold_out out0_5
  frame_out
  pointwise [k0_pay11, k0_pay10, k0_pay9, k0_pay8, k0_pay7, k0_pay6, k0_pay5, k0_pay4, k0_pay2, k0_pay1, norm_apply]
  unfold Ffn.ffnRow
  simp only [← Ffn.add_tiles]
  rfl

end Cert.Ffn3

end
-- ==== Proof.Ffn.Value3.lean ====
module

public import proofs.«01_k».proof.Proof.Ffn.Block3
public import proofs.«01_k».proof.Proof.Gen.Reference3Ideal.Run
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Ffn3

/-- The feed-forward block, at every token. -/
def spec (x : FVec Ideal ⟨3, ![8, 8192, 1024]⟩ .f32) (g : FVec Ideal ⟨1, ![1024]⟩ .f32) (wg wu : FVec Ideal ⟨2, ![1024, 2816]⟩ .f32)
    (wd : FVec Ideal ⟨2, ![2816, 1024]⟩ .f32) : FVec Ideal ⟨2, ![65536, 1024]⟩ .f32 :=
  fun i => Ffn.ffnAll x g wg wu wd (i 0) (i 1)

namespace Kernel

open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

abbrev result (c : Dev nD) : FVec Ideal S65536x1024 .f32 :=
  spec (m ((c : Thread nD τ).loc main_arg0)) (m ((c : Thread nD τ).loc main_arg1)) (m ((c : Thread nD τ).loc main_arg2))
    (m ((c : Thread nD τ).loc main_arg3)) (m ((c : Thread nD τ).loc main_arg4))

/-- A block of `x` is 1024 tokens of the array, in order. -/
theorem read0 (c : Dev nD) (t : Fin cfg0.N) (r k : Fin 1024) (h : t.val * 1024 + r.val < 65536) : iblk m c 0 t (ix2 r k)
    = m ((c : Thread nD τ).loc main_arg0) (ix3 ⟨(t.val * 1024 + r.val) / 8192, by omega⟩ ⟨(t.val * 1024 + r.val) % 8192, Nat.mod_lt _ (by decide)⟩ k) := by
  blk_ext! [iblk, V, idx t]

theorem read1 (c : Dev nD) (t : Fin cfg0.N) (k : Fin 1024) : iblk m c 1 t (ix2 0 k) = m ((c : Thread nD τ).loc main_arg1) (ix1 k) := by
  blk_ext! [iblk, V, idx t]

theorem read2 (c : Dev nD) (t : Fin cfg0.N) (k : Fin 1024) (j : Fin 2816) : iblk m c 2 t (ix2 k j) = m ((c : Thread nD τ).loc main_arg2) (ix2 k j) := by
  blk_ext! [iblk, V, idx t]

theorem read3 (c : Dev nD) (t : Fin cfg0.N) (k : Fin 1024) (j : Fin 2816) : iblk m c 3 t (ix2 k j) = m ((c : Thread nD τ).loc main_arg3) (ix2 k j) := by
  blk_ext! [iblk, V, idx t]

theorem read4 (c : Dev nD) (t : Fin cfg0.N) (j : Fin 2816) (k : Fin 1024) : iblk m c 4 t (ix2 j k) = m ((c : Thread nD τ).loc main_arg4) (ix2 j k) := by
  blk_ext! [iblk, V, idx t]

/-- Where row `r` of point `t`'s block sits in the result. -/
theorem place (t : Fin cfg0.N) (r l : Fin 1024) (h : t.val * 1024 + r.val < 65536) :
    ((cfg0.win 5).blk t).view.emb (ix2 r l) = (ix2 ⟨t.val * 1024 + r.val, h⟩ l : S65536x1024.Idx) := by
  blk_ext [idx t]

theorem point (c : Dev nD) (t : Fin cfg0.N) (y : S1024x1024.Idx) :
    out0_5 (iblk m c 0 t) (iblk m c 1 t) (iblk m c 2 t) (iblk m c 3 t) (iblk m c 4 t) y
      = result m c (((cfg0.win 5).blk t).view.emb y) := by
  idx_vars y
  have h : t.val * 1024 + y0.val < 65536 := by
    have := t.isLt
    have hN : cfg0.N = 64 := N_0
    omega
  rw [place t y0 y1 h]
  refine (out_apply _ _ _ _ _ y0 y1).trans ?_
  show _ = Ffn.ffnAll _ _ _ _ _ ⟨t.val * 1024 + y0.val, h⟩ y1
  unfold Ffn.ffnAll
  exact congrFun (congr (congr (congr (congr (congrArg Ffn.ffnRow
    (funext fun k => read0 m c t y0 k h)) (funext fun k => read1 m c t k)) (funext fun k => funext fun j => read2 m c t k j))
    (funext fun k => funext fun j => read3 m c t k j)) (funext fun j => funext fun k => read4 m c t j k)) y1

theorem final (c : Dev nD) : (dats m 0 c).arrAt 5 cfg0.N = result m c := by
  refine (dats m 0 c).arrAt_eq_of_covers 5 _ (by decide +kernel) fun t _ y => ?_
  blk_simp
  rw [after0_5]
  exact point m c t y

end Kernel

namespace Reference

open Cert.Reference3Ideal

/-- The reference's result is the block's mathematics at every token. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = spec (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run (F := Ideal) m ρ)
  clear h
  funext i
  clean_types
  idx_vars i
  simp only [spec, Ffn.ffnAll, Ffn.normRow, Ffn.ffnRow, Ffn.act, Ideal.logistic]
  pointwise

end Reference

end Cert.Ffn3

end
-- ==== Proof.Ffn.Claims.lean ====
/-
  The claims about the two feed-forward calls: their frames, and that each computes the reference's block.
-/
module

public import proofs.«01_k».proof.Defs
public import proofs.«01_k».proof.Proof.Ffn.Value2
public import proofs.«01_k».proof.Proof.Ffn.Value3
public import proofs.«01_k».proof.Proof.Gen.Kernel2.Frame
public import proofs.«01_k».proof.Proof.Gen.Kernel3.Frame
public import Idealize.ShloMosaic.Lib.Quiescent

@[expose] public section

noncomputable section

open Idealize.ShloMosaic Idealize.ShloMosaic.TcCoe Idealize.SL.Sem

namespace Cert.Proof.FfnClaims

theorem frame_kernel2 : Cert.quiescent_Kernel2 := fun m ρ _ => Cert.Kernel2.Gen.frame m ρ

theorem frame_kernel2_ideal : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem preserves2 : Cert.preserves_Kernel2_Kernel2Ideal := trivial

theorem algebraic2 : Cert.algebraic_Kernel2Ideal_Reference2Ideal := fun m ρ m' ρ' _ hag =>
  ⟨fun c => Cert.Ffn2.Kernel.result m c,
    (θ_run Cert.Kernel2Ideal.defs _ _).mono (fun _ h c => ⟨(h c).1.trans (Cert.Ffn2.Kernel.final m c), (h c).2⟩)
      (Cert.Kernel2Ideal.Value.run_blocks m ρ),
    (θ_run Cert.Reference2Ideal.defs _ _).mono
      (fun _ h c => ⟨(h c).1.trans (by
        rw [Cert.Ffn2.Reference.value m' c]; unfold Cert.Ffn2.Kernel.result
        rw [(hag c).1, (hag c).2.1, (hag c).2.2.1, (hag c).2.2.2.1, (hag c).2.2.2.2.1, (hag c).2.2.2.2.2]), (h c).2⟩)
      (Cert.Reference2Ideal.Value.run (F := Ideal) m' ρ')⟩

theorem frame_kernel3 : Cert.quiescent_Kernel3 := fun m ρ _ => Cert.Kernel3.Gen.frame m ρ

theorem frame_kernel3_ideal : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem preserves3 : Cert.preserves_Kernel3_Kernel3Ideal := trivial

theorem algebraic3 : Cert.algebraic_Kernel3Ideal_Reference3Ideal := fun m ρ m' ρ' _ hag =>
  ⟨fun c => Cert.Ffn3.Kernel.result m c,
    (θ_run Cert.Kernel3Ideal.defs _ _).mono (fun _ h c => ⟨(h c).1.trans (Cert.Ffn3.Kernel.final m c), (h c).2⟩)
      (Cert.Kernel3Ideal.Value.run_blocks m ρ),
    (θ_run Cert.Reference3Ideal.defs _ _).mono
      (fun _ h c => ⟨(h c).1.trans (by
        unfold Cert.Ffn3.Kernel.result
        rw [(hag c).1, (hag c).2.1, (hag c).2.2.1, (hag c).2.2.2.1, (hag c).2.2.2.2]), (h c).2⟩)
      (Cert.Ffn3.Reference.run m' ρ')⟩

end Cert.Proof.FfnClaims

end
-- ==== Proof.Mla.Init.lean ====
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the generated instances. -/
local notation "𝕄" => MT nD τ sig Unit (Elt F) ℕ (UR sig nD τ) ℕ

/-- The branch at the head of the body: the first query block of a row of blocks. -/
abbrev cond0 (i : grid0.Coords) : Prop := (Scalar.cmpi .ne (Scalar.extui (Scalar.cmpi .eq (BitVec.ofNat 32 (i 2).val) 0#32)) 0#32) = 1#1

/-- The type of what the head of the body returns. -/
abbrev HeadTy (F : FTy → Type) : Type := (Σ' (arg2 : BitVec 32) (v2 : IVec S512x128 1) (v4 : FVec F S512x128 .bf16) (v6 : FVec F S512x128 .bf16) (v8 : FVec F S512x128 .bf16) (v10 : FVec F S512x128 .bf16) (v14 : FVec F S512x1 .f32) (v15 : FVec F S512x128 .f32) (v16 : BitVec 32) (v33 : BitVec 32), BitVec 32)

/-- The first query row of the block, as a word. -/
def row0 (i : grid0.Coords) : BitVec 32 := Scalar.muli (BitVec.ofNat 32 (i 2).val) 512#32

/-- The number of wide key blocks before the query block, as the body computes it. -/
def wide (i : grid0.Coords) : BitVec 32 :=
  Scalar.select (Scalar.andi (Scalar.cmpi .ne (Scalar.subi (Scalar.extui (Scalar.cmpi .sgt (row0 i) 0#32)) (Scalar.extui (Scalar.cmpi .slt (row0 i) 0#32)))
      (Scalar.subi (Scalar.extui (Scalar.cmpi .sgt 2048#32 0#32)) (Scalar.extui (Scalar.cmpi .slt 2048#32 0#32))))
    (Scalar.cmpi .ne (Scalar.remsi (row0 i) 2048#32) 0#32)) (Scalar.subi (Scalar.divsi (row0 i) 2048#32) 1#32) (Scalar.divsi (row0 i) 2048#32)

/-- Head `h`'s queries: one of the four slices of the query block. -/
abbrev qh0 (x0 : Vec F S512x512 .bf16) : FVec F S512x128 .bf16 := k0_pay111 (View.ld x0 (Rect.unit (s := S512x512) ![0, 0] S512x128.size inb_S512x512_S512x128_0_0))
abbrev qh1 (x0 : Vec F S512x512 .bf16) : FVec F S512x128 .bf16 := k0_pay112 (View.ld x0 (Rect.unit (s := S512x512) ![0, 128] S512x128.size inb_S512x512_S512x128_0_128))
abbrev qh2 (x0 : Vec F S512x512 .bf16) : FVec F S512x128 .bf16 := k0_pay113 (View.ld x0 (Rect.unit (s := S512x512) ![0, 256] S512x128.size inb_S512x512_S512x128_0_256))
abbrev qh3 (x0 : Vec F S512x512 .bf16) : FVec F S512x128 .bf16 := k0_pay114 (View.ld x0 (Rect.unit (s := S512x512) ![0, 384] S512x128.size inb_S512x512_S512x128_0_384))

/-- The two halves of the value block. -/
abbrev vlo (x2 : Vec F S8192x256 .bf16) : Vec F S8192x128 .bf16 := View.ld x2 (Rect.unit (s := S8192x256) ![0, 0] S8192x128.size inb_S8192x256_S8192x128_0_0)
abbrev vhi (x2 : Vec F S8192x256 .bf16) : Vec F S8192x128 .bf16 := View.ld x2 (Rect.unit (s := S8192x256) ![0, 128] S8192x128.size inb_S8192x256_S8192x128_0_128)

/-- What the head of the body returns: the four query slices and the start of the running state. -/
abbrev head_res (i : grid0.Coords) (x0 : Vec F S512x512 .bf16) : HeadTy F :=
  ⟨BitVec.ofNat 32 (i 2).val, k0_pay110, qh0 x0, qh1 x0, qh2 x0, qh3 x0, k0_pay123 (F := F), k0_pay124 (F := F), row0 i, wide i, 0#32⟩

/-- Away from a row's first query block the head only reads the queries. -/
theorem skip_run (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (hc : ¬cond0 i)
    (x0 : Vec F S512x512 .bf16) (E : Set ℕ) (K : HeadTy F → sProp 𝕄) :
    iprop(owns (c : Thread nD τ) arg3 fullShare x0 ∗ (∀ y, iprop(⌜y = head_res i x0⌝ ∗ owns (c : Thread nD τ) arg3 fullShare x0) -∗ K y))
      ⊢ wp frame (wpE (defs₀ (F := F)) Variants.none c none) E (k0_part17 (F := F) i arg3 harg3 arg4 harg4 arg5 harg5 arg6 harg6 arg7 harg7 arg8 harg8 arg9 harg9 arg10 harg10) K := by
  rw [k0_part17_eq_skeleton]; unfold k0_part17_skel
  unfold owns
  iintro ⟨⟨%f0, %hf0, H0⟩, Hk⟩
  subst hf0
  sl_exec (disch := first | sl_exact hc)
  sl_step
  iapply Hk
  isplitr; · ipureintro; rfl
  iexists f0; isplitr; · ipureintro; rfl
  iexact H0

/-- On a row's first query block the head also fills the four scratch buffers from the value block. -/
theorem init_run (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (hc : cond0 i)
    (x0 : Vec F S512x512 .bf16) (x2 : Vec F S8192x256 .bf16) (E : Set ℕ) (K : HeadTy F → sProp 𝕄) :
    iprop((owns (c : Thread nD τ) arg3 fullShare x0 ∗ owns (c : Thread nD τ) arg5 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) ∗ (∀ y, iprop(⌜y = head_res i x0⌝ ∗ owns (c : Thread nD τ) arg3 fullShare x0 ∗ owns (c : Thread nD τ) arg5 fullShare x2 ∗ owns (c : Thread nD τ) arg7 fullShare (k0_pay117 (vlo x2)) ∗ owns (c : Thread nD τ) arg8 fullShare (k0_pay118 (vlo x2)) ∗ owns (c : Thread nD τ) arg9 fullShare (k0_pay121 (vhi x2)) ∗ owns (c : Thread nD τ) arg10 fullShare (k0_pay122 (vhi x2))) -∗ K y))
      ⊢ wp frame (wpE (defs₀ (F := F)) Variants.none c none) E (k0_part17 (F := F) i arg3 harg3 arg4 harg4 arg5 harg5 arg6 harg6 arg7 harg7 arg8 harg8 arg9 harg9 arg10 harg10) K := by
  rw [k0_part17_eq_skeleton]; unfold k0_part17_skel
  unfold owns
  iintro ⟨⟨⟨%f0, %hf0, H0⟩, ⟨%f1, %hf1, H1⟩, ⟨%d7, %f7, -, H7⟩, ⟨%d8, %f8, -, H8⟩, ⟨%d9, %f9, -, H9⟩, ⟨%d10, %f10, -, H10⟩⟩, Hk⟩
  subst hf0 hf1
  sl_exec (disch := first | sl_exact hc)
  sl_step
  iapply Hk
  isplitr; · ipureintro; rfl
  isplitl [H0]
  · iexists f0; isplitr; · ipureintro; rfl
    iexact H0
  isplitl [H1]
  · iexists f1; isplitr; · ipureintro; rfl
    iexact H1
  isplitl [H7]
  · iexists _; isplitr
    swap; · iexact H7
    ipureintro; exact View.read_writes_full _ _ _ _ _
  isplitl [H8]
  · iexists _; isplitr
    swap; · iexact H8
    ipureintro; exact View.read_writes_full _ _ _ _ _
  isplitl [H9]
  · iexists _; isplitr
    swap; · iexact H9
    ipureintro; exact View.read_writes_full _ _ _ _ _
  iexists _; isplitr
  swap; · iexact H10
  ipureintro; exact View.read_writes_full _ _ _ _ _

end Cert.KernelIdeal.Mla

end
-- ==== Proof.Mla.Tail.lean ====
module

public import proofs.«01_k».proof.Proof.Mla.Init

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the generated instances. -/
local notation "𝕄" => MT nD τ sig Unit (Elt F) ℕ (UR sig nD τ) ℕ

/-- The running maxima and sums of the four heads: two vectors for each. -/
abbrev StTy (F : FTy → Type) : Type := FVec F S512x1 .f32 × FVec F S512x128 .f32 × FVec F S512x1 .f32 × FVec F S512x128 .f32 × FVec F S512x1 .f32 × FVec F S512x128 .f32 × FVec F S512x1 .f32 × FVec F S512x128 .f32

/-- What the four heads' sums are after the last key block. -/
abbrev AccTy (F : FTy → Type) : Type := FVec F S512x128 .f32 × FVec F S512x128 .f32 × FVec F S512x128 .f32 × FVec F S512x128 .f32

/-- The state after the wide key blocks (the second loop makes no trip). -/
def wideSt (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (x0 : Vec F S512x512 .bf16) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) : StTy F :=
  st_k0_t2 (F := F) Variants.none c none i arg3 harg3 arg4 harg4 arg5 harg5 arg6 harg6 arg7 harg7 arg8 harg8 arg9 harg9 arg10 harg10 (qh0 x0) (qh1 x0) (qh2 x0) (qh3 x0) (Scalar.addi 0#32 (Scalar.muli (Scalar.divsi (Scalar.subi (wide i) 0#32) 1#32) 1#32)) X4 X7 X8 X9 X10
    (st_k0_t1 (F := F) Variants.none c none i arg3 harg3 arg4 harg4 arg5 harg5 arg6 harg6 arg7 harg7 arg8 harg8 arg9 harg9 arg10 harg10 (qh0 x0) (qh1 x0) (qh2 x0) (qh3 x0) 0#32 X4 X7 X8 X9 X10 (k0_pay123, k0_pay124, k0_pay123, k0_pay124, k0_pay123, k0_pay124, k0_pay123, k0_pay124) (k0_t1_loop i).trips) (k0_t2_loop i).trips

/-- The two column halves of the output block, from the four heads' sums: last stored first. -/
def outL (f : AccTy F) : List (View.Piece (Elt F) S512x256 .bf16) :=
  [⟨Rect.unit (s := S512x256) ![0, 128] S512x128.size inb_S512x256_S512x128_0_128, k0_pay16 k0_pay110 f.2.2.1 f.2.2.2⟩,
   ⟨Rect.unit (s := S512x256) ![0, 0] S512x128.size inb_S512x256_S512x128_0_0, k0_pay15 k0_pay110 f.1 f.2.1⟩]

/-- The two halves cover the output block. -/
theorem outL_cover (f : AccTy F) (y : S512x256.Idx) : ∃ pc ∈ outL f, y ∈ pc.1.set :=
  View.cover_of_tiledBy _ ![512, 128] (by sl_kernel_rfl) y

/-- The output block from the four heads' sums. -/
def outv (f : AccTy F) : Vec F S512x256 .bf16 := View.canon (outL f)

/-- The four heads' sums in case 0 of the key blocks after the wide ones. -/
def fins0 (i : grid0.Coords) (hc2 : ¬k0_cond2 i = 1#1) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (x0 : Vec F S512x512 .bf16) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (S : StTy F) : AccTy F :=
  (k0_pay102 (BitVec.ofNat 32 (i 2).val) (qh0 x0) (row0 i) S.1 S.2.1 (View.ld (arg4.view.read (Elt F) X4) (Rect.unit (s := S8192x512) (k0_off41 i) S512x128.size (k0_off41_inb i hc2))) (View.ld (arg7.view.read (Elt F) X7) (Rect.unit (s := S8192x128) (k0_off42 i) S512x128.size (k0_off42_inb i hc2))),
   k0_pay102 (BitVec.ofNat 32 (i 2).val) (qh1 x0) (row0 i) S.2.2.1 S.2.2.2.1 (View.ld (arg4.view.read (Elt F) X4) (Rect.unit (s := S8192x512) (k0_off43 i) S512x128.size (k0_off43_inb i hc2))) (View.ld (arg8.view.read (Elt F) X8) (Rect.unit (s := S8192x128) (k0_off42 i) S512x128.size (k0_off42_inb i hc2))),
   k0_pay102 (BitVec.ofNat 32 (i 2).val) (qh2 x0) (row0 i) S.2.2.2.2.1 S.2.2.2.2.2.1 (View.ld (arg4.view.read (Elt F) X4) (Rect.unit (s := S8192x512) (k0_off44 i) S512x128.size (k0_off44_inb i hc2))) (View.ld (arg9.view.read (Elt F) X9) (Rect.unit (s := S8192x128) (k0_off42 i) S512x128.size (k0_off42_inb i hc2))),
   k0_pay102 (BitVec.ofNat 32 (i 2).val) (qh3 x0) (row0 i) S.2.2.2.2.2.2.1 S.2.2.2.2.2.2.2 (View.ld (arg4.view.read (Elt F) X4) (Rect.unit (s := S8192x512) (k0_off45 i) S512x128.size (k0_off45_inb i hc2))) (View.ld (arg10.view.read (Elt F) X10) (Rect.unit (s := S8192x128) (k0_off42 i) S512x128.size (k0_off42_inb i hc2))))

set_option maxHeartbeats 1000000 in
/-- The body in case 0: the head's resources come back, and the output block is filled. -/
theorem tail0_run (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (hc2 : ¬k0_cond2 i = 1#1)
    (x0 : Vec F S512x512 .bf16) (x1 : Vec F S8192x512 .bf16) (x2 : Vec F S8192x256 .bf16) (s7 s8 s9 s10 : Vec F S8192x128 .bf16)
    (E : Set ℕ) (R : sProp 𝕄)
    (hh : ∀ K : HeadTy F → sProp 𝕄, iprop(R ∗ (∀ y, iprop(⌜y = head_res i x0⌝ ∗ iprop(owns (c : Thread nD τ) arg3 fullShare x0 ∗ owns (c : Thread nD τ) arg5 fullShare x2 ∗ owns (c : Thread nD τ) arg7 fullShare s7 ∗ owns (c : Thread nD τ) arg8 fullShare s8 ∗ owns (c : Thread nD τ) arg9 fullShare s9 ∗ owns (c : Thread nD τ) arg10 fullShare s10)) -∗ K y))
      ⊢ wp frame (wpE (defs₀ (F := F)) Variants.none c none) E (k0_part17 (F := F) i arg3 harg3 arg4 harg4 arg5 harg5 arg6 harg6 arg7 harg7 arg8 harg8 arg9 harg9 arg10 harg10) K)
    (K : PUnit → sProp 𝕄) :
    iprop(R ∗ owns (c : Thread nD τ) arg4 fullShare x1 ∗ (∃ d, owns (c : Thread nD τ) arg6 fullShare d)
        ∗ (iprop(iprop(owns (c : Thread nD τ) arg3 fullShare x0 ∗ owns (c : Thread nD τ) arg5 fullShare x2 ∗ owns (c : Thread nD τ) arg7 fullShare s7 ∗ owns (c : Thread nD τ) arg8 fullShare s8 ∗ owns (c : Thread nD τ) arg9 fullShare s9 ∗ owns (c : Thread nD τ) arg10 fullShare s10) ∗ owns (c : Thread nD τ) arg4 fullShare x1 ∗ owns (c : Thread nD τ) arg6 fullShare (outv (fins0 i hc2 arg3 harg3 arg4 harg4 arg5 harg5 arg6 harg6 arg7 harg7 arg8 harg8 arg9 harg9 arg10 harg10 x0 (harg4.unread x1) (harg7.unread s7) (harg8.unread s8) (harg9.unread s9) (harg10.unread s10) (wideSt c i arg3 harg3 arg4 harg4 arg5 harg5 arg6 harg6 arg7 harg7 arg8 harg8 arg9 harg9 arg10 harg10 x0 (harg4.unread x1) (harg7.unread s7) (harg8.unread s8) (harg9.unread s9) (harg10.unread s10))))) -∗ K ⟨⟩))
      ⊢ wp frame (wpE (defs₀ (F := F)) Variants.none c none) E (cc0_mla_attention (F := F) i arg3 harg3 arg4 harg4 arg5 harg5 arg6 harg6 arg7 harg7 arg8 harg8 arg9 harg9 arg10 harg10) K := by
  simp only [cc0_mla_attention_eq_skeleton]; unfold cc0_mla_attention_skel
  rw [wp_bind]
  iintro ⟨HR, H4, H6, Hk⟩
  iapply hh
  isplitl [HR]; · iexact HR
  unfold owns
  iintro %y ⟨%hy, ⟨%f3, %hf3, H3⟩, ⟨%f5, %hf5, H5⟩, ⟨%f7, %hf7, H7⟩, ⟨%f8, %hf8, H8⟩, ⟨%f9, %hf9, H9⟩, ⟨%f10, %hf10, H10⟩⟩
  subst hy
  icases H4 with ⟨%f4, %hf4, H4⟩
  icases H6 with ⟨%d6, %f6, -, H6⟩
  obtain rfl := harg4.eq_unread hf4
  obtain rfl := harg7.eq_unread hf7
  obtain rfl := harg8.eq_unread hf8
  obtain rfl := harg9.eq_unread hf9
  obtain rfl := harg10.eq_unread hf10
  simp only [k0_part15_eq_skeleton, k0_part16_eq_skeleton]
  sl_exec (disch := first | sl_exact hc2)
  sl_step
  iapply Hk
  isplitl [H3 H5 H7 H8 H9 H10]
  · isplitl [H3]
    · iexists _; isplitr; · ipureintro; exact hf3
      iexact H3
    isplitl [H5]
    · iexists _; isplitr; · ipureintro; exact hf5
      iexact H5
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    iexists _; isplitr; · ipureintro; exact hf10
    iexact H10
  isplitl [H4]
  · iexists _; isplitr; · ipureintro; exact hf4
    iexact H4
  iexists _; isplitr
  swap; · iexact H6
  ipureintro
  refine (View.read_writes_eq_canon _ _ _ (outL_cover _)).trans ?_
  rfl

/-- The four heads' sums in case 1 of the key blocks after the wide ones. -/
def fins1 (i : grid0.Coords) (hc2 : k0_cond2 i = 1#1) (hc3 : ¬k0_cond3 i = 1#1) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (x0 : Vec F S512x512 .bf16) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (S : StTy F) : AccTy F :=
  (k0_pay102 (BitVec.ofNat 32 (i 2).val) (qh0 x0) (row0 i) (k0_pay80 (qh0 x0) S.1 (View.ld (arg4.view.read (Elt F) X4) (Rect.unit (s := S8192x512) (k0_off31 i) S512x128.size (k0_off31_inb i hc2 hc3)))) (k0_pay81 (qh0 x0) S.1 S.2.1 (View.ld (arg4.view.read (Elt F) X4) (Rect.unit (s := S8192x512) (k0_off31 i) S512x128.size (k0_off31_inb i hc2 hc3))) (View.ld (arg7.view.read (Elt F) X7) (Rect.unit (s := S8192x128) (k0_off32 i) S512x128.size (k0_off32_inb i hc2 hc3)))) (View.ld (arg4.view.read (Elt F) X4) (Rect.unit (s := S8192x512) (k0_off36 i) S512x128.size (k0_off36_inb i hc2 hc3))) (View.ld (arg7.view.read (Elt F) X7) (Rect.unit (s := S8192x128) (k0_off37 i) S512x128.size (k0_off37_inb i hc2 hc3))),
   k0_pay102 (BitVec.ofNat 32 (i 2).val) (qh1 x0) (row0 i) (k0_pay80 (qh1 x0) S.2.2.1 (View.ld (arg4.view.read (Elt F) X4) (Rect.unit (s := S8192x512) (k0_off33 i) S512x128.size (k0_off33_inb i hc2 hc3)))) (k0_pay81 (qh1 x0) S.2.2.1 S.2.2.2.1 (View.ld (arg4.view.read (Elt F) X4) (Rect.unit (s := S8192x512) (k0_off33 i) S512x128.size (k0_off33_inb i hc2 hc3))) (View.ld (arg8.view.read (Elt F) X8) (Rect.unit (s := S8192x128) (k0_off32 i) S512x128.size (k0_off32_inb i hc2 hc3)))) (View.ld (arg4.view.read (Elt F) X4) (Rect.unit (s := S8192x512) (k0_off38 i) S512x128.size (k0_off38_inb i hc2 hc3))) (View.ld (arg8.view.read (Elt F) X8) (Rect.unit (s := S8192x128) (k0_off37 i) S512x128.size (k0_off37_inb i hc2 hc3))),
   k0_pay102 (BitVec.ofNat 32 (i 2).val) (qh2 x0) (row0 i) (k0_pay80 (qh2 x0) S.2.2.2.2.1 (View.ld (arg4.view.read (Elt F) X4) (Rect.unit (s := S8192x512) (k0_off34 i) S512x128.size (k0_off34_inb i hc2 hc3)))) (k0_pay81 (qh2 x0) S.2.2.2.2.1 S.2.2.2.2.2.1 (View.ld (arg4.view.read (Elt F) X4) (Rect.unit (s := S8192x512) (k0_off34 i) S512x128.size (k0_off34_inb i hc2 hc3))) (View.ld (arg9.view.read (Elt F) X9) (Rect.unit (s := S8192x128) (k0_off32 i) S512x128.size (k0_off32_inb i hc2 hc3)))) (View.ld (arg4.view.read (Elt F) X4) (Rect.unit (s := S8192x512) (k0_off39 i) S512x128.size (k0_off39_inb i hc2 hc3))) (View.ld (arg9.view.read (Elt F) X9) (Rect.unit (s := S8192x128) (k0_off37 i) S512x128.size (k0_off37_inb i hc2 hc3))),
   k0_pay102 (BitVec.ofNat 32 (i 2).val) (qh3 x0) (row0 i) (k0_pay80 (qh3 x0) S.2.2.2.2.2.2.1 (View.ld (arg4.view.read (Elt F) X4) (Rect.unit (s := S8192x512) (k0_off35 i) S512x128.size (k0_off35_inb i hc2 hc3)))) (k0_pay81 (qh3 x0) S.2.2.2.2.2.2.1 S.2.2.2.2.2.2.2 (View.ld (arg4.view.read (Elt F) X4) (Rect.unit (s := S8192x512) (k0_off35 i) S512x128.size (k0_off35_inb i hc2 hc3))) (View.ld (arg10.view.read (Elt F) X10) (Rect.unit (s := S8192x128) (k0_off32 i) S512x128.size (k0_off32_inb i hc2 hc3)))) (View.ld (arg4.view.read (Elt F) X4) (Rect.unit (s := S8192x512) (k0_off40 i) S512x128.size (k0_off40_inb i hc2 hc3))) (View.ld (arg10.view.read (Elt F) X10) (Rect.unit (s := S8192x128) (k0_off37 i) S512x128.size (k0_off37_inb i hc2 hc3))))

set_option maxHeartbeats 1000000 in
/-- The body in case 1: the head's resources come back, and the output block is filled. -/
theorem tail1_run (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (hc2 : k0_cond2 i = 1#1) (hc3 : ¬k0_cond3 i = 1#1)
    (x0 : Vec F S512x512 .bf16) (x1 : Vec F S8192x512 .bf16) (x2 : Vec F S8192x256 .bf16) (s7 s8 s9 s10 : Vec F S8192x128 .bf16)
    (E : Set ℕ) (R : sProp 𝕄)
    (hh : ∀ K : HeadTy F → sProp 𝕄, iprop(R ∗ (∀ y, iprop(⌜y = head_res i x0⌝ ∗ iprop(owns (c : Thread nD τ) arg3 fullShare x0 ∗ owns (c : Thread nD τ) arg5 fullShare x2 ∗ owns (c : Thread nD τ) arg7 fullShare s7 ∗ owns (c : Thread nD τ) arg8 fullShare s8 ∗ owns (c : Thread nD τ) arg9 fullShare s9 ∗ owns (c : Thread nD τ) arg10 fullShare s10)) -∗ K y))
      ⊢ wp frame (wpE (defs₀ (F := F)) Variants.none c none) E (k0_part17 (F := F) i arg3 harg3 arg4 harg4 arg5 harg5 arg6 harg6 arg7 harg7 arg8 harg8 arg9 harg9 arg10 harg10) K)
    (K : PUnit → sProp 𝕄) :
    iprop(R ∗ owns (c : Thread nD τ) arg4 fullShare x1 ∗ (∃ d, owns (c : Thread nD τ) arg6 fullShare d)
        ∗ (iprop(iprop(owns (c : Thread nD τ) arg3 fullShare x0 ∗ owns (c : Thread nD τ) arg5 fullShare x2 ∗ owns (c : Thread nD τ) arg7 fullShare s7 ∗ owns (c : Thread nD τ) arg8 fullShare s8 ∗ owns (c : Thread nD τ) arg9 fullShare s9 ∗ owns (c : Thread nD τ) arg10 fullShare s10) ∗ owns (c : Thread nD τ) arg4 fullShare x1 ∗ owns (c : Thread nD τ) arg6 fullShare (outv (fins1 i hc2 hc3 arg3 harg3 arg4 harg4 arg5 harg5 arg6 harg6 arg7 harg7 arg8 harg8 arg9 harg9 arg10 harg10 x0 (harg4.unread x1) (harg7.unread s7) (harg8.unread s8) (harg9.unread s9) (harg10.unread s10) (wideSt c i arg3 harg3 arg4 harg4 arg5 harg5 arg6 harg6 arg7 harg7 arg8 harg8 arg9 harg9 arg10 harg10 x0 (harg4.unread x1) (harg7.unread s7) (harg8.unread s8) (harg9.unread s9) (harg10.unread s10))))) -∗ K ⟨⟩))
      ⊢ wp frame (wpE (defs₀ (F := F)) Variants.none c none) E (cc0_mla_attention (F := F) i arg3 harg3 arg4 harg4 arg5 harg5 arg6 harg6 arg7 harg7 arg8 harg8 arg9 harg9 arg10 harg10) K := by
  simp only [cc0_mla_attention_eq_skeleton]; unfold cc0_mla_attention_skel
  rw [wp_bind]
  iintro ⟨HR, H4, H6, Hk⟩
  iapply hh
  isplitl [HR]; · iexact HR
  unfold owns
  iintro %y ⟨%hy, ⟨%f3, %hf3, H3⟩, ⟨%f5, %hf5, H5⟩, ⟨%f7, %hf7, H7⟩, ⟨%f8, %hf8, H8⟩, ⟨%f9, %hf9, H9⟩, ⟨%f10, %hf10, H10⟩⟩
  subst hy
  icases H4 with ⟨%f4, %hf4, H4⟩
  icases H6 with ⟨%d6, %f6, -, H6⟩
  obtain rfl := harg4.eq_unread hf4
  obtain rfl := harg7.eq_unread hf7
  obtain rfl := harg8.eq_unread hf8
  obtain rfl := harg9.eq_unread hf9
  obtain rfl := harg10.eq_unread hf10
  simp only [k0_part11_eq_skeleton, k0_part12_eq_skeleton, k0_part13_eq_skeleton, k0_part14_eq_skeleton]
  sl_exec (disch := first | sl_exact hc2 | sl_exact hc3)
  sl_step
  iapply Hk
  isplitl [H3 H5 H7 H8 H9 H10]
  · isplitl [H3]
    · iexists _; isplitr; · ipureintro; exact hf3
      iexact H3
    isplitl [H5]
    · iexists _; isplitr; · ipureintro; exact hf5
      iexact H5
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    iexists _; isplitr; · ipureintro; exact hf10
    iexact H10
  isplitl [H4]
  · iexists _; isplitr; · ipureintro; exact hf4
    iexact H4
  iexists _; isplitr
  swap; · iexact H6
  ipureintro
  refine (View.read_writes_eq_canon _ _ _ (outL_cover _)).trans ?_
  rfl

/-- The four heads' sums in case 2 of the key blocks after the wide ones. -/
def fins2 (i : grid0.Coords) (hc2 : k0_cond2 i = 1#1) (hc3 : k0_cond3 i = 1#1) (hc4 : ¬k0_cond4 i = 1#1) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (x0 : Vec F S512x512 .bf16) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (S : StTy F) : AccTy F :=
  (k0_pay102 (BitVec.ofNat 32 (i 2).val) (qh0 x0) (row0 i) (k0_pay57 (qh0 x0) S.1 (View.ld (arg4.view.read (Elt F) X4) (Rect.unit (s := S8192x512) (k0_off21 i) S1024x128.size (k0_off21_inb i hc2 hc3 hc4)))) (k0_pay58 (qh0 x0) S.1 S.2.1 (View.ld (arg4.view.read (Elt F) X4) (Rect.unit (s := S8192x512) (k0_off21 i) S1024x128.size (k0_off21_inb i hc2 hc3 hc4))) (View.ld (arg7.view.read (Elt F) X7) (Rect.unit (s := S8192x128) (k0_off22 i) S1024x128.size (k0_off22_inb i hc2 hc3 hc4)))) (View.ld (arg4.view.read (Elt F) X4) (Rect.unit (s := S8192x512) (k0_off26 i) S512x128.size (k0_off26_inb i hc2 hc3 hc4))) (View.ld (arg7.view.read (Elt F) X7) (Rect.unit (s := S8192x128) (k0_off27 i) S512x128.size (k0_off27_inb i hc2 hc3 hc4))),
   k0_pay102 (BitVec.ofNat 32 (i 2).val) (qh1 x0) (row0 i) (k0_pay57 (qh1 x0) S.2.2.1 (View.ld (arg4.view.read (Elt F) X4) (Rect.unit (s := S8192x512) (k0_off23 i) S1024x128.size (k0_off23_inb i hc2 hc3 hc4)))) (k0_pay58 (qh1 x0) S.2.2.1 S.2.2.2.1 (View.ld (arg4.view.read (Elt F) X4) (Rect.unit (s := S8192x512) (k0_off23 i) S1024x128.size (k0_off23_inb i hc2 hc3 hc4))) (View.ld (arg8.view.read (Elt F) X8) (Rect.unit (s := S8192x128) (k0_off22 i) S1024x128.size (k0_off22_inb i hc2 hc3 hc4)))) (View.ld (arg4.view.read (Elt F) X4) (Rect.unit (s := S8192x512) (k0_off28 i) S512x128.size (k0_off28_inb i hc2 hc3 hc4))) (View.ld (arg8.view.read (Elt F) X8) (Rect.unit (s := S8192x128) (k0_off27 i) S512x128.size (k0_off27_inb i hc2 hc3 hc4))),
   k0_pay102 (BitVec.ofNat 32 (i 2).val) (qh2 x0) (row0 i) (k0_pay57 (qh2 x0) S.2.2.2.2.1 (View.ld (arg4.view.read (Elt F) X4) (Rect.unit (s := S8192x512) (k0_off24 i) S1024x128.size (k0_off24_inb i hc2 hc3 hc4)))) (k0_pay58 (qh2 x0) S.2.2.2.2.1 S.2.2.2.2.2.1 (View.ld (arg4.view.read (Elt F) X4) (Rect.unit (s := S8192x512) (k0_off24 i) S1024x128.size (k0_off24_inb i hc2 hc3 hc4))) (View.ld (arg9.view.read (Elt F) X9) (Rect.unit (s := S8192x128) (k0_off22 i) S1024x128.size (k0_off22_inb i hc2 hc3 hc4)))) (View.ld (arg4.view.read (Elt F) X4) (Rect.unit (s := S8192x512) (k0_off29 i) S512x128.size (k0_off29_inb i hc2 hc3 hc4))) (View.ld (arg9.view.read (Elt F) X9) (Rect.unit (s := S8192x128) (k0_off27 i) S512x128.size (k0_off27_inb i hc2 hc3 hc4))),
   k0_pay102 (BitVec.ofNat 32 (i 2).val) (qh3 x0) (row0 i) (k0_pay57 (qh3 x0) S.2.2.2.2.2.2.1 (View.ld (arg4.view.read (Elt F) X4) (Rect.unit (s := S8192x512) (k0_off25 i) S1024x128.size (k0_off25_inb i hc2 hc3 hc4)))) (k0_pay58 (qh3 x0) S.2.2.2.2.2.2.1 S.2.2.2.2.2.2.2 (View.ld (arg4.view.read (Elt F) X4) (Rect.unit (s := S8192x512) (k0_off25 i) S1024x128.size (k0_off25_inb i hc2 hc3 hc4))) (View.ld (arg10.view.read (Elt F) X10) (Rect.unit (s := S8192x128) (k0_off22 i) S1024x128.size (k0_off22_inb i hc2 hc3 hc4)))) (View.ld (arg4.view.read (Elt F) X4) (Rect.unit (s := S8192x512) (k0_off30 i) S512x128.size (k0_off30_inb i hc2 hc3 hc4))) (View.ld (arg10.view.read (Elt F) X10) (Rect.unit (s := S8192x128) (k0_off27 i) S512x128.size (k0_off27_inb i hc2 hc3 hc4))))

set_option maxHeartbeats 1000000 in
/-- The body in case 2: the head's resources come back, and the output block is filled. -/
theorem tail2_run (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (hc2 : k0_cond2 i = 1#1) (hc3 : k0_cond3 i = 1#1) (hc4 : ¬k0_cond4 i = 1#1)
    (x0 : Vec F S512x512 .bf16) (x1 : Vec F S8192x512 .bf16) (x2 : Vec F S8192x256 .bf16) (s7 s8 s9 s10 : Vec F S8192x128 .bf16)
    (E : Set ℕ) (R : sProp 𝕄)
    (hh : ∀ K : HeadTy F → sProp 𝕄, iprop(R ∗ (∀ y, iprop(⌜y = head_res i x0⌝ ∗ iprop(owns (c : Thread nD τ) arg3 fullShare x0 ∗ owns (c : Thread nD τ) arg5 fullShare x2 ∗ owns (c : Thread nD τ) arg7 fullShare s7 ∗ owns (c : Thread nD τ) arg8 fullShare s8 ∗ owns (c : Thread nD τ) arg9 fullShare s9 ∗ owns (c : Thread nD τ) arg10 fullShare s10)) -∗ K y))
      ⊢ wp frame (wpE (defs₀ (F := F)) Variants.none c none) E (k0_part17 (F := F) i arg3 harg3 arg4 harg4 arg5 harg5 arg6 harg6 arg7 harg7 arg8 harg8 arg9 harg9 arg10 harg10) K)
    (K : PUnit → sProp 𝕄) :
    iprop(R ∗ owns (c : Thread nD τ) arg4 fullShare x1 ∗ (∃ d, owns (c : Thread nD τ) arg6 fullShare d)
        ∗ (iprop(iprop(owns (c : Thread nD τ) arg3 fullShare x0 ∗ owns (c : Thread nD τ) arg5 fullShare x2 ∗ owns (c : Thread nD τ) arg7 fullShare s7 ∗ owns (c : Thread nD τ) arg8 fullShare s8 ∗ owns (c : Thread nD τ) arg9 fullShare s9 ∗ owns (c : Thread nD τ) arg10 fullShare s10) ∗ owns (c : Thread nD τ) arg4 fullShare x1 ∗ owns (c : Thread nD τ) arg6 fullShare (outv (fins2 i hc2 hc3 hc4 arg3 harg3 arg4 harg4 arg5 harg5 arg6 harg6 arg7 harg7 arg8 harg8 arg9 harg9 arg10 harg10 x0 (harg4.unread x1) (harg7.unread s7) (harg8.unread s8) (harg9.unread s9) (harg10.unread s10) (wideSt c i arg3 harg3 arg4 harg4 arg5 harg5 arg6 harg6 arg7 harg7 arg8 harg8 arg9 harg9 arg10 harg10 x0 (harg4.unread x1) (harg7.unread s7) (harg8.unread s8) (harg9.unread s9) (harg10.unread s10))))) -∗ K ⟨⟩))
      ⊢ wp frame (wpE (defs₀ (F := F)) Variants.none c none) E (cc0_mla_attention (F := F) i arg3 harg3 arg4 harg4 arg5 harg5 arg6 harg6 arg7 harg7 arg8 harg8 arg9 harg9 arg10 harg10) K := by
  simp only [cc0_mla_attention_eq_skeleton]; unfold cc0_mla_attention_skel
  rw [wp_bind]
  iintro ⟨HR, H4, H6, Hk⟩
  iapply hh
  isplitl [HR]; · iexact HR
  unfold owns
  iintro %y ⟨%hy, ⟨%f3, %hf3, H3⟩, ⟨%f5, %hf5, H5⟩, ⟨%f7, %hf7, H7⟩, ⟨%f8, %hf8, H8⟩, ⟨%f9, %hf9, H9⟩, ⟨%f10, %hf10, H10⟩⟩
  subst hy
  icases H4 with ⟨%f4, %hf4, H4⟩
  icases H6 with ⟨%d6, %f6, -, H6⟩
  obtain rfl := harg4.eq_unread hf4
  obtain rfl := harg7.eq_unread hf7
  obtain rfl := harg8.eq_unread hf8
  obtain rfl := harg9.eq_unread hf9
  obtain rfl := harg10.eq_unread hf10
  simp only [k0_part7_eq_skeleton, k0_part8_eq_skeleton, k0_part9_eq_skeleton, k0_part10_eq_skeleton]
  sl_exec (disch := first | sl_exact hc2 | sl_exact hc3 | sl_exact hc4)
  sl_step
  iapply Hk
  isplitl [H3 H5 H7 H8 H9 H10]
  · isplitl [H3]
    · iexists _; isplitr; · ipureintro; exact hf3
      iexact H3
    isplitl [H5]
    · iexists _; isplitr; · ipureintro; exact hf5
      iexact H5
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    iexists _; isplitr; · ipureintro; exact hf10
    iexact H10
  isplitl [H4]
  · iexists _; isplitr; · ipureintro; exact hf4
    iexact H4
  iexists _; isplitr
  swap; · iexact H6
  ipureintro
  refine (View.read_writes_eq_canon _ _ _ (outL_cover _)).trans ?_
  rfl

/-- The four heads' sums in case 3 of the key blocks after the wide ones. -/
def fins3 (i : grid0.Coords) (hc2 : k0_cond2 i = 1#1) (hc3 : k0_cond3 i = 1#1) (hc4 : k0_cond4 i = 1#1) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (x0 : Vec F S512x512 .bf16) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (S : StTy F) : AccTy F :=
  (k0_pay102 (BitVec.ofNat 32 (i 2).val) (qh0 x0) (row0 i) (k0_pay34 (qh0 x0) S.1 (View.ld (arg4.view.read (Elt F) X4) (Rect.unit (s := S8192x512) (k0_off11 i) S1536x128.size (k0_off11_inb i hc2 hc3 hc4)))) (k0_pay35 (qh0 x0) S.1 S.2.1 (View.ld (arg4.view.read (Elt F) X4) (Rect.unit (s := S8192x512) (k0_off11 i) S1536x128.size (k0_off11_inb i hc2 hc3 hc4))) (View.ld (arg7.view.read (Elt F) X7) (Rect.unit (s := S8192x128) (k0_off12 i) S1536x128.size (k0_off12_inb i hc2 hc3 hc4)))) (View.ld (arg4.view.read (Elt F) X4) (Rect.unit (s := S8192x512) (k0_off16 i) S512x128.size (k0_off16_inb i hc2 hc3 hc4))) (View.ld (arg7.view.read (Elt F) X7) (Rect.unit (s := S8192x128) (k0_off17 i) S512x128.size (k0_off17_inb i hc2 hc3 hc4))),
   k0_pay102 (BitVec.ofNat 32 (i 2).val) (qh1 x0) (row0 i) (k0_pay34 (qh1 x0) S.2.2.1 (View.ld (arg4.view.read (Elt F) X4) (Rect.unit (s := S8192x512) (k0_off13 i) S1536x128.size (k0_off13_inb i hc2 hc3 hc4)))) (k0_pay35 (qh1 x0) S.2.2.1 S.2.2.2.1 (View.ld (arg4.view.read (Elt F) X4) (Rect.unit (s := S8192x512) (k0_off13 i) S1536x128.size (k0_off13_inb i hc2 hc3 hc4))) (View.ld (arg8.view.read (Elt F) X8) (Rect.unit (s := S8192x128) (k0_off12 i) S1536x128.size (k0_off12_inb i hc2 hc3 hc4)))) (View.ld (arg4.view.read (Elt F) X4) (Rect.unit (s := S8192x512) (k0_off18 i) S512x128.size (k0_off18_inb i hc2 hc3 hc4))) (View.ld (arg8.view.read (Elt F) X8) (Rect.unit (s := S8192x128) (k0_off17 i) S512x128.size (k0_off17_inb i hc2 hc3 hc4))),
   k0_pay102 (BitVec.ofNat 32 (i 2).val) (qh2 x0) (row0 i) (k0_pay34 (qh2 x0) S.2.2.2.2.1 (View.ld (arg4.view.read (Elt F) X4) (Rect.unit (s := S8192x512) (k0_off14 i) S1536x128.size (k0_off14_inb i hc2 hc3 hc4)))) (k0_pay35 (qh2 x0) S.2.2.2.2.1 S.2.2.2.2.2.1 (View.ld (arg4.view.read (Elt F) X4) (Rect.unit (s := S8192x512) (k0_off14 i) S1536x128.size (k0_off14_inb i hc2 hc3 hc4))) (View.ld (arg9.view.read (Elt F) X9) (Rect.unit (s := S8192x128) (k0_off12 i) S1536x128.size (k0_off12_inb i hc2 hc3 hc4)))) (View.ld (arg4.view.read (Elt F) X4) (Rect.unit (s := S8192x512) (k0_off19 i) S512x128.size (k0_off19_inb i hc2 hc3 hc4))) (View.ld (arg9.view.read (Elt F) X9) (Rect.unit (s := S8192x128) (k0_off17 i) S512x128.size (k0_off17_inb i hc2 hc3 hc4))),
   k0_pay102 (BitVec.ofNat 32 (i 2).val) (qh3 x0) (row0 i) (k0_pay34 (qh3 x0) S.2.2.2.2.2.2.1 (View.ld (arg4.view.read (Elt F) X4) (Rect.unit (s := S8192x512) (k0_off15 i) S1536x128.size (k0_off15_inb i hc2 hc3 hc4)))) (k0_pay35 (qh3 x0) S.2.2.2.2.2.2.1 S.2.2.2.2.2.2.2 (View.ld (arg4.view.read (Elt F) X4) (Rect.unit (s := S8192x512) (k0_off15 i) S1536x128.size (k0_off15_inb i hc2 hc3 hc4))) (View.ld (arg10.view.read (Elt F) X10) (Rect.unit (s := S8192x128) (k0_off12 i) S1536x128.size (k0_off12_inb i hc2 hc3 hc4)))) (View.ld (arg4.view.read (Elt F) X4) (Rect.unit (s := S8192x512) (k0_off20 i) S512x128.size (k0_off20_inb i hc2 hc3 hc4))) (View.ld (arg10.view.read (Elt F) X10) (Rect.unit (s := S8192x128) (k0_off17 i) S512x128.size (k0_off17_inb i hc2 hc3 hc4))))

set_option maxHeartbeats 1000000 in
/-- The body in case 3: the head's resources come back, and the output block is filled. -/
theorem tail3_run (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (hc2 : k0_cond2 i = 1#1) (hc3 : k0_cond3 i = 1#1) (hc4 : k0_cond4 i = 1#1)
    (x0 : Vec F S512x512 .bf16) (x1 : Vec F S8192x512 .bf16) (x2 : Vec F S8192x256 .bf16) (s7 s8 s9 s10 : Vec F S8192x128 .bf16)
    (E : Set ℕ) (R : sProp 𝕄)
    (hh : ∀ K : HeadTy F → sProp 𝕄, iprop(R ∗ (∀ y, iprop(⌜y = head_res i x0⌝ ∗ iprop(owns (c : Thread nD τ) arg3 fullShare x0 ∗ owns (c : Thread nD τ) arg5 fullShare x2 ∗ owns (c : Thread nD τ) arg7 fullShare s7 ∗ owns (c : Thread nD τ) arg8 fullShare s8 ∗ owns (c : Thread nD τ) arg9 fullShare s9 ∗ owns (c : Thread nD τ) arg10 fullShare s10)) -∗ K y))
      ⊢ wp frame (wpE (defs₀ (F := F)) Variants.none c none) E (k0_part17 (F := F) i arg3 harg3 arg4 harg4 arg5 harg5 arg6 harg6 arg7 harg7 arg8 harg8 arg9 harg9 arg10 harg10) K)
    (K : PUnit → sProp 𝕄) :
    iprop(R ∗ owns (c : Thread nD τ) arg4 fullShare x1 ∗ (∃ d, owns (c : Thread nD τ) arg6 fullShare d)
        ∗ (iprop(iprop(owns (c : Thread nD τ) arg3 fullShare x0 ∗ owns (c : Thread nD τ) arg5 fullShare x2 ∗ owns (c : Thread nD τ) arg7 fullShare s7 ∗ owns (c : Thread nD τ) arg8 fullShare s8 ∗ owns (c : Thread nD τ) arg9 fullShare s9 ∗ owns (c : Thread nD τ) arg10 fullShare s10) ∗ owns (c : Thread nD τ) arg4 fullShare x1 ∗ owns (c : Thread nD τ) arg6 fullShare (outv (fins3 i hc2 hc3 hc4 arg3 harg3 arg4 harg4 arg5 harg5 arg6 harg6 arg7 harg7 arg8 harg8 arg9 harg9 arg10 harg10 x0 (harg4.unread x1) (harg7.unread s7) (harg8.unread s8) (harg9.unread s9) (harg10.unread s10) (wideSt c i arg3 harg3 arg4 harg4 arg5 harg5 arg6 harg6 arg7 harg7 arg8 harg8 arg9 harg9 arg10 harg10 x0 (harg4.unread x1) (harg7.unread s7) (harg8.unread s8) (harg9.unread s9) (harg10.unread s10))))) -∗ K ⟨⟩))
      ⊢ wp frame (wpE (defs₀ (F := F)) Variants.none c none) E (cc0_mla_attention (F := F) i arg3 harg3 arg4 harg4 arg5 harg5 arg6 harg6 arg7 harg7 arg8 harg8 arg9 harg9 arg10 harg10) K := by
  simp only [cc0_mla_attention_eq_skeleton]; unfold cc0_mla_attention_skel
  rw [wp_bind]
  iintro ⟨HR, H4, H6, Hk⟩
  iapply hh
  isplitl [HR]; · iexact HR
  unfold owns
  iintro %y ⟨%hy, ⟨%f3, %hf3, H3⟩, ⟨%f5, %hf5, H5⟩, ⟨%f7, %hf7, H7⟩, ⟨%f8, %hf8, H8⟩, ⟨%f9, %hf9, H9⟩, ⟨%f10, %hf10, H10⟩⟩
  subst hy
  icases H4 with ⟨%f4, %hf4, H4⟩
  icases H6 with ⟨%d6, %f6, -, H6⟩
  obtain rfl := harg4.eq_unread hf4
  obtain rfl := harg7.eq_unread hf7
  obtain rfl := harg8.eq_unread hf8
  obtain rfl := harg9.eq_unread hf9
  obtain rfl := harg10.eq_unread hf10
  simp only [k0_part3_eq_skeleton, k0_part4_eq_skeleton, k0_part5_eq_skeleton, k0_part6_eq_skeleton]
  sl_exec (disch := first | sl_exact hc2 | sl_exact hc3 | sl_exact hc4)
  sl_step
  iapply Hk
  isplitl [H3 H5 H7 H8 H9 H10]
  · isplitl [H3]
    · iexists _; isplitr; · ipureintro; exact hf3
      iexact H3
    isplitl [H5]
    · iexists _; isplitr; · ipureintro; exact hf5
      iexact H5
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    iexists _; isplitr; · ipureintro; exact hf10
    iexact H10
  isplitl [H4]
  · iexists _; isplitr; · ipureintro; exact hf4
    iexact H4
  iexists _; isplitr
  swap; · iexact H6
  ipureintro
  refine (View.read_writes_eq_canon _ _ _ (outL_cover _)).trans ?_
  rfl

end Cert.KernelIdeal.Mla

end
-- ==== Proof.Mla.Math.lean ====
/-
  The arithmetic of a softmax computed block by block, over the extended reals.

  `Run σ v n M A` says that `M` and `A` are the running maximum and the running weighted sum after the first `n` keys,
  for scores `σ` in base two and values `v`.  `Run.step` carries it over one more block of keys, of which the last ones
  may be masked (`-∞`).  `Run.attend` reads the result: the weighted sum divided by the sum of the weights is what the
  softmax of the reference gives.
-/
module

public import Idealize.ShloMosaic.Lib.Pointwise
public import Idealize.ShloMosaic.Lib.Pipeline.ValueKit

@[expose] public section

set_option maxRecDepth 16384

noncomputable section

open Idealize.ShloMosaic

namespace Cert.Mla

/-- The score of key `k` for query `q` of head `h` in sequence `b`, with the causal mask as `-∞`. -/
def refScore (qn : FVec Ideal ⟨4, ![8, 8192, 8, 64]⟩ .f32) (qr : FVec Ideal ⟨4, ![8, 8192, 8, 32]⟩ .f32)
    (kn : FVec Ideal ⟨4, ![8, 8192, 8, 64]⟩ .f32) (kr : FVec Ideal ⟨3, ![8, 8192, 32]⟩ .f32)
    (b h : Fin 8) (q k : Fin 8192) : EReal :=
  Scalar.select (IntOp.cmpi .sge (BitVec.ofNat 32 q.val) (BitVec.ofNat 32 k.val))
    ((∑ d : Fin 64, qn (ix4 b q h d) * kn (ix4 b k h d) + ∑ d : Fin 32, kr (ix3 b k d) * qr (ix4 b q h d)) * Ideal.ofBits .f32 0x3DD105EC#32)
    (Ideal.ofBits .f32 0xFF800000#32)

/-- The softmax of a row of 8192 scores, as the reference computes it, against a column of values. -/
def softmaxDot (s v : Fin 8192 → EReal) : EReal :=
  ∑ k : Fin 8192, v k * Ideal.div
    (Ideal.exp (s k - max (Ideal.ofBits .f32 0xFF800000#32) (Finset.fold max (Ideal.ofBits .f32 0xFF800000#32) s Finset.univ)))
    (∑ j : Fin 8192, Ideal.exp (s j - max (Ideal.ofBits .f32 0xFF800000#32) (Finset.fold max (Ideal.ofBits .f32 0xFF800000#32) s Finset.univ)))

/-- The bits of minus infinity. -/
theorem ninf : Ideal.ofBits .f32 0xFF800000#32 = ⊥ := by simp [Ideal.ofBits, Ideal.ieee]

/-- A fold of `max` from `-∞` is the supremum. -/
theorem fold_max {ι : Type} (s : Finset ι) (f : ι → EReal) : Finset.fold max ⊥ f s = s.sup f := rfl

/-- A sum of extended reals times a nonnegative real, term by term. -/
theorem sum_mul_coe {ι : Type} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- A sum of reals, read among the extended reals. -/
theorem sum_coe {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The running maximum and weighted sum after the first `n` keys. -/
structure Run (σ : ℕ → ℝ) (v : ℕ → EReal) (n : ℕ) (M A : EReal) : Prop where
  max_eq : M = (Finset.range n).sup fun j => (σ j : EReal)
  sum_eq : A = ∑ j ∈ Finset.range n, Ideal.exp2 ((σ j : EReal) - M) * v j

/-- Before the first key. -/
theorem Run.zero (σ : ℕ → ℝ) (v : ℕ → EReal) : Run σ v 0 ⊥ 0 := ⟨by simp, by simp⟩

/-- The greatest of the first keys is a real number. -/
theorem sup_real (σ : ℕ → ℝ) (n : ℕ) (hn : 0 < n) : ∃ μ : ℝ, ((Finset.range n).sup fun j => (σ j : EReal)) = (μ : EReal) := by
  obtain ⟨j, -, hj⟩ := Finset.exists_mem_eq_sup (Finset.range n) ⟨0, Finset.mem_range.mpr hn⟩ fun j => (σ j : EReal)
  exact ⟨σ j, hj⟩

theorem exp2_sub (x y : ℝ) : Ideal.exp2 ((x : EReal) - (y : EReal)) = (((2 : ℝ) ^ (x - y) : ℝ) : EReal) := by
  rw [← EReal.coe_sub, Ideal.exp2_coe]; rfl

theorem pow_mul (x y z : ℝ) : ((2 : ℝ) ^ (x - y)) * (2 : ℝ) ^ (y - z) = (2 : ℝ) ^ (x - z) := by
  rw [← Real.rpow_add (by norm_num)]; congr 1; ring

/-- One more block of `w` keys, of which those from `n'` on are masked. -/
theorem Run.step {σ : ℕ → ℝ} {v : ℕ → EReal} {n n' w : ℕ} {M A M' A' : EReal} (h : Run σ v n M A) (hn : n < n') (hw : n' ≤ n + w)
    (b u : Fin w → EReal) (hb : ∀ j : Fin w, b j = if n + j.val < n' then (σ (n + j.val) : EReal) else ⊥) (hu : ∀ j : Fin w, u j = v (n + j.val))
    (hM : M' = max M (Finset.fold max ⊥ b Finset.univ))
    (hA : A' = A * Ideal.exp2 (M - M') + ∑ j : Fin w, Ideal.exp2 (b j - M') * u j) : Run σ v n' M' A' := by
  have eM : M' = (Finset.range n').sup fun j => (σ j : EReal) := by
    rw [hM, fold_max, h.max_eq]
    apply le_antisymm
    · refine max_le (Finset.sup_mono fun j hj => Finset.mem_range.mpr ((Finset.mem_range.mp hj).trans hn)) (Finset.sup_le fun j _ => ?_)
      rw [hb j]
      split
      · next hj => exact Finset.le_sup (f := fun j => (σ j : EReal)) (Finset.mem_range.mpr hj)
      · exact bot_le
    · refine Finset.sup_le fun j hj => ?_
      have hj' := Finset.mem_range.mp hj
      by_cases hjn : j < n
      · exact (Finset.le_sup (f := fun j => (σ j : EReal)) (Finset.mem_range.mpr hjn)).trans (le_max_left _ _)
      · refine le_trans ?_ (le_max_right _ _)
        have e := hb ⟨j - n, by omega⟩
        have e2 : n + (j - n) = j := by omega
        simp only [e2, if_pos hj'] at e
        rw [← e]
        exact Finset.le_sup (f := b) (Finset.mem_univ _)
  refine ⟨eM, ?_⟩
  obtain ⟨μ', hμ'⟩ := sup_real σ n' (by omega)
  have eμ' : M' = (μ' : EReal) := eM.trans hμ'
  have e1 : A * Ideal.exp2 (M - M') = ∑ j ∈ Finset.range n, Ideal.exp2 ((σ j : EReal) - M') * v j := by
    rcases Nat.eq_zero_or_pos n with h0 | h0
    · subst h0
      rw [h.sum_eq]; simp
    · obtain ⟨μ, hμ⟩ := sup_real σ n h0
      have eμ : M = (μ : EReal) := h.max_eq.trans hμ
      rw [h.sum_eq, eμ, eμ', exp2_sub, sum_mul_coe _ _ _ (Real.rpow_nonneg (by norm_num) _)]
      refine Finset.sum_congr rfl fun j _ => ?_
      rw [exp2_sub, exp2_sub, mul_right_comm, ← EReal.coe_mul, pow_mul]
  have e2 : ∑ j : Fin w, Ideal.exp2 (b j - M') * u j
      = ∑ j ∈ Finset.range (n' - n), Ideal.exp2 ((σ (n + j) : EReal) - M') * v (n + j) := by
    have e3 : ∀ j : Fin w, Ideal.exp2 (b j - M') * u j
        = if j.val ∈ Finset.range (n' - n) then Ideal.exp2 ((σ (n + j.val) : EReal) - M') * v (n + j.val) else 0 := fun j => by
      rw [hb j, hu j]
      by_cases hj : n + j.val < n'
      · rw [if_pos hj, if_pos (Finset.mem_range.mpr (by omega))]
      · rw [if_neg hj, if_neg (by rw [Finset.mem_range]; omega), eμ', EReal.bot_sub, Ideal.exp2_bot, zero_mul]
    rw [Finset.sum_congr rfl fun j _ => e3 j, Fin.sum_univ_eq_sum_range (fun j => if j ∈ Finset.range (n' - n) then Ideal.exp2 ((σ (n + j) : EReal) - M') * v (n + j) else 0) w,
      ← Finset.sum_filter]
    refine Finset.sum_congr ?_ fun _ _ => rfl
    ext j
    simp only [Finset.mem_filter, Finset.mem_range]
    omega
  rw [hA, e1, e2]
  have e4 : n' = n + (n' - n) := by omega
  conv_rhs => rw [e4]
  rw [Finset.sum_range_add]

/-- Division of the weighted sum by the sum of the weights is the softmax of the reference. -/
theorem Run.attend {σ : ℕ → ℝ} {v one : ℕ → EReal} {n : ℕ} {M A D : EReal} (h : Run σ v n M A) (hD : Run σ one n M D)
    (h1 : ∀ j, j < n → one j = 1) (h0 : 0 < n)
    (hn : n ≤ 8192) (s u : Fin 8192 → EReal) (hs : ∀ k : Fin 8192, s k = if k.val < n then ((σ k.val * Real.log 2 : ℝ) : EReal) else ⊥)
    (hu : ∀ k : Fin 8192, k.val < n → u k = v k.val) : Ideal.div A D = softmaxDot s u := by
  obtain ⟨μ, hμ⟩ := sup_real σ n h0
  have eμ : M = (μ : EReal) := h.max_eq.trans hμ
  have hl : (0 : ℝ) < Real.log 2 := Real.log_pos (by norm_num)
  have eS : max (Ideal.ofBits .f32 0xFF800000#32) (Finset.fold max (Ideal.ofBits .f32 0xFF800000#32) s Finset.univ) = ((μ * Real.log 2 : ℝ) : EReal) := by
    rw [ninf, fold_max, max_eq_right bot_le]
    apply le_antisymm
    · refine Finset.sup_le fun k _ => ?_
      rw [hs k]
      split
      · next hk =>
        have := Finset.le_sup (f := fun j => (σ j : EReal)) (Finset.mem_range.mpr hk)
        rw [hμ, EReal.coe_le_coe_iff] at this
        exact EReal.coe_le_coe_iff.mpr (mul_le_mul_of_nonneg_right this hl.le)
      · exact bot_le
    · obtain ⟨j, hj, hj'⟩ := Finset.exists_mem_eq_sup (Finset.range n) ⟨0, Finset.mem_range.mpr h0⟩ fun j => (σ j : EReal)
      have hj := Finset.mem_range.mp hj
      rw [hμ] at hj'
      have e := hs ⟨j, by omega⟩
      rw [if_pos hj] at e
      rw [EReal.coe_eq_coe_iff.mp hj', ← e]
      exact Finset.le_sup (f := s) (Finset.mem_univ _)
  have eX : ∀ k : Fin 8192, Ideal.exp (s k - ((μ * Real.log 2 : ℝ) : EReal)) = if k.val < n then (((2 : ℝ) ^ (σ k.val - μ) : ℝ) : EReal) else 0 := fun k => by
    rw [hs k]
    split
    · rw [← EReal.coe_sub, Ideal.exp_coe, Real.rpow_def_of_pos (by norm_num)]
      congr 2; ring
    · rw [EReal.bot_sub, Ideal.exp_bot]
  have toRange : ∀ f : ℕ → EReal, ∑ k : Fin 8192, (if k.val < n then f k.val else 0) = ∑ j ∈ Finset.range n, f j := fun f => by
    rw [Fin.sum_univ_eq_sum_range (fun j => if j < n then f j else 0) 8192, ← Finset.sum_filter]
    refine Finset.sum_congr ?_ fun _ _ => rfl
    ext j
    simp only [Finset.mem_filter, Finset.mem_range]
    omega
  obtain ⟨z, hz⟩ : ∃ z : ℝ, z = ∑ j ∈ Finset.range n, (2 : ℝ) ^ (σ j - μ) := ⟨_, rfl⟩
  have z0 : 0 < z := hz ▸ Finset.sum_pos (fun j _ => Real.rpow_pos_of_pos (by norm_num) _) ⟨0, Finset.mem_range.mpr h0⟩
  have eD : D = (z : EReal) := by
    rw [hD.sum_eq, hz, ← sum_coe]
    refine Finset.sum_congr rfl fun j hj => ?_
    rw [h1 j (Finset.mem_range.mp hj), mul_one, eμ, exp2_sub]
  have eZ : ∑ k : Fin 8192, Ideal.exp (s k - ((μ * Real.log 2 : ℝ) : EReal)) = (z : EReal) := by
    refine (Finset.sum_congr rfl fun k _ => eX k).trans ((toRange fun j => (((2 : ℝ) ^ (σ j - μ) : ℝ) : EReal)).trans ?_)
    rw [hz]
    exact sum_coe _ _
  unfold softmaxDot
  rw [eS, eZ, eD, Ideal.div_coe z0.ne', h.sum_eq, sum_mul_coe _ _ _ (by positivity)]
  have eT : ∀ k : Fin 8192, u k * Ideal.div (Ideal.exp (s k - ((μ * Real.log 2 : ℝ) : EReal))) (z : EReal)
      = if k.val < n then Ideal.exp2 ((σ k.val : EReal) - M) * v k.val * ((1 / z : ℝ) : EReal) else 0 := fun k => by
    rw [eX k, Ideal.div_coe z0.ne']
    split
    · next hk => rw [hu k hk, eμ, exp2_sub, mul_comm (v k.val), mul_right_comm]
    · rw [zero_mul, mul_zero]
  exact ((Finset.sum_congr rfl fun k _ => eT k).trans (toRange fun j => Ideal.exp2 ((σ j : EReal) - M) * v j * ((1 / z : ℝ) : EReal))).symm

end Cert.Mla

end
-- ==== Proof.Mla.Steps.lean ====
/-
  One step of the kernel over a block of keys, read at a query row and a lane, is one step of the running maximum and
  weighted sum (`Cert.Mla.Run`): over a whole block of 2048, 1536, 1024 or 512 keys, and over the 512 keys that meet the
  causal mask.
-/
module

public import proofs.«01_k».proof.Proof.Mla.Tail
public import proofs.«01_k».proof.Proof.Mla.Math
public import Idealize.ShloMosaic.Lib.Pointwise
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.KernelIdeal.Mla

open Cert.KernelIdeal Cert.KernelIdeal.Gen
open Cert.Mla (Run)
open Idealize.ShloMosaic.WordCmp

/-- The signed value of a small word. -/
theorem toInt_small (a : ℕ) (h : a < 2 ^ 31) : (BitVec.ofNat 32 a).toInt = (a : ℤ) := by
  have e : (BitVec.ofNat 32 a).toNat = a := by rw [BitVec.toNat_ofNat]; exact Nat.mod_eq_of_lt (by omega)
  rw [BitVec.toInt_eq_toNat_cond, e, if_pos (by omega)]

/-- A choice by comparing two small words is a choice by comparing the numbers. -/
theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [cmpi_sge_eq, toInt_small a ha, toInt_small b hb]
  unfold Scalar.select
  by_cases h : b ≤ a
  · rw [if_pos h, if_pos (by simp [h])]
  · rw [if_neg h, if_neg (by simp [h])]

/-- The same for "less than". -/
theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [cmpi_slt_eq, toInt_small a ha, toInt_small b hb]
  unfold Scalar.select
  by_cases h : a < b
  · rw [if_pos h, if_pos (by simp [h])]
  · rw [if_neg h, if_neg (by simp [h])]

/-- The named constant of the mask is minus infinity. -/
theorem mask_eq : (Named.named κ "mask" 0xF149F2CA#32 : Ideal .f32) = (⊥ : EReal) :=
  (IdealRules.named_const.statement κ "mask" .f32 0xF149F2CA#32 ⊥ rfl).2.2

/-- A block of 2048 keys, none masked. -/
theorem step2048 {σ : ℕ → ℝ} {v : ℕ → EReal} {n : ℕ} (q : FVec Ideal S512x128 .bf16) (m : FVec Ideal S512x1 .f32)
    (a : FVec Ideal S512x128 .f32) (K V : Vec Ideal S2048x128 .bf16) (r : Fin 512) (l : Fin 128)
    (h : Run σ v n (m (ix2 r 0)) (a (ix2 r l)))
    (hs : ∀ j : Fin 2048, ∑ d : Fin 128, q (ix2 r d) * K (ix2 j d) = (σ (n + j.val) : EReal)) (hv : ∀ j : Fin 2048, V (ix2 j l) = v (n + j.val)) :
    Run σ v (n + 2048) (k0_pay18 q m K (ix2 r 0)) (k0_pay19 q m a K V (ix2 r l)) := by
  have eM : k0_pay18 q m K (ix2 r 0) = max (m (ix2 r 0)) (Finset.fold max ⊥ (fun j : Fin 2048 => ∑ d : Fin 128, q (ix2 r d) * K (ix2 j d)) Finset.univ) := by
    rw [← Cert.Mla.ninf]
    pointwise [k0_pay18, k0_pay17]
  have eA : k0_pay19 q m a K V (ix2 r l) = a (ix2 r l) * Ideal.exp2 (m (ix2 r 0) - k0_pay18 q m K (ix2 r 0))
      + ∑ j : Fin 2048, Ideal.exp2 (∑ d : Fin 128, q (ix2 r d) * K (ix2 j d) - k0_pay18 q m K (ix2 r 0)) * V (ix2 j l) := by
    rw [eM, ← Cert.Mla.ninf]
    pointwise [k0_pay19, k0_pay18, k0_pay17]
    rfl
  exact h.step (by omega) (le_refl _) _ (fun j => V (ix2 j l)) (fun j => by rw [if_pos (by omega)]; exact hs j) hv eM eA

/-- A block of 1536 keys, none masked. -/
theorem step1536 {σ : ℕ → ℝ} {v : ℕ → EReal} {n : ℕ} (q : FVec Ideal S512x128 .bf16) (m : FVec Ideal S512x1 .f32)
    (a : FVec Ideal S512x128 .f32) (K V : Vec Ideal S1536x128 .bf16) (r : Fin 512) (l : Fin 128)
    (h : Run σ v n (m (ix2 r 0)) (a (ix2 r l)))
    (hs : ∀ j : Fin 1536, ∑ d : Fin 128, q (ix2 r d) * K (ix2 j d) = (σ (n + j.val) : EReal)) (hv : ∀ j : Fin 1536, V (ix2 j l) = v (n + j.val)) :
    Run σ v (n + 1536) (k0_pay34 q m K (ix2 r 0)) (k0_pay35 q m a K V (ix2 r l)) := by
  have eM : k0_pay34 q m K (ix2 r 0) = max (m (ix2 r 0)) (Finset.fold max ⊥ (fun j : Fin 1536 => ∑ d : Fin 128, q (ix2 r d) * K (ix2 j d)) Finset.univ) := by
    rw [← Cert.Mla.ninf]
    pointwise [k0_pay34, k0_pay33]
  have eA : k0_pay35 q m a K V (ix2 r l) = a (ix2 r l) * Ideal.exp2 (m (ix2 r 0) - k0_pay34 q m K (ix2 r 0))
      + ∑ j : Fin 1536, Ideal.exp2 (∑ d : Fin 128, q (ix2 r d) * K (ix2 j d) - k0_pay34 q m K (ix2 r 0)) * V (ix2 j l) := by
    rw [eM, ← Cert.Mla.ninf]
    pointwise [k0_pay35, k0_pay34, k0_pay33]
    rfl
  exact h.step (by omega) (le_refl _) _ (fun j => V (ix2 j l)) (fun j => by rw [if_pos (by omega)]; exact hs j) hv eM eA

/-- A block of 1024 keys, none masked. -/
theorem step1024 {σ : ℕ → ℝ} {v : ℕ → EReal} {n : ℕ} (q : FVec Ideal S512x128 .bf16) (m : FVec Ideal S512x1 .f32)
    (a : FVec Ideal S512x128 .f32) (K V : Vec Ideal S1024x128 .bf16) (r : Fin 512) (l : Fin 128)
    (h : Run σ v n (m (ix2 r 0)) (a (ix2 r l)))
    (hs : ∀ j : Fin 1024, ∑ d : Fin 128, q (ix2 r d) * K (ix2 j d) = (σ (n + j.val) : EReal)) (hv : ∀ j : Fin 1024, V (ix2 j l) = v (n + j.val)) :
    Run σ v (n + 1024) (k0_pay57 q m K (ix2 r 0)) (k0_pay58 q m a K V (ix2 r l)) := by
  have eM : k0_pay57 q m K (ix2 r 0) = max (m (ix2 r 0)) (Finset.fold max ⊥ (fun j : Fin 1024 => ∑ d : Fin 128, q (ix2 r d) * K (ix2 j d)) Finset.univ) := by
    rw [← Cert.Mla.ninf]
    pointwise [k0_pay57, k0_pay56]
  have eA : k0_pay58 q m a K V (ix2 r l) = a (ix2 r l) * Ideal.exp2 (m (ix2 r 0) - k0_pay57 q m K (ix2 r 0))
      + ∑ j : Fin 1024, Ideal.exp2 (∑ d : Fin 128, q (ix2 r d) * K (ix2 j d) - k0_pay57 q m K (ix2 r 0)) * V (ix2 j l) := by
    rw [eM, ← Cert.Mla.ninf]
    pointwise [k0_pay58, k0_pay57, k0_pay56]
    rfl
  exact h.step (by omega) (le_refl _) _ (fun j => V (ix2 j l)) (fun j => by rw [if_pos (by omega)]; exact hs j) hv eM eA

/-- A block of 512 keys, none masked. -/
theorem step512 {σ : ℕ → ℝ} {v : ℕ → EReal} {n : ℕ} (q : FVec Ideal S512x128 .bf16) (m : FVec Ideal S512x1 .f32)
    (a : FVec Ideal S512x128 .f32) (K V : Vec Ideal S512x128 .bf16) (r : Fin 512) (l : Fin 128)
    (h : Run σ v n (m (ix2 r 0)) (a (ix2 r l)))
    (hs : ∀ j : Fin 512, ∑ d : Fin 128, q (ix2 r d) * K (ix2 j d) = (σ (n + j.val) : EReal)) (hv : ∀ j : Fin 512, V (ix2 j l) = v (n + j.val)) :
    Run σ v (n + 512) (k0_pay80 q m K (ix2 r 0)) (k0_pay81 q m a K V (ix2 r l)) := by
  have eM : k0_pay80 q m K (ix2 r 0) = max (m (ix2 r 0)) (Finset.fold max ⊥ (fun j : Fin 512 => ∑ d : Fin 128, q (ix2 r d) * K (ix2 j d)) Finset.univ) := by
    rw [← Cert.Mla.ninf]
    pointwise [k0_pay80, k0_pay79]
  have eA : k0_pay81 q m a K V (ix2 r l) = a (ix2 r l) * Ideal.exp2 (m (ix2 r 0) - k0_pay80 q m K (ix2 r 0))
      + ∑ j : Fin 512, Ideal.exp2 (∑ d : Fin 128, q (ix2 r d) * K (ix2 j d) - k0_pay80 q m K (ix2 r 0)) * V (ix2 j l) := by
    rw [eM, ← Cert.Mla.ninf]
    pointwise [k0_pay81, k0_pay80, k0_pay79]
    rfl
  exact h.step (by omega) (le_refl _) _ (fun j => V (ix2 j l)) (fun j => by rw [if_pos (by omega)]; exact hs j) hv eM eA

/-- The running maximum after the last block. -/
def lastMax (m : FVec Ideal S512x1 .f32) (q : FVec Ideal S512x128 .bf16) (K : Vec Ideal S512x128 .bf16) (r : Fin 512) : EReal :=
  max (m (ix2 r 0)) (Finset.fold max ⊥ (fun j : Fin 512 => if j.val ≤ r.val then ∑ d : Fin 128, q (ix2 r d) * K (ix2 j d) else ⊥) Finset.univ)

/-- The last block: 512 keys, those after the query masked. -/
theorem stepLast {σ : ℕ → ℝ} {v : ℕ → EReal} (g : ℕ) (hg : g < 16) (q : FVec Ideal S512x128 .bf16) (m : FVec Ideal S512x1 .f32)
    (a : FVec Ideal S512x128 .f32) (K V : Vec Ideal S512x128 .bf16) (r : Fin 512) (l : Fin 128)
    (h : Run σ v (512 * g) (m (ix2 r 0)) (a (ix2 r l)))
    (hs : ∀ j : Fin 512, ∑ d : Fin 128, q (ix2 r d) * K (ix2 j d) = (σ (512 * g + j.val) : EReal)) (hv : ∀ j : Fin 512, V (ix2 j l) = v (512 * g + j.val)) :
    Run σ v (512 * g + r.val + 1) (lastMax m q K r) (k0_pay102 (BitVec.ofNat 32 g) q (Scalar.muli (BitVec.ofNat 32 g) 512#32) m a K V (ix2 r l)) := by
  have eB : ∀ j : Fin 512, Scalar.select (IntOp.cmpi .sge (IntOp.addi (Scalar.muli (BitVec.ofNat 32 g) 512#32) (BitVec.ofNat 32 r.val))
        (IntOp.addi (Scalar.muli (BitVec.ofNat 32 g) 512#32) (BitVec.ofNat 32 j.val)))
      (∑ d : Fin 128, q (ix2 r d) * K (ix2 j d)) (Named.named κ "mask" 0xF149F2CA#32 : Ideal .f32)
      = if j.val ≤ r.val then ∑ d : Fin 128, q (ix2 r d) * K (ix2 j d) else ⊥ := fun j => by
    have e : Scalar.muli (BitVec.ofNat 32 g) 512#32 = BitVec.ofNat 32 (g * 512) := muli_ofNat g 512
    rw [e, addi_ofNat, addi_ofNat, select_sge _ _ (by omega) (by omega), mask_eq]
    by_cases hj : j.val ≤ r.val
    · rw [if_pos hj, if_pos (by omega)]
    · rw [if_neg hj, if_neg (by omega)]
  have eA : k0_pay102 (BitVec.ofNat 32 g) q (Scalar.muli (BitVec.ofNat 32 g) 512#32) m a K V (ix2 r l)
      = a (ix2 r l) * Ideal.exp2 (m (ix2 r 0) - max (m (ix2 r 0)) (Finset.fold max ⊥ (fun j : Fin 512 => if j.val ≤ r.val then ∑ d : Fin 128, q (ix2 r d) * K (ix2 j d) else ⊥) Finset.univ))
      + ∑ j : Fin 512, Ideal.exp2 ((if j.val ≤ r.val then ∑ d : Fin 128, q (ix2 r d) * K (ix2 j d) else ⊥)
          - max (m (ix2 r 0)) (Finset.fold max ⊥ (fun j : Fin 512 => if j.val ≤ r.val then ∑ d : Fin 128, q (ix2 r d) * K (ix2 j d) else ⊥) Finset.univ)) * V (ix2 j l) := by
    simp only [← eB]
    rw [← Cert.Mla.ninf]
    pointwise [k0_pay102]
    rfl
  refine h.step (w := 512) (n' := 512 * g + r.val + 1) (by omega) (by omega) _ (fun j => V (ix2 j l)) (fun j => ?_) hv rfl eA
  by_cases hj : j.val ≤ r.val
  · rw [if_pos hj, if_pos (by omega)]; exact hs j
  · rw [if_neg hj, if_neg (by omega)]

end Cert.KernelIdeal.Mla

end
-- ==== Proof.Mla.Frame.lean ====
module

public import proofs.«01_k».proof.Proof.Mla.Tail
public import Idealize.ShloMosaic.Lib.Claim

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the generated instances. -/
local notation "𝕄" => MT nD τ sig Unit (Elt F) ℕ (UR sig nD τ) ℕ

/-- The four heads' sums after the key blocks that follow the wide ones, whichever case holds. -/
def fins (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (x0 : Vec F S512x512 .bf16) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (S : StTy F) : AccTy F :=
  if h2 : k0_cond2 i = 1#1 then
    if h3 : k0_cond3 i = 1#1 then
      if h4 : k0_cond4 i = 1#1 then fins3 i h2 h3 h4 arg3 harg3 arg4 harg4 arg5 harg5 arg6 harg6 arg7 harg7 arg8 harg8 arg9 harg9 arg10 harg10 x0 X4 X7 X8 X9 X10 S
      else fins2 i h2 h3 h4 arg3 harg3 arg4 harg4 arg5 harg5 arg6 harg6 arg7 harg7 arg8 harg8 arg9 harg9 arg10 harg10 x0 X4 X7 X8 X9 X10 S
    else fins1 i h2 h3 arg3 harg3 arg4 harg4 arg5 harg5 arg6 harg6 arg7 harg7 arg8 harg8 arg9 harg9 arg10 harg10 x0 X4 X7 X8 X9 X10 S
  else fins0 i h2 arg3 harg3 arg4 harg4 arg5 harg5 arg6 harg6 arg7 harg7 arg8 harg8 arg9 harg9 arg10 harg10 x0 X4 X7 X8 X9 X10 S

/-- The output block of the body, from the blocks it is given and the contents of the four scratch buffers. -/
def bodyOut (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole) (x0 : Vec F S512x512 .bf16) (x1 : Vec F S8192x512 .bf16) (s7 s8 s9 s10 : Vec F S8192x128 .bf16) : Vec F S512x256 .bf16 :=
  outv (fins i arg3 harg3 arg4 harg4 arg5 harg5 arg6 harg6 arg7 harg7 arg8 harg8 arg9 harg9 arg10 harg10 x0 (harg4.unread x1) (harg7.unread s7) (harg8.unread s8) (harg9.unread s9) (harg10.unread s10) (wideSt c i arg3 harg3 arg4 harg4 arg5 harg5 arg6 harg6 arg7 harg7 arg8 harg8 arg9 harg9 arg10 harg10 x0 (harg4.unread x1) (harg7.unread s7) (harg8.unread s8) (harg9.unread s9) (harg10.unread s10)))

/-- The body, given a run of its head: the head's resources come back and the output block is filled. -/
theorem tail_run (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (x0 : Vec F S512x512 .bf16) (x1 : Vec F S8192x512 .bf16) (x2 : Vec F S8192x256 .bf16) (s7 s8 s9 s10 : Vec F S8192x128 .bf16)
    (E : Set ℕ) (R : sProp 𝕄)
    (hh : ∀ K : HeadTy F → sProp 𝕄, iprop(R ∗ (∀ y, iprop(⌜y = head_res i x0⌝ ∗ iprop(owns (c : Thread nD τ) arg3 fullShare x0 ∗ owns (c : Thread nD τ) arg5 fullShare x2 ∗ owns (c : Thread nD τ) arg7 fullShare s7 ∗ owns (c : Thread nD τ) arg8 fullShare s8 ∗ owns (c : Thread nD τ) arg9 fullShare s9 ∗ owns (c : Thread nD τ) arg10 fullShare s10)) -∗ K y))
      ⊢ wp frame (wpE (defs₀ (F := F)) Variants.none c none) E (k0_part17 (F := F) i arg3 harg3 arg4 harg4 arg5 harg5 arg6 harg6 arg7 harg7 arg8 harg8 arg9 harg9 arg10 harg10) K)
    (K : PUnit → sProp 𝕄) :
    iprop(R ∗ owns (c : Thread nD τ) arg4 fullShare x1 ∗ (∃ d, owns (c : Thread nD τ) arg6 fullShare d)
        ∗ (iprop(iprop(owns (c : Thread nD τ) arg3 fullShare x0 ∗ owns (c : Thread nD τ) arg5 fullShare x2 ∗ owns (c : Thread nD τ) arg7 fullShare s7 ∗ owns (c : Thread nD τ) arg8 fullShare s8 ∗ owns (c : Thread nD τ) arg9 fullShare s9 ∗ owns (c : Thread nD τ) arg10 fullShare s10) ∗ owns (c : Thread nD τ) arg4 fullShare x1 ∗ owns (c : Thread nD τ) arg6 fullShare (bodyOut c i arg3 harg3 arg4 harg4 arg5 harg5 arg6 harg6 arg7 harg7 arg8 harg8 arg9 harg9 arg10 harg10 x0 x1 s7 s8 s9 s10)) -∗ K ⟨⟩))
      ⊢ wp frame (wpE (defs₀ (F := F)) Variants.none c none) E (cc0_mla_attention (F := F) i arg3 harg3 arg4 harg4 arg5 harg5 arg6 harg6 arg7 harg7 arg8 harg8 arg9 harg9 arg10 harg10) K := by
  unfold bodyOut fins
  by_cases h2 : k0_cond2 i = 1#1
  · rw [dif_pos h2]
    by_cases h3 : k0_cond3 i = 1#1
    · rw [dif_pos h3]
      by_cases h4 : k0_cond4 i = 1#1
      · rw [dif_pos h4]
        exact tail3_run c i arg3 harg3 arg4 harg4 arg5 harg5 arg6 harg6 arg7 harg7 arg8 harg8 arg9 harg9 arg10 harg10 h2 h3 h4 x0 x1 x2 s7 s8 s9 s10 E R hh K
      · rw [dif_neg h4]
        exact tail2_run c i arg3 harg3 arg4 harg4 arg5 harg5 arg6 harg6 arg7 harg7 arg8 harg8 arg9 harg9 arg10 harg10 h2 h3 h4 x0 x1 x2 s7 s8 s9 s10 E R hh K
    · rw [dif_neg h3]
      exact tail1_run c i arg3 harg3 arg4 harg4 arg5 harg5 arg6 harg6 arg7 harg7 arg8 harg8 arg9 harg9 arg10 harg10 h2 h3 x0 x1 x2 s7 s8 s9 s10 E R hh K
  · rw [dif_neg h2]
    exact tail0_run c i arg3 harg3 arg4 harg4 arg5 harg5 arg6 harg6 arg7 harg7 arg8 harg8 arg9 harg9 arg10 harg10 h2 x0 x1 x2 s7 s8 s9 s10 E R hh K

/-! ## The grid points -/

/-- The head fills the scratch buffers at the first query block of each row of blocks. -/
theorem cond0_iff : ∀ t : Fin cfg0.N, cond0 (grid0.coords t) ↔ t.val % 16 = 0 := by decide +kernel

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .bf16 := win0_3.stage (cfg0.slots t 3)
abbrev hs0_3 (t : Fin cfg0.N) : (ms0_3 t).IsWhole := hstage0_3 ((cfg0.slots t 3).cast nbuf0_3)
abbrev scM0_0 : Memref sig .tc .vmem S8192x128 .bf16 := Memref.whole cc0_scratch0
abbrev scM0_1 : Memref sig .tc .vmem S8192x128 .bf16 := Memref.whole cc0_scratch1
abbrev scM0_2 : Memref sig .tc .vmem S8192x128 .bf16 := Memref.whole cc0_scratch2
abbrev scM0_3 : Memref sig .tc .vmem S8192x128 .bf16 := Memref.whole cc0_scratch3

/-- What the launch hands the region: the four scratch buffers and the generator register, each at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt F) ℓ) (ρ : Dev nD → PrngReg)

/-- The value block of a point, at its plain type. -/
abbrev vblk (c : Dev nD) (t : Fin cfg0.N) : Vec F S8192x256 .bf16 := iblk m c 2 t

/-- The four scratch buffers after a point: each head's values beside a column of ones. -/
abbrev S7 (c : Dev nD) (t : Fin cfg0.N) : Vec F S8192x128 .bf16 := k0_pay117 (vlo (vblk m c t))
abbrev S8 (c : Dev nD) (t : Fin cfg0.N) : Vec F S8192x128 .bf16 := k0_pay118 (vlo (vblk m c t))
abbrev S9 (c : Dev nD) (t : Fin cfg0.N) : Vec F S8192x128 .bf16 := k0_pay121 (vhi (vblk m c t))
abbrev S10 (c : Dev nD) (t : Fin cfg0.N) : Vec F S8192x128 .bf16 := k0_pay122 (vhi (vblk m c t))

/-- The output block of a point. -/
def outAt (c : Dev nD) (t : Fin cfg0.N) : Vec F S512x256 .bf16 :=
  bodyOut c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (S7 m c t) (S8 m c t) (S9 m c t) (S10 m c t)

/-- The invariant between points: before the first, anything; afterwards the scratch buffers of the point before. -/
def PhiS (c : Dev nD) : (n : ℕ) → n ≤ cfg0.N → sProp 𝕄
  | 0, _ => Pipeline.ΦA spec0 c
  | n + 1, hn => iprop(iprop(owns (c : Thread nD τ) scM0_0 fullShare (S7 m c ⟨n, hn⟩) ∗ owns (c : Thread nD τ) scM0_1 fullShare (S8 m c ⟨n, hn⟩) ∗ owns (c : Thread nD τ) scM0_2 fullShare (S9 m c ⟨n, hn⟩) ∗ owns (c : Thread nD τ) scM0_3 fullShare (S10 m c ⟨n, hn⟩)) ∗ (∃ r, prngReg c r))

theorem PhiS_zero (c : Dev nD) (n : ℕ) (h : n ≤ cfg0.N) (h0 : n = 0) : PhiS m c n h = Pipeline.ΦA spec0 c := by
  subst h0; rfl

theorem PhiS_succ (c : Dev nD) (n : ℕ) (h : n + 1 ≤ cfg0.N) :
    PhiS m c (n + 1) h = iprop(iprop(owns (c : Thread nD τ) scM0_0 fullShare (S7 m c ⟨n, h⟩) ∗ owns (c : Thread nD τ) scM0_1 fullShare (S8 m c ⟨n, h⟩) ∗ owns (c : Thread nD τ) scM0_2 fullShare (S9 m c ⟨n, h⟩) ∗ owns (c : Thread nD τ) scM0_3 fullShare (S10 m c ⟨n, h⟩)) ∗ (∃ r, prngReg c r)) := rfl

theorem PhiS_pos (c : Dev nD) (n : ℕ) (h : n ≤ cfg0.N) (h0 : n ≠ 0) :
    PhiS m c n h = iprop(iprop(owns (c : Thread nD τ) scM0_0 fullShare (S7 m c ⟨n - 1, by omega⟩) ∗ owns (c : Thread nD τ) scM0_1 fullShare (S8 m c ⟨n - 1, by omega⟩) ∗ owns (c : Thread nD τ) scM0_2 fullShare (S9 m c ⟨n - 1, by omega⟩) ∗ owns (c : Thread nD τ) scM0_3 fullShare (S10 m c ⟨n - 1, by omega⟩)) ∗ (∃ r, prngReg c r)) := by
  obtain ⟨k, rfl⟩ := Nat.exists_eq_succ_of_ne_zero h0
  rfl

/-- The proof data: the inputs stay, the output block is the body's. -/
def dats (p : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Within a row of query blocks the value block does not change. -/
theorem vblk_prev (c : Dev nD) (t : Fin cfg0.N) (h : ¬t.val % 16 = 0) :
    vblk m c ⟨t.val - 1, Nat.lt_of_le_of_lt (Nat.sub_le _ _) t.isLt⟩ = vblk m c t := by
  have hf : (cfg0.win 2).fetch t = false := by
    rw [← Bool.not_eq_true]; exact fun e => h ((fetch0_2 t).mp e)
  have e := (dats m 0 c).before_unfetched_in 2 rfl t hf (fun _ => rfl) (vblk m c t)
  rw [before0_2] at e
  refine Eq.trans ?_ e.symm
  unfold Dat.kept
  rw [after0_2]
  rfl

theorem S7_prev (c : Dev nD) (t : Fin cfg0.N) (h : ¬t.val % 16 = 0) :
    S7 m c ⟨t.val - 1, Nat.lt_of_le_of_lt (Nat.sub_le _ _) t.isLt⟩ = S7 m c t := congrArg (fun x => k0_pay117 (vlo x)) (vblk_prev m c t h)
theorem S8_prev (c : Dev nD) (t : Fin cfg0.N) (h : ¬t.val % 16 = 0) :
    S8 m c ⟨t.val - 1, Nat.lt_of_le_of_lt (Nat.sub_le _ _) t.isLt⟩ = S8 m c t := congrArg (fun x => k0_pay118 (vlo x)) (vblk_prev m c t h)
theorem S9_prev (c : Dev nD) (t : Fin cfg0.N) (h : ¬t.val % 16 = 0) :
    S9 m c ⟨t.val - 1, Nat.lt_of_le_of_lt (Nat.sub_le _ _) t.isLt⟩ = S9 m c t := congrArg (fun x => k0_pay121 (vhi x)) (vblk_prev m c t h)
theorem S10_prev (c : Dev nD) (t : Fin cfg0.N) (h : ¬t.val % 16 = 0) :
    S10 m c ⟨t.val - 1, Nat.lt_of_le_of_lt (Nat.sub_le _ _) t.isLt⟩ = S10 m c t := congrArg (fun x => k0_pay122 (vhi x)) (vblk_prev m c t h)

theorem Phi_castSucc (c : Dev nD) (t : Fin cfg0.N) : (dats m 0 c).Φ t.castSucc = PhiS m c t.val (Nat.le_of_lt t.isLt) := by
  dsimp only [dats]; rfl

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The head at the first query block of a row: whatever the scratch buffers held, they hold the value block's parts. -/
theorem head_init (c : Dev nD) (t : Fin cfg0.N) (hc : cond0 (grid0.coords t)) (E : Set ℕ) (K : HeadTy F → sProp 𝕄) :
    iprop(iprop(owns (c : Thread nD τ) (ms0_0 t) fullShare (iblk m c 0 t) ∗ owns (c : Thread nD τ) (ms0_2 t) fullShare (iblk m c 2 t) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
      ∗ (∀ y, iprop(⌜y = head_res (grid0.coords t) (iblk m c 0 t)⌝ ∗ iprop(owns (c : Thread nD τ) (ms0_0 t) fullShare (iblk m c 0 t) ∗ owns (c : Thread nD τ) (ms0_2 t) fullShare (iblk m c 2 t) ∗ owns (c : Thread nD τ) scM0_0 fullShare (S7 m c t) ∗ owns (c : Thread nD τ) scM0_1 fullShare (S8 m c t) ∗ owns (c : Thread nD τ) scM0_2 fullShare (S9 m c t) ∗ owns (c : Thread nD τ) scM0_3 fullShare (S10 m c t))) -∗ K y))
      ⊢ wp frame (wpE (defs₀ (F := F)) Variants.none c none) E (k0_part17 (F := F) (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _)) K :=
  init_run c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) hc (iblk m c 0 t) (iblk m c 2 t) E K

/-- The head elsewhere: the scratch buffers pass through. -/
theorem head_skip (c : Dev nD) (t : Fin cfg0.N) (hc : ¬cond0 (grid0.coords t)) (E : Set ℕ) (K : HeadTy F → sProp 𝕄) :
    iprop(iprop(owns (c : Thread nD τ) (ms0_0 t) fullShare (iblk m c 0 t) ∗ owns (c : Thread nD τ) (ms0_2 t) fullShare (iblk m c 2 t) ∗ owns (c : Thread nD τ) scM0_0 fullShare (S7 m c t) ∗ owns (c : Thread nD τ) scM0_1 fullShare (S8 m c t) ∗ owns (c : Thread nD τ) scM0_2 fullShare (S9 m c t) ∗ owns (c : Thread nD τ) scM0_3 fullShare (S10 m c t))
      ∗ (∀ y, iprop(⌜y = head_res (grid0.coords t) (iblk m c 0 t)⌝ ∗ iprop(owns (c : Thread nD τ) (ms0_0 t) fullShare (iblk m c 0 t) ∗ owns (c : Thread nD τ) (ms0_2 t) fullShare (iblk m c 2 t) ∗ owns (c : Thread nD τ) scM0_0 fullShare (S7 m c t) ∗ owns (c : Thread nD τ) scM0_1 fullShare (S8 m c t) ∗ owns (c : Thread nD τ) scM0_2 fullShare (S9 m c t) ∗ owns (c : Thread nD τ) scM0_3 fullShare (S10 m c t))) -∗ K y))
      ⊢ wp frame (wpE (defs₀ (F := F)) Variants.none c none) E (k0_part17 (F := F) (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _)) K := by
  iintro ⟨⟨H0, HR⟩, Hk⟩
  iapply (skip_run c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) hc (iblk m c 0 t) E K)
  isplitl [H0]; · iexact H0
  iintro %y ⟨%hy, H0⟩
  iapply Hk
  isplitr; · ipureintro; exact hy
  isplitl [H0]; · iexact H0
  iexact HR

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ, Phi_castSucc]
  unfold outAt
  by_cases h : t.val % 16 = 0
  · have hc := (cond0_iff t).mpr h
    by_cases hz : t.val = 0
    · rw [PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩⟩
      iapply (tail_run c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (S7 m c t) (S8 m c t) (S9 m c t) (S10 m c t) Set.univ _ (head_init m c t hc Set.univ) _)
      isplitl [H0 H2 HS0 HS1 HS2 HS3]
      · isplitl [H0]; · iexact H0
        isplitl [H2]; · iexact H2
        isplitl [HS0]; · iexact HS0
        isplitl [HS1]; · iexact HS1
        isplitl [HS2]; · iexact HS2
        iexact HS3
      isplitl [H1]; · iexact H1
      isplitl [H3]; · iexists _; iexact H3
      iintro ⟨⟨H0, H2, HS0, HS1, HS2, HS3⟩, H1, H3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      iexact H3
    · rw [PhiS_pos m c _ _ hz]
      iintro ⟨⟨⟨HS0, HS1, HS2, HS3⟩, Hg⟩, Ho, ⟨%d0, H0⟩, ⟨%d1, H1⟩, ⟨%d2, H2⟩, ⟨%d3, H3⟩⟩
      iapply (tail_run c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (S7 m c t) (S8 m c t) (S9 m c t) (S10 m c t) Set.univ _ (head_init m c t hc Set.univ) _)
      isplitl [H0 H2 HS0 HS1 HS2 HS3]
      · isplitl [H0]; · iexact H0
        isplitl [H2]; · iexact H2
        isplitl [HS0]; · iexists _; iexact HS0
        isplitl [HS1]; · iexists _; iexact HS1
        isplitl [HS2]; · iexists _; iexact HS2
        iexists _; iexact HS3
      isplitl [H1]; · iexact H1
      isplitl [H3]; · iexists _; iexact H3
      iintro ⟨⟨H0, H2, HS0, HS1, HS2, HS3⟩, H1, H3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      iexact H3
  · have hz : t.val ≠ 0 := fun e => h (by rw [e])
    rw [PhiS_pos m c _ _ hz, S7_prev m c t h, S8_prev m c t h, S9_prev m c t h, S10_prev m c t h]
    iintro ⟨⟨⟨HS0, HS1, HS2, HS3⟩, Hg⟩, Ho, ⟨%d0, H0⟩, ⟨%d1, H1⟩, ⟨%d2, H2⟩, ⟨%d3, H3⟩⟩
    iapply (tail_run c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (S7 m c t) (S8 m c t) (S9 m c t) (S10 m c t) Set.univ _ (head_skip m c t (fun e => h ((cond0_iff t).mp e)) Set.univ) _)
    isplitl [H0 H2 HS0 HS1 HS2 HS3]
    · isplitl [H0]; · iexact H0
      isplitl [H2]; · iexact H2
      isplitl [HS0]; · iexact HS0
      isplitl [HS1]; · iexact HS1
      isplitl [HS2]; · iexact HS2
      iexact HS3
    isplitl [H1]; · iexact H1
    isplitl [H3]; · iexists _; iexact H3
    iintro ⟨⟨H0, H2, HS0, HS1, HS2, HS3⟩, H1, H3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexact H3

/-- The body table's row at point `t`'s slots is the body as `bodyAt0` spells it. -/
theorem body_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the scratch buffers' contents are forgotten. -/
theorem hout (c : Dev nD) : (dats m 0 c).Φ (Fin.last cfg0.N) ⊢ Pipeline.ΦA spec0 c := by
  have hN : cfg0.N = 256 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

-- the launch lemma's implicit arguments are found by unifying its conclusion with this one, which takes unfolding plain
-- definitions in a metavariable's type
set_option backward.isDefEq.respectTransparency.types false in
set_option maxHeartbeats 800000 in
/-- The run: every array ends at what the proof data compute, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Mla

end
-- ==== Proof.Mla.Heads.lean ====
/-
  The running maximum and weighted sum of the four heads of a query block through the key blocks: the wide blocks of
  2048 keys, then the block of 512, 1024 or 1536 keys that reaches the query block, then the query block's own keys.
-/
module

public import proofs.«01_k».proof.Proof.Mla.Steps
public import proofs.«01_k».proof.Proof.Mla.Frame

@[expose] public section

set_option maxRecDepth 16384

noncomputable section

open Idealize.ShloMosaic Idealize.ShloMosaic.TcCoe Idealize.SL.Sem

namespace Cert.KernelIdeal.Mla

open Cert.KernelIdeal Cert.KernelIdeal.Gen
open Cert.Mla (Run)

/-- A lane of a scratch buffer, as a sequence over the keys. -/
def lane (s : Vec Ideal S8192x128 .bf16) (l : Fin 128) : ℕ → EReal := fun j => if h : j < 8192 then s (ix2 ⟨j, h⟩ l) else 0

/-- One head's state after `n` keys: every query row's running maximum, and every lane's weighted sum. -/
def Head (σ : Fin 512 → ℕ → ℝ) (s : Vec Ideal S8192x128 .bf16) (n : ℕ) (m : FVec Ideal S512x1 .f32) (a : FVec Ideal S512x128 .f32) : Prop :=
  ∀ r l, Run (σ r) (lane s l) n (m (ix2 r 0)) (a (ix2 r l))

/-- One head's sums after the query block's own keys: a query row has seen the keys up to its own. -/
def HeadLast (σ : Fin 512 → ℕ → ℝ) (s : Vec Ideal S8192x128 .bf16) (n : ℕ) (a : FVec Ideal S512x128 .f32) : Prop :=
  ∀ r : Fin 512, ∃ M, ∀ l, Run (σ r) (lane s l) (n + r.val + 1) M (a (ix2 r l))

/-- A head's scores: the product of a query row and a key row over the head's 128 columns. -/
def Scores (q : FVec Ideal S512x128 .bf16) (x1 : Vec Ideal S8192x512 .bf16) (e : ℕ) (he : e + 128 ≤ 512) (σ : Fin 512 → ℕ → ℝ) : Prop :=
  ∀ (r : Fin 512) (j : Fin 8192), ∑ d : Fin 128, q (ix2 r d) * x1 (ix2 j (⟨e + d.val, by omega⟩ : Fin 512)) = (σ r j.val : EReal)

/-- A rectangle of keys read at an index. -/
theorem ld_key {w : ℕ} (x : Vec Ideal S8192x512 .bf16) (o : Fin 2 → ℕ) (inb : ∀ k, o k + (⟨2, ![w, 128]⟩ : Shape).size k ≤ S8192x512.size k) (n e : ℕ)
    (ho : o = ![n, e]) (j : Fin w) (d : Fin 128) (hn : n + w ≤ 8192) (he : e + 128 ≤ 512) :
    (View.ld x (Rect.unit (s := S8192x512) o (⟨2, ![w, 128]⟩ : Shape).size inb) : Vec Ideal ⟨2, ![w, 128]⟩ .bf16) (ix2 j d) = x (ix2 (⟨n + j.val, by omega⟩ : Fin 8192) (⟨e + d.val, by omega⟩ : Fin 512)) := by
  subst ho
  refine congrArg x (funext fun k => Fin.ext ?_)
  fin_cases k <;> simp [Rect.unit, Rect.emb, LoadRect.idx]

/-- A rectangle of a scratch buffer read at an index. -/
theorem ld_val {w : ℕ} (x : Vec Ideal S8192x128 .bf16) (o : Fin 2 → ℕ) (inb : ∀ k, o k + (⟨2, ![w, 128]⟩ : Shape).size k ≤ S8192x128.size k) (n : ℕ)
    (ho : o = ![n, 0]) (j : Fin w) (l : Fin 128) (hn : n + w ≤ 8192) :
    (View.ld x (Rect.unit (s := S8192x128) o (⟨2, ![w, 128]⟩ : Shape).size inb) : Vec Ideal ⟨2, ![w, 128]⟩ .bf16) (ix2 j l) = lane x l (n + j.val) := by
  subst ho
  unfold lane
  rw [dif_pos (by omega)]
  refine congrArg x (funext fun k => Fin.ext ?_)
  fin_cases k <;> simp [Rect.unit, Rect.emb, LoadRect.idx]

/-- A head through a block of 2048 keys. -/
theorem Head.blk2048 {σ : Fin 512 → ℕ → ℝ} {s : Vec Ideal S8192x128 .bf16} {x1 : Vec Ideal S8192x512 .bf16} {q : FVec Ideal S512x128 .bf16} {e : ℕ} {he : e + 128 ≤ 512} {n : ℕ}
    {m : FVec Ideal S512x1 .f32} {a : FVec Ideal S512x128 .f32} (h : Head σ s n m a) (hs : Scores q x1 e he σ)
    {o o' : Fin 2 → ℕ} {inb : ∀ k, o k + S2048x128.size k ≤ S8192x512.size k} {inb' : ∀ k, o' k + S2048x128.size k ≤ S8192x128.size k}
    (ho : o = ![n, e]) (ho' : o' = ![n, 0]) (hn : n + 2048 ≤ 8192) :
    Head σ s (n + 2048) (k0_pay18 q m (View.ld x1 (Rect.unit (s := S8192x512) o S2048x128.size inb)))
      (k0_pay19 q m a (View.ld x1 (Rect.unit (s := S8192x512) o S2048x128.size inb)) (View.ld s (Rect.unit (s := S8192x128) o' S2048x128.size inb'))) := fun r l =>
  Mla.step2048 q m a _ _ r l (h r l)
    (fun j => (Finset.sum_congr rfl fun d _ => by rw [ld_key (w := 2048) x1 o inb n e ho j d hn he]).trans (hs r _))
    (fun j => ld_val (w := 2048) s o' inb' n ho' j l hn)

/-- A head through a block of 1536 keys. -/
theorem Head.blk1536 {σ : Fin 512 → ℕ → ℝ} {s : Vec Ideal S8192x128 .bf16} {x1 : Vec Ideal S8192x512 .bf16} {q : FVec Ideal S512x128 .bf16} {e : ℕ} {he : e + 128 ≤ 512} {n : ℕ}
    {m : FVec Ideal S512x1 .f32} {a : FVec Ideal S512x128 .f32} (h : Head σ s n m a) (hs : Scores q x1 e he σ)
    {o o' : Fin 2 → ℕ} {inb : ∀ k, o k + S1536x128.size k ≤ S8192x512.size k} {inb' : ∀ k, o' k + S1536x128.size k ≤ S8192x128.size k}
    (ho : o = ![n, e]) (ho' : o' = ![n, 0]) (hn : n + 1536 ≤ 8192) :
    Head σ s (n + 1536) (k0_pay34 q m (View.ld x1 (Rect.unit (s := S8192x512) o S1536x128.size inb)))
      (k0_pay35 q m a (View.ld x1 (Rect.unit (s := S8192x512) o S1536x128.size inb)) (View.ld s (Rect.unit (s := S8192x128) o' S1536x128.size inb'))) := fun r l =>
  Mla.step1536 q m a _ _ r l (h r l)
    (fun j => (Finset.sum_congr rfl fun d _ => by rw [ld_key (w := 1536) x1 o inb n e ho j d hn he]).trans (hs r _))
    (fun j => ld_val (w := 1536) s o' inb' n ho' j l hn)

/-- A head through a block of 1024 keys. -/
theorem Head.blk1024 {σ : Fin 512 → ℕ → ℝ} {s : Vec Ideal S8192x128 .bf16} {x1 : Vec Ideal S8192x512 .bf16} {q : FVec Ideal S512x128 .bf16} {e : ℕ} {he : e + 128 ≤ 512} {n : ℕ}
    {m : FVec Ideal S512x1 .f32} {a : FVec Ideal S512x128 .f32} (h : Head σ s n m a) (hs : Scores q x1 e he σ)
    {o o' : Fin 2 → ℕ} {inb : ∀ k, o k + S1024x128.size k ≤ S8192x512.size k} {inb' : ∀ k, o' k + S1024x128.size k ≤ S8192x128.size k}
    (ho : o = ![n, e]) (ho' : o' = ![n, 0]) (hn : n + 1024 ≤ 8192) :
    Head σ s (n + 1024) (k0_pay57 q m (View.ld x1 (Rect.unit (s := S8192x512) o S1024x128.size inb)))
      (k0_pay58 q m a (View.ld x1 (Rect.unit (s := S8192x512) o S1024x128.size inb)) (View.ld s (Rect.unit (s := S8192x128) o' S1024x128.size inb'))) := fun r l =>
  Mla.step1024 q m a _ _ r l (h r l)
    (fun j => (Finset.sum_congr rfl fun d _ => by rw [ld_key (w := 1024) x1 o inb n e ho j d hn he]).trans (hs r _))
    (fun j => ld_val (w := 1024) s o' inb' n ho' j l hn)

/-- A head through a block of 512 keys. -/
theorem Head.blk512 {σ : Fin 512 → ℕ → ℝ} {s : Vec Ideal S8192x128 .bf16} {x1 : Vec Ideal S8192x512 .bf16} {q : FVec Ideal S512x128 .bf16} {e : ℕ} {he : e + 128 ≤ 512} {n : ℕ}
    {m : FVec Ideal S512x1 .f32} {a : FVec Ideal S512x128 .f32} (h : Head σ s n m a) (hs : Scores q x1 e he σ)
    {o o' : Fin 2 → ℕ} {inb : ∀ k, o k + S512x128.size k ≤ S8192x512.size k} {inb' : ∀ k, o' k + S512x128.size k ≤ S8192x128.size k}
    (ho : o = ![n, e]) (ho' : o' = ![n, 0]) (hn : n + 512 ≤ 8192) :
    Head σ s (n + 512) (k0_pay80 q m (View.ld x1 (Rect.unit (s := S8192x512) o S512x128.size inb)))
      (k0_pay81 q m a (View.ld x1 (Rect.unit (s := S8192x512) o S512x128.size inb)) (View.ld s (Rect.unit (s := S8192x128) o' S512x128.size inb'))) := fun r l =>
  Mla.step512 q m a _ _ r l (h r l)
    (fun j => (Finset.sum_congr rfl fun d _ => by rw [ld_key (w := 512) x1 o inb n e ho j d hn he]).trans (hs r _))
    (fun j => ld_val (w := 512) s o' inb' n ho' j l hn)

/-- A head through the query block's own keys. -/
theorem Head.last {σ : Fin 512 → ℕ → ℝ} {s : Vec Ideal S8192x128 .bf16} {x1 : Vec Ideal S8192x512 .bf16} {q : FVec Ideal S512x128 .bf16} {e : ℕ} {he : e + 128 ≤ 512} {g : ℕ}
    {m : FVec Ideal S512x1 .f32} {a : FVec Ideal S512x128 .f32} (hg : g < 16) {n : ℕ} (h : Head σ s n m a) (hn : n = 512 * g) (hs : Scores q x1 e he σ)
    {o o' : Fin 2 → ℕ} {inb : ∀ k, o k + S512x128.size k ≤ S8192x512.size k} {inb' : ∀ k, o' k + S512x128.size k ≤ S8192x128.size k}
    (ho : o = ![512 * g, e]) (ho' : o' = ![512 * g, 0]) :
    HeadLast σ s (512 * g) (k0_pay102 (BitVec.ofNat 32 g) q (Scalar.muli (BitVec.ofNat 32 g) 512#32) m a
      (View.ld x1 (Rect.unit (s := S8192x512) o S512x128.size inb)) (View.ld s (Rect.unit (s := S8192x128) o' S512x128.size inb'))) := fun r => by
  subst hn
  exact ⟨lastMax m q (View.ld x1 (Rect.unit (s := S8192x512) o S512x128.size inb)) r, fun l => stepLast g hg q m a _ _ r l (h r l)
    (fun j => (Finset.sum_congr rfl fun d _ => by rw [ld_key (w := 512) x1 o inb (512 * g) e ho j d (by omega) he]).trans (hs r _))
    (fun j => ld_val (w := 512) s o' inb' (512 * g) ho' j l (by omega))⟩

/-- The four heads' states after `n` keys. -/
def Heads (σ : Fin 4 → Fin 512 → ℕ → ℝ) (s7 s8 s9 s10 : Vec Ideal S8192x128 .bf16) (n : ℕ) (S : StTy Ideal) : Prop :=
  Head (σ 0) s7 n S.1 S.2.1 ∧ Head (σ 1) s8 n S.2.2.1 S.2.2.2.1 ∧ Head (σ 2) s9 n S.2.2.2.2.1 S.2.2.2.2.2.1 ∧ Head (σ 3) s10 n S.2.2.2.2.2.2.1 S.2.2.2.2.2.2.2

/-- The four heads' scores. -/
def Scores4 (x0 : Vec Ideal S512x512 .bf16) (x1 : Vec Ideal S8192x512 .bf16) (σ : Fin 4 → Fin 512 → ℕ → ℝ) : Prop :=
  Scores (qh0 x0) x1 0 (by omega) (σ 0) ∧ Scores (qh1 x0) x1 128 (by omega) (σ 1) ∧ Scores (qh2 x0) x1 256 (by omega) (σ 2) ∧ Scores (qh3 x0) x1 384 (by omega) (σ 3)

/-- Before any key: the maximum is minus infinity and the sums are zero. -/
theorem heads_zero (σ : Fin 4 → Fin 512 → ℕ → ℝ) (s7 s8 s9 s10 : Vec Ideal S8192x128 .bf16) :
    Heads σ s7 s8 s9 s10 0 (k0_pay123, k0_pay124, k0_pay123, k0_pay124, k0_pay123, k0_pay124, k0_pay123, k0_pay124) := by
  have e : ∀ (σ : Fin 512 → ℕ → ℝ) s, Head σ s 0 k0_pay123 k0_pay124 := fun σ s r l => by
    have h1 : (k0_pay123 (F := Ideal)) (ix2 r 0) = (⊥ : EReal) := mask_eq
    have h2 : (k0_pay124 (F := Ideal)) (ix2 r l) = (0 : EReal) := by pointwise [k0_pay124]
    rw [h1, h2]
    exact Run.zero _ _
  exact ⟨e _ _, e _ _, e _ _, e _ _⟩

/-- The four heads' programs are the same. -/
theorem max_head1 (q : FVec Ideal S512x128 .bf16) (m : FVec Ideal S512x1 .f32) (K : Vec Ideal S2048x128 .bf16) : k0_pay21 q m K = k0_pay18 q m K := rfl
theorem sum_head1 (q : FVec Ideal S512x128 .bf16) (m : FVec Ideal S512x1 .f32) (a : FVec Ideal S512x128 .f32) (K V : Vec Ideal S2048x128 .bf16) : k0_pay22 q m a K V = k0_pay19 q m a K V := rfl
theorem max_head2 (q : FVec Ideal S512x128 .bf16) (m : FVec Ideal S512x1 .f32) (K : Vec Ideal S2048x128 .bf16) : k0_pay1 m (k0_pay24 q K) = k0_pay18 q m K := rfl
theorem sum_head2 (q : FVec Ideal S512x128 .bf16) (m : FVec Ideal S512x1 .f32) (a : FVec Ideal S512x128 .f32) (K V : Vec Ideal S2048x128 .bf16) : k0_pay2 m a (k0_pay23 q K) (k0_pay24 q K) V = k0_pay19 q m a K V := rfl
theorem max_head3 (q : FVec Ideal S512x128 .bf16) (m : FVec Ideal S512x1 .f32) (K : Vec Ideal S2048x128 .bf16) : k0_pay4 q m K = k0_pay18 q m K := rfl
theorem sum_head3 (q : FVec Ideal S512x128 .bf16) (m : FVec Ideal S512x1 .f32) (a : FVec Ideal S512x128 .f32) (K V : Vec Ideal S2048x128 .bf16) : k0_pay5 q m a K V = k0_pay19 q m a K V := rfl

/-- What a trip of the wide loop returns. -/
theorem trip_eq (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (v4 v6 v8 v10 : FVec Ideal S512x128 .bf16) (X4 : BufTy.Contents (Elt Ideal) arg4.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (k : Fin (k0_t1_loop i).trips) (S : StTy Ideal) :
    (trip_k0_t1 (F := Ideal) Variants.none c none i arg3 harg3 arg4 harg4 arg5 harg5 arg6 harg6 arg7 harg7 arg8 harg8 arg9 harg9 arg10 harg10 v4 v6 v8 v10 0#32 X4 X7 X8 X9 X10 k).1 S
    = (k0_pay18 v4 S.1 (View.ld (arg4.view.read (Elt Ideal) X4) (Rect.unit (s := S8192x512) (k0_off1 i k) S2048x128.size (k0_off1_inb i k))), k0_pay19 v4 S.1 S.2.1 (View.ld (arg4.view.read (Elt Ideal) X4) (Rect.unit (s := S8192x512) (k0_off1 i k) S2048x128.size (k0_off1_inb i k))) (View.ld (arg7.view.read (Elt Ideal) X7) (Rect.unit (s := S8192x128) (k0_off2 i k) S2048x128.size (k0_off2_inb i k))),
      k0_pay21 v6 S.2.2.1 (View.ld (arg4.view.read (Elt Ideal) X4) (Rect.unit (s := S8192x512) (k0_off3 i k) S2048x128.size (k0_off3_inb i k))), k0_pay22 v6 S.2.2.1 S.2.2.2.1 (View.ld (arg4.view.read (Elt Ideal) X4) (Rect.unit (s := S8192x512) (k0_off3 i k) S2048x128.size (k0_off3_inb i k))) (View.ld (arg8.view.read (Elt Ideal) X8) (Rect.unit (s := S8192x128) (k0_off2 i k) S2048x128.size (k0_off2_inb i k))),
      k0_pay1 S.2.2.2.2.1 (k0_pay24 v8 (View.ld (arg4.view.read (Elt Ideal) X4) (Rect.unit (s := S8192x512) (k0_off4 i k) S2048x128.size (k0_off4_inb i k)))), k0_pay2 S.2.2.2.2.1 S.2.2.2.2.2.1 (k0_pay23 v8 (View.ld (arg4.view.read (Elt Ideal) X4) (Rect.unit (s := S8192x512) (k0_off4 i k) S2048x128.size (k0_off4_inb i k)))) (k0_pay24 v8 (View.ld (arg4.view.read (Elt Ideal) X4) (Rect.unit (s := S8192x512) (k0_off4 i k) S2048x128.size (k0_off4_inb i k)))) (View.ld (arg9.view.read (Elt Ideal) X9) (Rect.unit (s := S8192x128) (k0_off2 i k) S2048x128.size (k0_off2_inb i k))),
      k0_pay4 v10 S.2.2.2.2.2.2.1 (View.ld (arg4.view.read (Elt Ideal) X4) (Rect.unit (s := S8192x512) (k0_off5 i k) S2048x128.size (k0_off5_inb i k))), k0_pay5 v10 S.2.2.2.2.2.2.1 S.2.2.2.2.2.2.2 (View.ld (arg4.view.read (Elt Ideal) X4) (Rect.unit (s := S8192x512) (k0_off5 i k) S2048x128.size (k0_off5_inb i k))) (View.ld (arg10.view.read (Elt Ideal) X10) (Rect.unit (s := S8192x128) (k0_off2 i k) S2048x128.size (k0_off2_inb i k)))) := by
  unfold trip_k0_t1
  rfl

/-- A trip of the wide loop. -/
theorem heads_trip (c : Dev nD) (i : grid0.Coords) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (x0 : Vec Ideal S512x512 .bf16) (x1 : Vec Ideal S8192x512 .bf16) (s7 s8 s9 s10 : Vec Ideal S8192x128 .bf16) (σ : Fin 4 → Fin 512 → ℕ → ℝ) (hs : Scores4 x0 x1 σ) (k : Fin (k0_t1_loop i).trips)
    (o1 : k0_off1 i k = ![2048 * k.val, 0])
    (o3 : k0_off3 i k = ![2048 * k.val, 128])
    (o4 : k0_off4 i k = ![2048 * k.val, 256])
    (o5 : k0_off5 i k = ![2048 * k.val, 384])
    (o2 : k0_off2 i k = ![2048 * k.val, 0]) (hk : 2048 * k.val + 2048 ≤ 8192) (S : StTy Ideal) (h : Heads σ s7 s8 s9 s10 (2048 * k.val) S) :
    Heads σ s7 s8 s9 s10 (2048 * k.val + 2048) ((trip_k0_t1 (F := Ideal) Variants.none c none i arg3 harg3 arg4 harg4 arg5 harg5 arg6 harg6 arg7 harg7 arg8 harg8 arg9 harg9 arg10 harg10 (qh0 x0) (qh1 x0) (qh2 x0) (qh3 x0) 0#32 (harg4.unread x1) (harg7.unread s7) (harg8.unread s8) (harg9.unread s9) (harg10.unread s10) k).1 S) := by
  rw [trip_eq, harg4.read_unread, harg7.read_unread, harg8.read_unread, harg9.read_unread, harg10.read_unread,
    max_head1, sum_head1, max_head2, sum_head2, max_head3, sum_head3]
  obtain ⟨h0, h1, h2, h3⟩ := h
  obtain ⟨p0, p1, p2, p3⟩ := hs
  exact ⟨h0.blk2048 p0 o1 o2 hk, h1.blk2048 p1 o3 o2 hk, h2.blk2048 p2 o4 o2 hk, h3.blk2048 p3 o5 o2 hk⟩

end Cert.KernelIdeal.Mla

end
-- ==== Proof.Mla.Point.lean ====
/-
  The output block of a grid point, from the four heads' scores: the wide loop makes one trip for every 2048 keys before
  the query block's group, the rest of the group comes in one block, and the query block's own keys last.
-/
module

public import proofs.«01_k».proof.Proof.Mla.Heads

@[expose] public section

set_option maxRecDepth 16384

noncomputable section

open Idealize.ShloMosaic Idealize.ShloMosaic.TcCoe Idealize.SL.Sem

namespace Cert.KernelIdeal.Mla

open Cert.KernelIdeal Cert.KernelIdeal.Gen
open Cert.Mla (Run)

/-- The query block of a grid point. -/
abbrev qb (t : Fin grid0.N) : ℕ := (grid0.coords t 2).val

/-! ## What the body computes with words at a grid point -/

theorem qb_lt : ∀ t : Fin grid0.N, qb t < 16 := by decide +kernel
theorem trips1 : ∀ t : Fin grid0.N, (k0_t1_loop (grid0.coords t)).trips = qb t / 4 := by decide +kernel
theorem trips2 : ∀ t : Fin grid0.N, (k0_t2_loop (grid0.coords t)).trips = 0 := by decide +kernel
theorem wide_offs : ∀ (t : Fin grid0.N) (k : Fin (k0_t1_loop (grid0.coords t)).trips),
    k0_off1 (grid0.coords t) k = ![2048 * k.val, 0] ∧ k0_off3 (grid0.coords t) k = ![2048 * k.val, 128]
      ∧ k0_off4 (grid0.coords t) k = ![2048 * k.val, 256] ∧ k0_off5 (grid0.coords t) k = ![2048 * k.val, 384]
      ∧ k0_off2 (grid0.coords t) k = ![2048 * k.val, 0] := by decide +kernel
theorem case0 : ∀ t : Fin grid0.N, ¬k0_cond2 (grid0.coords t) = 1#1 → 2048 * (qb t / 4) = 512 * qb t := by decide +kernel
theorem case1 : ∀ t : Fin grid0.N, k0_cond2 (grid0.coords t) = 1#1 → ¬k0_cond3 (grid0.coords t) = 1#1 → 2048 * (qb t / 4) + 512 = 512 * qb t := by decide +kernel
theorem case2 : ∀ t : Fin grid0.N, k0_cond2 (grid0.coords t) = 1#1 → k0_cond3 (grid0.coords t) = 1#1 → ¬k0_cond4 (grid0.coords t) = 1#1 → 2048 * (qb t / 4) + 1024 = 512 * qb t := by decide +kernel
theorem case3 : ∀ t : Fin grid0.N, k0_cond2 (grid0.coords t) = 1#1 → k0_cond3 (grid0.coords t) = 1#1 → k0_cond4 (grid0.coords t) = 1#1 → 2048 * (qb t / 4) + 1536 = 512 * qb t := by decide +kernel
theorem offs0 : ∀ t : Fin grid0.N, k0_off41 (grid0.coords t) = ![512 * qb t, 0]
    ∧ k0_off43 (grid0.coords t) = ![512 * qb t, 128]
    ∧ k0_off44 (grid0.coords t) = ![512 * qb t, 256]
    ∧ k0_off45 (grid0.coords t) = ![512 * qb t, 384]
    ∧ k0_off42 (grid0.coords t) = ![512 * qb t, 0] := by decide +kernel
theorem offs1 : ∀ t : Fin grid0.N, k0_off31 (grid0.coords t) = ![2048 * (qb t / 4), 0]
    ∧ k0_off33 (grid0.coords t) = ![2048 * (qb t / 4), 128]
    ∧ k0_off34 (grid0.coords t) = ![2048 * (qb t / 4), 256]
    ∧ k0_off35 (grid0.coords t) = ![2048 * (qb t / 4), 384]
    ∧ k0_off32 (grid0.coords t) = ![2048 * (qb t / 4), 0]
    ∧ k0_off36 (grid0.coords t) = ![512 * qb t, 0]
    ∧ k0_off38 (grid0.coords t) = ![512 * qb t, 128]
    ∧ k0_off39 (grid0.coords t) = ![512 * qb t, 256]
    ∧ k0_off40 (grid0.coords t) = ![512 * qb t, 384]
    ∧ k0_off37 (grid0.coords t) = ![512 * qb t, 0] := by decide +kernel
theorem offs2 : ∀ t : Fin grid0.N, k0_off21 (grid0.coords t) = ![2048 * (qb t / 4), 0]
    ∧ k0_off23 (grid0.coords t) = ![2048 * (qb t / 4), 128]
    ∧ k0_off24 (grid0.coords t) = ![2048 * (qb t / 4), 256]
    ∧ k0_off25 (grid0.coords t) = ![2048 * (qb t / 4), 384]
    ∧ k0_off22 (grid0.coords t) = ![2048 * (qb t / 4), 0]
    ∧ k0_off26 (grid0.coords t) = ![512 * qb t, 0]
    ∧ k0_off28 (grid0.coords t) = ![512 * qb t, 128]
    ∧ k0_off29 (grid0.coords t) = ![512 * qb t, 256]
    ∧ k0_off30 (grid0.coords t) = ![512 * qb t, 384]
    ∧ k0_off27 (grid0.coords t) = ![512 * qb t, 0] := by decide +kernel
theorem offs3 : ∀ t : Fin grid0.N, k0_off11 (grid0.coords t) = ![2048 * (qb t / 4), 0]
    ∧ k0_off13 (grid0.coords t) = ![2048 * (qb t / 4), 128]
    ∧ k0_off14 (grid0.coords t) = ![2048 * (qb t / 4), 256]
    ∧ k0_off15 (grid0.coords t) = ![2048 * (qb t / 4), 384]
    ∧ k0_off12 (grid0.coords t) = ![2048 * (qb t / 4), 0]
    ∧ k0_off16 (grid0.coords t) = ![512 * qb t, 0]
    ∧ k0_off18 (grid0.coords t) = ![512 * qb t, 128]
    ∧ k0_off19 (grid0.coords t) = ![512 * qb t, 256]
    ∧ k0_off20 (grid0.coords t) = ![512 * qb t, 384]
    ∧ k0_off17 (grid0.coords t) = ![512 * qb t, 0] := by decide +kernel

/-- The wide loop's state, by its trips. -/
theorem heads_wide (c : Dev nD) (t : Fin grid0.N) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (x0 : Vec Ideal S512x512 .bf16) (x1 : Vec Ideal S8192x512 .bf16) (s7 s8 s9 s10 : Vec Ideal S8192x128 .bf16) (σ : Fin 4 → Fin 512 → ℕ → ℝ) (hs : Scores4 x0 x1 σ) :
    ∀ n, n ≤ (k0_t1_loop (grid0.coords t)).trips → Heads σ s7 s8 s9 s10 (2048 * n)
      (st_k0_t1 (F := Ideal) Variants.none c none (grid0.coords t) arg3 harg3 arg4 harg4 arg5 harg5 arg6 harg6 arg7 harg7 arg8 harg8 arg9 harg9 arg10 harg10 (qh0 x0) (qh1 x0) (qh2 x0) (qh3 x0) 0#32 (harg4.unread x1) (harg7.unread s7) (harg8.unread s8) (harg9.unread s9) (harg10.unread s10) (k0_pay123, k0_pay124, k0_pay123, k0_pay124, k0_pay123, k0_pay124, k0_pay123, k0_pay124) n)
  | 0, _ => by rw [st_k0_t1_zero]; exact heads_zero σ s7 s8 s9 s10
  | n + 1, h => by
    have ih := heads_wide c t arg3 harg3 arg4 harg4 arg5 harg5 arg6 harg6 arg7 harg7 arg8 harg8 arg9 harg9 arg10 harg10 x0 x1 s7 s8 s9 s10 σ hs n (Nat.le_of_succ_le h)
    have hk : 2048 * n + 2048 ≤ 8192 := by
      have := trips1 t; have := qb_lt t; omega
    obtain ⟨o1, o3, o4, o5, o2⟩ := wide_offs t ⟨n, h⟩
    rw [show n + 1 = (⟨n, h⟩ : Fin (k0_t1_loop (grid0.coords t)).trips).val + 1 from rfl, st_k0_t1_succ]
    exact heads_trip c (grid0.coords t) arg3 harg3 arg4 harg4 arg5 harg5 arg6 harg6 arg7 harg7 arg8 harg8 arg9 harg9 arg10 harg10 x0 x1 s7 s8 s9 s10 σ hs ⟨n, h⟩ o1 o3 o4 o5 o2 hk _ ih

/-- The state after the wide key blocks. -/
theorem heads_wideSt (c : Dev nD) (t : Fin grid0.N) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (x0 : Vec Ideal S512x512 .bf16) (x1 : Vec Ideal S8192x512 .bf16) (s7 s8 s9 s10 : Vec Ideal S8192x128 .bf16) (σ : Fin 4 → Fin 512 → ℕ → ℝ) (hs : Scores4 x0 x1 σ) :
    Heads σ s7 s8 s9 s10 (2048 * (qb t / 4)) (wideSt (F := Ideal) c (grid0.coords t) arg3 harg3 arg4 harg4 arg5 harg5 arg6 harg6 arg7 harg7 arg8 harg8 arg9 harg9 arg10 harg10 x0 (harg4.unread x1) (harg7.unread s7) (harg8.unread s8) (harg9.unread s9) (harg10.unread s10)) := by
  have h := heads_wide c t arg3 harg3 arg4 harg4 arg5 harg5 arg6 harg6 arg7 harg7 arg8 harg8 arg9 harg9 arg10 harg10 x0 x1 s7 s8 s9 s10 σ hs _ (le_refl _)
  unfold wideSt
  rw [trips2]
  rw [trips1] at h ⊢
  exact h

/-- The four heads' sums after the query block's own keys. -/
def AllLast (σ : Fin 4 → Fin 512 → ℕ → ℝ) (s7 s8 s9 s10 : Vec Ideal S8192x128 .bf16) (n : ℕ) (f : AccTy Ideal) : Prop :=
  HeadLast (σ 0) s7 n f.1 ∧ HeadLast (σ 1) s8 n f.2.1 ∧ HeadLast (σ 2) s9 n f.2.2.1 ∧ HeadLast (σ 3) s10 n f.2.2.2

/-- The sums in case 0 of the key blocks after the wide ones. -/
theorem last0 (t : Fin grid0.N) (hc2 : ¬k0_cond2 (grid0.coords t) = 1#1) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (x0 : Vec Ideal S512x512 .bf16) (x1 : Vec Ideal S8192x512 .bf16) (s7 s8 s9 s10 : Vec Ideal S8192x128 .bf16) (σ : Fin 4 → Fin 512 → ℕ → ℝ) (hs : Scores4 x0 x1 σ)
    (S : StTy Ideal) (h : Heads σ s7 s8 s9 s10 (2048 * (qb t / 4)) S) :
    AllLast σ s7 s8 s9 s10 (512 * qb t) (fins0 (F := Ideal) (grid0.coords t) hc2 arg3 harg3 arg4 harg4 arg5 harg5 arg6 harg6 arg7 harg7 arg8 harg8 arg9 harg9 arg10 harg10 x0 (harg4.unread x1) (harg7.unread s7) (harg8.unread s8) (harg9.unread s9) (harg10.unread s10) S) := by
  have hq := qb_lt t
  have hn := case0 t hc2
  obtain ⟨d0, d1, d2, d3, dv⟩ := offs0 t
  obtain ⟨h0, h1, h2, h3⟩ := h
  obtain ⟨p0, p1, p2, p3⟩ := hs
  unfold fins0 row0
  rw [harg4.read_unread, harg7.read_unread, harg8.read_unread, harg9.read_unread, harg10.read_unread]
  exact ⟨h0.last hq hn p0 d0 dv, h1.last hq hn p1 d1 dv, h2.last hq hn p2 d2 dv, h3.last hq hn p3 d3 dv⟩

/-- The sums in case 1 of the key blocks after the wide ones. -/
theorem last1 (t : Fin grid0.N) (hc2 : k0_cond2 (grid0.coords t) = 1#1) (hc3 : ¬k0_cond3 (grid0.coords t) = 1#1) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (x0 : Vec Ideal S512x512 .bf16) (x1 : Vec Ideal S8192x512 .bf16) (s7 s8 s9 s10 : Vec Ideal S8192x128 .bf16) (σ : Fin 4 → Fin 512 → ℕ → ℝ) (hs : Scores4 x0 x1 σ)
    (S : StTy Ideal) (h : Heads σ s7 s8 s9 s10 (2048 * (qb t / 4)) S) :
    AllLast σ s7 s8 s9 s10 (512 * qb t) (fins1 (F := Ideal) (grid0.coords t) hc2 hc3 arg3 harg3 arg4 harg4 arg5 harg5 arg6 harg6 arg7 harg7 arg8 harg8 arg9 harg9 arg10 harg10 x0 (harg4.unread x1) (harg7.unread s7) (harg8.unread s8) (harg9.unread s9) (harg10.unread s10) S) := by
  have hq := qb_lt t
  have hn := case1 t hc2 hc3
  obtain ⟨a0, a1, a2, a3, av, d0, d1, d2, d3, dv⟩ := offs1 t
  obtain ⟨h0, h1, h2, h3⟩ := h
  obtain ⟨p0, p1, p2, p3⟩ := hs
  unfold fins1 row0
  rw [harg4.read_unread, harg7.read_unread, harg8.read_unread, harg9.read_unread, harg10.read_unread]
  exact ⟨(h0.blk512 p0 a0 av (by omega)).last hq hn p0 d0 dv,
    (h1.blk512 p1 a1 av (by omega)).last hq hn p1 d1 dv,
    (h2.blk512 p2 a2 av (by omega)).last hq hn p2 d2 dv,
    (h3.blk512 p3 a3 av (by omega)).last hq hn p3 d3 dv⟩

/-- The sums in case 2 of the key blocks after the wide ones. -/
theorem last2 (t : Fin grid0.N) (hc2 : k0_cond2 (grid0.coords t) = 1#1) (hc3 : k0_cond3 (grid0.coords t) = 1#1) (hc4 : ¬k0_cond4 (grid0.coords t) = 1#1) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (x0 : Vec Ideal S512x512 .bf16) (x1 : Vec Ideal S8192x512 .bf16) (s7 s8 s9 s10 : Vec Ideal S8192x128 .bf16) (σ : Fin 4 → Fin 512 → ℕ → ℝ) (hs : Scores4 x0 x1 σ)
    (S : StTy Ideal) (h : Heads σ s7 s8 s9 s10 (2048 * (qb t / 4)) S) :
    AllLast σ s7 s8 s9 s10 (512 * qb t) (fins2 (F := Ideal) (grid0.coords t) hc2 hc3 hc4 arg3 harg3 arg4 harg4 arg5 harg5 arg6 harg6 arg7 harg7 arg8 harg8 arg9 harg9 arg10 harg10 x0 (harg4.unread x1) (harg7.unread s7) (harg8.unread s8) (harg9.unread s9) (harg10.unread s10) S) := by
  have hq := qb_lt t
  have hn := case2 t hc2 hc3 hc4
  obtain ⟨a0, a1, a2, a3, av, d0, d1, d2, d3, dv⟩ := offs2 t
  obtain ⟨h0, h1, h2, h3⟩ := h
  obtain ⟨p0, p1, p2, p3⟩ := hs
  unfold fins2 row0
  rw [harg4.read_unread, harg7.read_unread, harg8.read_unread, harg9.read_unread, harg10.read_unread]
  exact ⟨(h0.blk1024 p0 a0 av (by omega)).last hq hn p0 d0 dv,
    (h1.blk1024 p1 a1 av (by omega)).last hq hn p1 d1 dv,
    (h2.blk1024 p2 a2 av (by omega)).last hq hn p2 d2 dv,
    (h3.blk1024 p3 a3 av (by omega)).last hq hn p3 d3 dv⟩

/-- The sums in case 3 of the key blocks after the wide ones. -/
theorem last3 (t : Fin grid0.N) (hc2 : k0_cond2 (grid0.coords t) = 1#1) (hc3 : k0_cond3 (grid0.coords t) = 1#1) (hc4 : k0_cond4 (grid0.coords t) = 1#1) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (x0 : Vec Ideal S512x512 .bf16) (x1 : Vec Ideal S8192x512 .bf16) (s7 s8 s9 s10 : Vec Ideal S8192x128 .bf16) (σ : Fin 4 → Fin 512 → ℕ → ℝ) (hs : Scores4 x0 x1 σ)
    (S : StTy Ideal) (h : Heads σ s7 s8 s9 s10 (2048 * (qb t / 4)) S) :
    AllLast σ s7 s8 s9 s10 (512 * qb t) (fins3 (F := Ideal) (grid0.coords t) hc2 hc3 hc4 arg3 harg3 arg4 harg4 arg5 harg5 arg6 harg6 arg7 harg7 arg8 harg8 arg9 harg9 arg10 harg10 x0 (harg4.unread x1) (harg7.unread s7) (harg8.unread s8) (harg9.unread s9) (harg10.unread s10) S) := by
  have hq := qb_lt t
  have hn := case3 t hc2 hc3 hc4
  obtain ⟨a0, a1, a2, a3, av, d0, d1, d2, d3, dv⟩ := offs3 t
  obtain ⟨h0, h1, h2, h3⟩ := h
  obtain ⟨p0, p1, p2, p3⟩ := hs
  unfold fins3 row0
  rw [harg4.read_unread, harg7.read_unread, harg8.read_unread, harg9.read_unread, harg10.read_unread]
  exact ⟨(h0.blk1536 p0 a0 av (by omega)).last hq hn p0 d0 dv,
    (h1.blk1536 p1 a1 av (by omega)).last hq hn p1 d1 dv,
    (h2.blk1536 p2 a2 av (by omega)).last hq hn p2 d2 dv,
    (h3.blk1536 p3 a3 av (by omega)).last hq hn p3 d3 dv⟩

/-- The sums whichever case holds. -/
theorem last_fins (c : Dev nD) (t : Fin grid0.N) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (x0 : Vec Ideal S512x512 .bf16) (x1 : Vec Ideal S8192x512 .bf16) (s7 s8 s9 s10 : Vec Ideal S8192x128 .bf16) (σ : Fin 4 → Fin 512 → ℕ → ℝ) (hs : Scores4 x0 x1 σ) :
    AllLast σ s7 s8 s9 s10 (512 * qb t) (fins (F := Ideal) (grid0.coords t) arg3 harg3 arg4 harg4 arg5 harg5 arg6 harg6 arg7 harg7 arg8 harg8 arg9 harg9 arg10 harg10 x0 (harg4.unread x1) (harg7.unread s7) (harg8.unread s8) (harg9.unread s9) (harg10.unread s10) (wideSt (F := Ideal) c (grid0.coords t) arg3 harg3 arg4 harg4 arg5 harg5 arg6 harg6 arg7 harg7 arg8 harg8 arg9 harg9 arg10 harg10 x0 (harg4.unread x1) (harg7.unread s7) (harg8.unread s8) (harg9.unread s9) (harg10.unread s10))) := by
  have h := heads_wideSt c t arg3 harg3 arg4 harg4 arg5 harg5 arg6 harg6 arg7 harg7 arg8 harg8 arg9 harg9 arg10 harg10 x0 x1 s7 s8 s9 s10 σ hs
  unfold fins
  by_cases h2 : k0_cond2 (grid0.coords t) = 1#1
  · rw [dif_pos h2]
    by_cases h3 : k0_cond3 (grid0.coords t) = 1#1
    · rw [dif_pos h3]
      by_cases h4 : k0_cond4 (grid0.coords t) = 1#1
      · rw [dif_pos h4]; exact last3 t h2 h3 h4 arg3 harg3 arg4 harg4 arg5 harg5 arg6 harg6 arg7 harg7 arg8 harg8 arg9 harg9 arg10 harg10 x0 x1 s7 s8 s9 s10 σ hs _ h
      · rw [dif_neg h4]; exact last2 t h2 h3 h4 arg3 harg3 arg4 harg4 arg5 harg5 arg6 harg6 arg7 harg7 arg8 harg8 arg9 harg9 arg10 harg10 x0 x1 s7 s8 s9 s10 σ hs _ h
    · rw [dif_neg h3]; exact last1 t h2 h3 arg3 harg3 arg4 harg4 arg5 harg5 arg6 harg6 arg7 harg7 arg8 harg8 arg9 harg9 arg10 harg10 x0 x1 s7 s8 s9 s10 σ hs _ h
  · rw [dif_neg h2]; exact last0 t h2 arg3 harg3 arg4 harg4 arg5 harg5 arg6 harg6 arg7 harg7 arg8 harg8 arg9 harg9 arg10 harg10 x0 x1 s7 s8 s9 s10 σ hs _ h

end Cert.KernelIdeal.Mla

end
-- ==== Proof.Mla.Out.lean ====
/-
  The output block of a grid point, element by element: the weighted sum of the values of a head over the sum of its
  weights, which the other half of the head's lanes has gathered over a column of ones.
-/
module

public import proofs.«01_k».proof.Proof.Mla.Point

@[expose] public section

set_option maxRecDepth 16384

noncomputable section

open Idealize.ShloMosaic Idealize.ShloMosaic.TcCoe Idealize.SL.Sem

namespace Cert.KernelIdeal.Mla

open Cert.KernelIdeal Cert.KernelIdeal.Gen
open Cert.Mla (Run softmaxDot)

/-- The two halves of the output block, lane by lane. -/
theorem outv_apply (f : AccTy Ideal) (r : Fin 512) (p : Fin 256) :
    outv f (ix2 r p) = if p.val < 128 then k0_pay15 k0_pay110 f.1 f.2.1 (ix2 r (⟨p.val % 128, Nat.mod_lt _ (by decide)⟩ : Fin 128))
      else k0_pay16 k0_pay110 f.2.2.1 f.2.2.2 (ix2 r (⟨p.val % 128, Nat.mod_lt _ (by decide)⟩ : Fin 128)) := by
  unfold outv
  refine View.canon_apply_of_pieces (fun y : S512x256.Idx => if (y 1).val < 128 then k0_pay15 k0_pay110 f.1 f.2.1 (ix2 (y 0) (⟨(y 1).val % 128, Nat.mod_lt _ (by decide)⟩ : Fin 128))
      else k0_pay16 k0_pay110 f.2.2.1 f.2.2.2 (ix2 (y 0) (⟨(y 1).val % 128, Nat.mod_lt _ (by decide)⟩ : Fin 128))) _ ?_ (ix2 r p) (outL_cover f (ix2 r p))
  intro pc hpc x
  rcases List.mem_cons.mp hpc with rfl | hpc
  · have hx : (x 1).val < 128 := (x 1).isLt
    have e : ((Rect.unit (s := S512x256) ![0, 128] S512x128.size inb_S512x256_S512x128_0_128).emb x 1).val = 128 + (x 1).val := by
      show 128 + 1 * (x 1).val = _; omega
    have e0 : ((Rect.unit (s := S512x256) ![0, 128] S512x128.size inb_S512x256_S512x128_0_128).emb x 0).val = (x 0).val := by
      show 0 + 1 * (x 0).val = _; omega
    refine Eq.symm ((if_neg (by rw [e]; omega)).trans (congrArg (k0_pay16 k0_pay110 f.2.2.1 f.2.2.2) (funext fun a => Fin.ext ?_)))
    match a with
    | ⟨0, _⟩ => exact e0
    | ⟨1, _⟩ => show _ % 128 = (x 1).val; rw [e]; omega
  rcases List.mem_cons.mp hpc with rfl | hpc
  · have hx : (x 1).val < 128 := (x 1).isLt
    have e : ((Rect.unit (s := S512x256) ![0, 0] S512x128.size inb_S512x256_S512x128_0_0).emb x 1).val = (x 1).val := by
      show 0 + 1 * (x 1).val = _; omega
    have e0 : ((Rect.unit (s := S512x256) ![0, 0] S512x128.size inb_S512x256_S512x128_0_0).emb x 0).val = (x 0).val := by
      show 0 + 1 * (x 0).val = _; omega
    refine Eq.symm ((if_pos (by rw [e]; omega)).trans (congrArg (k0_pay15 k0_pay110 f.1 f.2.1) (funext fun a => Fin.ext ?_)))
    match a with
    | ⟨0, _⟩ => exact e0
    | ⟨1, _⟩ => show _ % 128 = (x 1).val; rw [e]; omega
  nomatch hpc

/-- Half the lanes of the output are the one head's, half the other's, each over the sum of its weights. -/
theorem quot15 (a b : FVec Ideal S512x128 .f32) (r : Fin 512) (l : Fin 128) :
    k0_pay15 k0_pay110 a b (ix2 r l) = Ideal.div (if l.val < 64 then a (ix2 r l) else b (ix2 r l))
      (if l.val < 64 then a (ix2 r (⟨(l.val + 128 - 64) % 128, Nat.mod_lt _ (by decide)⟩ : Fin 128)) else b (ix2 r (⟨(l.val + 128 - 64) % 128, Nat.mod_lt _ (by decide)⟩ : Fin 128))) := by
  rw [← select_slt l.val 64 (by omega) (by omega), ← select_slt l.val 64 (by omega) (by omega)]
  pointwise [k0_pay15, k0_pay110]

/-- Half the lanes of the output are the one head's, half the other's, each over the sum of its weights. -/
theorem quot16 (a b : FVec Ideal S512x128 .f32) (r : Fin 512) (l : Fin 128) :
    k0_pay16 k0_pay110 a b (ix2 r l) = Ideal.div (if l.val < 64 then a (ix2 r l) else b (ix2 r l))
      (if l.val < 64 then a (ix2 r (⟨(l.val + 128 - 64) % 128, Nat.mod_lt _ (by decide)⟩ : Fin 128)) else b (ix2 r (⟨(l.val + 128 - 64) % 128, Nat.mod_lt _ (by decide)⟩ : Fin 128))) := by
  rw [← select_slt l.val 64 (by omega) (by omega), ← select_slt l.val 64 (by omega) (by omega)]
  pointwise [k0_pay16, k0_pay110]

/-- A scratch buffer: half its lanes the values, half ones. -/
theorem scratch117 (x : Vec Ideal S8192x128 .bf16) (j : Fin 8192) (l : Fin 128) :
    k0_pay117 x (ix2 j l) = if l.val < 64 then x (ix2 j l) else (1 : EReal) := by
  rw [← select_slt l.val 64 (by omega) (by omega)]
  pointwise [k0_pay117, k0_pay115, k0_pay116]

/-- A scratch buffer: half its lanes the values, half ones. -/
theorem scratch118 (x : Vec Ideal S8192x128 .bf16) (j : Fin 8192) (l : Fin 128) :
    k0_pay118 x (ix2 j l) = if l.val < 64 then (1 : EReal) else x (ix2 j l) := by
  rw [← select_slt l.val 64 (by omega) (by omega)]
  pointwise [k0_pay118, k0_pay115, k0_pay116]

/-- A scratch buffer: half its lanes the values, half ones. -/
theorem scratch121 (x : Vec Ideal S8192x128 .bf16) (j : Fin 8192) (l : Fin 128) :
    k0_pay121 x (ix2 j l) = if l.val < 64 then x (ix2 j l) else (1 : EReal) := by
  rw [← select_slt l.val 64 (by omega) (by omega)]
  pointwise [k0_pay121, k0_pay119, k0_pay120]

/-- A scratch buffer: half its lanes the values, half ones. -/
theorem scratch122 (x : Vec Ideal S8192x128 .bf16) (j : Fin 8192) (l : Fin 128) :
    k0_pay122 x (ix2 j l) = if l.val < 64 then (1 : EReal) else x (ix2 j l) := by
  rw [← select_slt l.val 64 (by omega) (by omega)]
  pointwise [k0_pay122, k0_pay119, k0_pay120]

theorem vlo_apply (x : Vec Ideal S8192x256 .bf16) (j : Fin 8192) (l : Fin 128) : vlo x (ix2 j l) = x (ix2 j (⟨l.val, by omega⟩ : Fin 256)) := by
  refine congrArg x (funext fun k => Fin.ext ?_)
  fin_cases k <;> simp [Rect.unit, Rect.emb, LoadRect.idx]

theorem vhi_apply (x : Vec Ideal S8192x256 .bf16) (j : Fin 8192) (l : Fin 128) : vhi x (ix2 j l) = x (ix2 j (⟨128 + l.val, by omega⟩ : Fin 256)) := by
  refine congrArg x (funext fun k => Fin.ext ?_)
  fin_cases k <;> simp [Rect.unit, Rect.emb, LoadRect.idx]

/-- One head's lane of the output over its sum of weights is the reference's softmax. -/
theorem HeadLast.attend {σ : Fin 512 → ℕ → ℝ} {sc : Vec Ideal S8192x128 .bf16} {n : ℕ} {a : FVec Ideal S512x128 .f32} (h : HeadLast σ sc n a) (hn : n + 512 ≤ 8192)
    (r : Fin 512) (l l' : Fin 128) (h1 : ∀ j : Fin 8192, sc (ix2 j l') = (1 : EReal)) (s u : Fin 8192 → EReal)
    (hs : ∀ k : Fin 8192, s k = if k.val < n + r.val + 1 then ((σ r k.val * Real.log 2 : ℝ) : EReal) else ⊥)
    (hu : ∀ k : Fin 8192, u k = sc (ix2 k l)) : Ideal.div (a (ix2 r l)) (a (ix2 r l')) = softmaxDot s u := by
  obtain ⟨M, hM⟩ := h r
  have e : ∀ (k : Fin 8192) (i : Fin 128), lane sc i k.val = sc (ix2 k i) := fun k i => by
    unfold lane; rw [dif_pos k.isLt]
  exact (hM l).attend (hM l') (fun j hj => (e ⟨j, by omega⟩ l').trans (h1 _)) (by omega) (by omega) s u hs (fun k _ => (hu k).trans (e k l).symm)

/-- The output block of a grid point, at a query row and a column. -/
theorem body_value (c : Dev nD) (t : Fin grid0.N) (arg3 : Memref sig .tc .vmem S512x512 .bf16) (harg3 : arg3.IsWhole) (arg4 : Memref sig .tc .vmem S8192x512 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .bf16) (harg9 : arg9.IsWhole) (arg10 : Memref sig .tc .vmem S8192x128 .bf16) (harg10 : arg10.IsWhole)
    (x0 : Vec Ideal S512x512 .bf16) (x1 : Vec Ideal S8192x512 .bf16) (x2 : Vec Ideal S8192x256 .bf16) (σ : Fin 4 → Fin 512 → ℕ → ℝ) (hs : Scores4 x0 x1 σ)
    (r : Fin 512) (p : Fin 256) (s u : Fin 8192 → EReal)
    (hsc : ∀ k : Fin 8192, s k = if k.val < 512 * qb t + r.val + 1 then ((σ (⟨p.val / 64, by omega⟩ : Fin 4) r k.val * Real.log 2 : ℝ) : EReal) else ⊥)
    (hu : ∀ k : Fin 8192, u k = x2 (ix2 k p)) :
    bodyOut (F := Ideal) c (grid0.coords t) arg3 harg3 arg4 harg4 arg5 harg5 arg6 harg6 arg7 harg7 arg8 harg8 arg9 harg9 arg10 harg10 x0 x1 (k0_pay117 (vlo x2)) (k0_pay118 (vlo x2)) (k0_pay121 (vhi x2)) (k0_pay122 (vhi x2)) (ix2 r p) = softmaxDot s u := by
  have hq := qb_lt t
  obtain ⟨q0, q1, q2, q3⟩ := last_fins c t arg3 harg3 arg4 harg4 arg5 harg5 arg6 harg6 arg7 harg7 arg8 harg8 arg9 harg9 arg10 harg10 x0 x1 (k0_pay117 (vlo x2)) (k0_pay118 (vlo x2)) (k0_pay121 (vhi x2)) (k0_pay122 (vhi x2)) σ hs
  have hp := p.isLt
  unfold bodyOut
  rw [outv_apply, quot15, quot16]
  dsimp only
  rcases (show p.val / 64 = 0 ∨ p.val / 64 = 1 ∨ p.val / 64 = 2 ∨ p.val / 64 = 3 by omega) with e | e | e | e
  · rw [if_pos (by omega), if_pos (by omega), if_pos (by omega)]
    refine q0.attend (by omega) r _ _ (fun j => ?_) s u (fun k => (hsc k).trans ?_) (fun k => (hu k).trans ?_)
    · rw [scratch117, if_neg (by show ¬(p.val % 128 + 128 - 64) % 128 < 64; omega)]
    · rw [show (⟨p.val / 64, by omega⟩ : Fin 4) = 0 from Fin.ext e]
    · rw [scratch117, if_pos (by show p.val % 128 < 64; omega), vlo_apply]
      exact congrArg x2 (congrArg (ix2 k) (Fin.ext (by show p.val = p.val % 128; omega)))
  · rw [if_pos (by omega), if_neg (by omega), if_neg (by omega)]
    refine q1.attend (by omega) r _ _ (fun j => ?_) s u (fun k => (hsc k).trans ?_) (fun k => (hu k).trans ?_)
    · rw [scratch118, if_pos (by show (p.val % 128 + 128 - 64) % 128 < 64; omega)]
    · rw [show (⟨p.val / 64, by omega⟩ : Fin 4) = 1 from Fin.ext e]
    · rw [scratch118, if_neg (by show ¬p.val % 128 < 64; omega), vlo_apply]
      exact congrArg x2 (congrArg (ix2 k) (Fin.ext (by show p.val = p.val % 128; omega)))
  · rw [if_neg (by omega), if_pos (by omega), if_pos (by omega)]
    refine q2.attend (by omega) r _ _ (fun j => ?_) s u (fun k => (hsc k).trans ?_) (fun k => (hu k).trans ?_)
    · rw [scratch121, if_neg (by show ¬(p.val % 128 + 128 - 64) % 128 < 64; omega)]
    · rw [show (⟨p.val / 64, by omega⟩ : Fin 4) = 2 from Fin.ext e]
    · rw [scratch121, if_pos (by show p.val % 128 < 64; omega), vhi_apply]
      exact congrArg x2 (congrArg (ix2 k) (Fin.ext (by show p.val = 128 + p.val % 128; omega)))
  · rw [if_neg (by omega), if_neg (by omega), if_neg (by omega)]
    refine q3.attend (by omega) r _ _ (fun j => ?_) s u (fun k => (hsc k).trans ?_) (fun k => (hu k).trans ?_)
    · rw [scratch122, if_pos (by show (p.val % 128 + 128 - 64) % 128 < 64; omega)]
    · rw [show (⟨p.val / 64, by omega⟩ : Fin 4) = 3 from Fin.ext e]
    · rw [scratch122, if_neg (by show ¬p.val % 128 < 64; omega), vhi_apply]
      exact congrArg x2 (congrArg (ix2 k) (Fin.ext (by show p.val = 128 + p.val % 128; omega)))

end Cert.KernelIdeal.Mla

end
-- ==== Proof.Mla.Host.lean ====
/-
  The arrays the host prepares for the attention call: the queries and the keys of a head joined from their two parts,
  the queries scaled, and both padded with zeros to 128 columns; and the product of a query and a key so prepared.
-/
module

public import proofs.«01_k».proof.Proof.Mla.Out
public import Idealize.ShloMosaic.Lib.Claim

@[expose] public section

set_option maxRecDepth 16384

noncomputable section

open Idealize.ShloMosaic Idealize.ShloMosaic.TcCoe Idealize.SL.Sem

namespace Cert.KernelIdeal.Mla

open Cert.KernelIdeal Cert.KernelIdeal.Gen

variable (m : (ℓ : Loc nD τ sig) → Buf (Elt Ideal) ℓ)

/-- 96 columns padded with zeros to 128. -/
abbrev padded (x : FVec Ideal S8x8192x8x96 .f32) : FVec Ideal S8x8192x8x128 .f32 :=
  pad S8x8192x8x128 ![0, 0, 0, 0] ![0, 0, 0, 32] ![0, 0, 0, 0] x (sitofp FTy.f32 (constantI S_ 32 0#32)) pads_S8x8192x8x96_S8x8192x8x128_000_000_000_0320 h_S_

/-- The two parts of a head joined. -/
abbrev joined (x : FVec Ideal S8x8192x8x64 .f32) (y : FVec Ideal S8x8192x8x32 .f32) : FVec Ideal S8x8192x8x96 .f32 :=
  concatenate S8x8192x8x96 3 [⟨S8x8192x8x64, x⟩, ⟨S8x8192x8x32, y⟩] concatenates_S8x8192x8x64_S8x8192x8x32_S8x8192x8x96_d3

/-- The queries' scale in base two. -/
abbrev scale : FVec Ideal S_ .f32 := Host.divf (constant S_ FTy.f32 0x3DD105EC#32) (Host.log (constant S_ FTy.f32 0x40000000#32))

/-- The shared part of the keys, repeated for every head. -/
abbrev shared (x : FVec Ideal S8x8192x32 .f32) : FVec Ideal S8x8192x8x32 .f32 :=
  broadcastInDim S8x8192x8x32 ![0, 1, 2, 3] bcast_S8x8192x1x32_S8x8192x8x32_0_1_2_3 (broadcastInDim S8x8192x1x32 ![0, 1, 3] bcast_S8x8192x32_S8x8192x1x32_0_1_3 x)

/-- The head and the column of the head of a column of the prepared arrays. -/
theorem rows_apply (x : FVec Ideal S8x8192x8x128 .f32) (i : Fin 65536) (l : Fin 1024) :
    (truncf FTy.bf16 (shapeCast S65536x1024 x shapeCasts_S8x8192x8x128_S65536x1024) bitsLt_bf16_f32 : FVec Ideal S65536x1024 .bf16) (ix2 i l)
      = x (ix4 ⟨i.val / 8192, by omega⟩ ⟨i.val % 8192, Nat.mod_lt _ (by decide)⟩ ⟨l.val / 128, by omega⟩ ⟨l.val % 128, Nat.mod_lt _ (by decide)⟩) := by
  pointwise

/-- The queries as prepared. -/
theorem host_q (c : Dev nD) (i : Fin 65536) (l : Fin 1024) : (V m c main_v11 : FVec Ideal S65536x1024 .bf16) (ix2 i l)
    = padded (mulf (joined (m ((c : Thread nD τ).loc main_arg0)) (m ((c : Thread nD τ).loc main_arg1))) (broadcastInDim S8x8192x8x96 ![] bcast_S_S8x8192x8x96 scale))
      (ix4 ⟨i.val / 8192, by omega⟩ ⟨i.val % 8192, Nat.mod_lt _ (by decide)⟩ ⟨l.val / 128, by omega⟩ ⟨l.val % 128, Nat.mod_lt _ (by decide)⟩) := by
  refine Eq.trans ?_ (rows_apply _ i l)
  simp only [V, hostOps0, hostOps0_1, hostOps0_2, hostOps0_3, hostOps0_4, List.flatten_cons, List.flatten_nil, List.append_nil, List.cons_append, List.nil_append]
  entry_read
  rfl

/-- The keys as prepared. -/
theorem host_k (c : Dev nD) (i : Fin 65536) (l : Fin 1024) : (V m c main_v13 : FVec Ideal S65536x1024 .bf16) (ix2 i l)
    = padded (joined (m ((c : Thread nD τ).loc main_arg2)) (shared (m ((c : Thread nD τ).loc main_arg3))))
      (ix4 ⟨i.val / 8192, by omega⟩ ⟨i.val % 8192, Nat.mod_lt _ (by decide)⟩ ⟨l.val / 128, by omega⟩ ⟨l.val % 128, Nat.mod_lt _ (by decide)⟩) := by
  refine Eq.trans ?_ (rows_apply _ i l)
  simp only [V, hostOps0, hostOps0_1, hostOps0_2, hostOps0_3, hostOps0_4, List.flatten_cons, List.flatten_nil, List.append_nil, List.cons_append, List.nil_append]
  entry_read
  rfl

/-- The values as prepared. -/
theorem host_v (c : Dev nD) (i : Fin 65536) (l : Fin 512) : (V m c main_v15 : FVec Ideal S65536x512 .bf16) (ix2 i l)
    = (m ((c : Thread nD τ).loc main_arg4) : FVec Ideal S8x8192x8x64 .f32) (ix4 ⟨i.val / 8192, by omega⟩ ⟨i.val % 8192, Nat.mod_lt _ (by decide)⟩ ⟨l.val / 64, by omega⟩ ⟨l.val % 64, Nat.mod_lt _ (by decide)⟩) := by
  simp only [V, hostOps0, hostOps0_1, hostOps0_2, hostOps0_3, hostOps0_4, List.flatten_cons, List.flatten_nil, List.append_nil, List.cons_append, List.nil_append]
  entry_read
  pointwise

theorem zero_word : (FloatOps.sitofp FTy.f32 (0#32 : BitVec 32) : Ideal .f32) = (0 : EReal) := by
  show ((((0#32 : BitVec 32).toInt : ℤ) : ℝ) : EReal) = 0
  simp

theorem padded_lo (x : FVec Ideal S8x8192x8x96 .f32) (b h : Fin 8) (q : Fin 8192) (d : Fin 128) (hd : d.val < 96) : padded x (ix4 b q h d) = x (ix4 b q h ⟨d.val, hd⟩) := by
  have e : padded x (ix4 b q h d) = if h_1 : d.val < 96 then x (ix4 b q h ⟨d.val, h_1⟩) else FloatOps.sitofp FTy.f32 (0#32 : BitVec 32) := by
    unfold padded
    pointwise
  rw [e, dif_pos hd]

theorem padded_hi (x : FVec Ideal S8x8192x8x96 .f32) (b h : Fin 8) (q : Fin 8192) (d : Fin 128) (hd : ¬d.val < 96) : padded x (ix4 b q h d) = (0 : EReal) := by
  have e : padded x (ix4 b q h d) = if h_1 : d.val < 96 then x (ix4 b q h ⟨d.val, h_1⟩) else FloatOps.sitofp FTy.f32 (0#32 : BitVec 32) := by
    unfold padded
    pointwise
  rw [e, dif_neg hd, zero_word]

theorem joined_lo (x : FVec Ideal S8x8192x8x64 .f32) (y : FVec Ideal S8x8192x8x32 .f32) (b h : Fin 8) (q : Fin 8192) (d : Fin 96) (hd : d.val < 64) :
    joined x y (ix4 b q h d) = x (ix4 b q h ⟨d.val, hd⟩) := by
  have e : joined x y (ix4 b q h d) = if h_1 : d.val < 64 then x (ix4 b q h ⟨d.val, h_1⟩) else y (ix4 b q h ⟨d.val - 64, by omega⟩) := by
    unfold joined
    pointwise
  rw [e, dif_pos hd]

theorem joined_hi (x : FVec Ideal S8x8192x8x64 .f32) (y : FVec Ideal S8x8192x8x32 .f32) (b h : Fin 8) (q : Fin 8192) (d : Fin 96) (hd : ¬d.val < 64) :
    joined x y (ix4 b q h d) = y (ix4 b q h ⟨d.val - 64, by omega⟩) := by
  have e : joined x y (ix4 b q h d) = if h_1 : d.val < 64 then x (ix4 b q h ⟨d.val, h_1⟩) else y (ix4 b q h ⟨d.val - 64, by omega⟩) := by
    unfold joined
    pointwise
  rw [e, dif_neg hd]

theorem shared_apply (x : FVec Ideal S8x8192x32 .f32) (b h : Fin 8) (q : Fin 8192) (d : Fin 32) : shared x (ix4 b q h d) = x (ix3 b q d) := by
  unfold shared
  pointwise

/-- A word that is neither infinite nor subnormal names a real number. -/
theorem word_real (w : BitVec 32) (h : ¬(w.extractLsb' 23 8).toNat = 2 ^ 8 - 1) (h0 : ¬(w.extractLsb' 23 8).toNat = 0) :
    ∃ κ : ℝ, (Ideal.ofBits .f32 w : EReal) = (κ : EReal) := by
  refine ⟨_, Eq.trans (if_neg h) (if_neg h0)⟩

/-- The scale of the reference. -/
theorem const_real : ∃ κ : ℝ, (Ideal.ofBits .f32 0x3DD105EC#32 : EReal) = (κ : EReal) :=
  word_real _ (by decide) (by decide)

/-- A product over the 128 columns: the 64 of the one part, the 32 of the other, and zeros. -/
theorem sum_parts (f : Fin 128 → EReal) (h0 : ∀ d : Fin 128, ¬d.val < 96 → f d = 0) :
    ∑ d, f d = ∑ d : Fin 64, f ⟨d.val, by omega⟩ + ∑ d : Fin 32, f ⟨64 + d.val, by omega⟩ := by
  have e1 : ∑ d, f d = ∑ d : Fin 64, f ⟨d.val, by omega⟩ + ∑ d : Fin 64, f ⟨64 + d.val, by omega⟩ := Fin.sum_univ_add (a := 64) (b := 64) f
  have e2 : ∑ d : Fin 64, f ⟨64 + d.val, by omega⟩ = ∑ d : Fin 32, f ⟨64 + d.val, by omega⟩ + ∑ d : Fin 32, f ⟨64 + (32 + d.val), by omega⟩ :=
    Fin.sum_univ_add (a := 32) (b := 32) (fun d : Fin 64 => f ⟨64 + d.val, by omega⟩)
  have e3 : ∑ d : Fin 32, f ⟨64 + (32 + d.val), by omega⟩ = 0 := Finset.sum_eq_zero fun d _ => h0 _ (by show ¬64 + (32 + d.val) < 96; omega)
  rw [e1, e2, e3, add_zero]

/-- An array of real numbers, from the test that no magnitude is infinite. -/
theorem real_of_lt {S : Shape} (x top : FVec Ideal S .f32) (ht : ∀ i, top i = Ideal.ofBits .f32 0x7F800000#32)
    (h : cmpf .olt (Host.absf x) top = fun _ => 1#1) : ∃ y : S.Idx → ℝ, ∀ i, x i = (y i : EReal) := by
  refine ⟨fun i => (x i : EReal).toReal, fun i => ?_⟩
  have e := congrFun h i
  have e' : BitVec.ofBool (decide (max (x i : EReal) (-(x i : EReal)) < (top i : EReal))) = 1#1 := e
  have et : (top i : EReal) = ⊤ := by
    rw [ht i]
    simp [Ideal.ofBits, Ideal.ieee]
  rw [et] at e'
  have lt : max (x i : EReal) (-(x i : EReal)) < ⊤ := by
    by_contra hn
    rw [decide_eq_false hn] at e'
    exact absurd e' (by decide)
  refine (EReal.coe_toReal ?_ ?_).symm
  · intro hx
    rw [hx] at lt
    simp at lt
  · intro hx
    rw [hx] at lt
    simp at lt

theorem scale_real : ∃ κ : ℝ, (Ideal.ofBits .f32 0x3DD105EC#32 : EReal) = (κ : EReal)
    ∧ ∀ b h q d, broadcastInDim S8x8192x8x96 ![] bcast_S_S8x8192x8x96 scale (ix4 b h q d) = ((κ / Real.log 2 : ℝ) : EReal) := by
  obtain ⟨κ, hκ⟩ := const_real
  refine ⟨κ, hκ, fun b h q d => ?_⟩
  have two : (Ideal.ofBits .f32 0x40000000#32 : EReal) = ((2 : ℝ) : EReal) := by
    simp [Ideal.ofBits, Ideal.ieee]
    rw [← EReal.coe_mul]
    norm_num
  have e : broadcastInDim S8x8192x8x96 ![] bcast_S_S8x8192x8x96 scale (ix4 b h q d)
      = Ideal.div (Ideal.ofBits .f32 0x3DD105EC#32) (Ideal.log (Ideal.ofBits .f32 0x40000000#32)) := rfl
  have l2 : Ideal.log ((2 : ℝ) : EReal) = ((Real.log 2 : ℝ) : EReal) := by
    show (if (2 : ℝ) ≤ 0 then (⊥ : EReal) else _) = _
    rw [if_neg (by norm_num)]
  have l0 : Real.log 2 ≠ 0 := (Real.log_pos (by norm_num)).ne'
  rw [e, two, l2, hκ, Ideal.div_coe l0, ← EReal.coe_mul, mul_one_div]

/-- The score of a query and a key, real numbers, in base two. -/
abbrev score2 (qn : S8x8192x8x64.Idx → ℝ) (qr : S8x8192x8x32.Idx → ℝ) (kn : S8x8192x8x64.Idx → ℝ) (kr : S8x8192x32.Idx → ℝ) (κ : ℝ)
    (b h : Fin 8) (q k : Fin 8192) : ℝ :=
  (∑ d : Fin 64, qn (ix4 b q h d) * kn (ix4 b k h d) + ∑ d : Fin 32, kr (ix3 b k d) * qr (ix4 b q h d)) * (κ / Real.log 2)

/-- The product of a query and a key as prepared is their score. -/
theorem prepared_score (qn : FVec Ideal S8x8192x8x64 .f32) (qr : FVec Ideal S8x8192x8x32 .f32) (kn : FVec Ideal S8x8192x8x64 .f32) (kr : FVec Ideal S8x8192x32 .f32)
    (qn' : S8x8192x8x64.Idx → ℝ) (qr' : S8x8192x8x32.Idx → ℝ) (kn' : S8x8192x8x64.Idx → ℝ) (kr' : S8x8192x32.Idx → ℝ) (κ : ℝ)
    (hqn : ∀ i, qn i = (qn' i : EReal)) (hqr : ∀ i, qr i = (qr' i : EReal)) (hkn : ∀ i, kn i = (kn' i : EReal)) (hkr : ∀ i, kr i = (kr' i : EReal))
    (sc : FVec Ideal S8x8192x8x96 .f32) (hsc : ∀ b h q d, sc (ix4 b h q d) = ((κ / Real.log 2 : ℝ) : EReal))
    (b h : Fin 8) (q k : Fin 8192) :
    ∑ d : Fin 128, (padded (mulf (joined qn qr) sc) (ix4 b q h d) : EReal) * (padded (joined kn (shared kr)) (ix4 b k h d) : EReal)
      = (score2 qn' qr' kn' kr' κ b h q k : EReal) := by
  rw [sum_parts _ fun d hd => by rw [padded_hi _ _ _ _ _ hd, zero_mul]]
  have e1 : ∀ d : Fin 64, (padded (mulf (joined qn qr) sc) (ix4 b q h ⟨d.val, by omega⟩) : EReal) * (padded (joined kn (shared kr)) (ix4 b k h ⟨d.val, by omega⟩) : EReal)
      = ((qn' (ix4 b q h d) * (κ / Real.log 2) * kn' (ix4 b k h d) : ℝ) : EReal) := fun d => by
    rw [padded_lo _ _ _ _ _ (by show d.val < 96; omega), padded_lo _ _ _ _ _ (by show d.val < 96; omega), joined_lo kn _ _ _ _ _ d.isLt]
    have em : mulf (joined qn qr) sc (ix4 b q h ⟨d.val, by omega⟩) = (joined qn qr (ix4 b q h ⟨d.val, by omega⟩) : EReal) * (sc (ix4 b q h ⟨d.val, by omega⟩) : EReal) := rfl
    rw [em, joined_lo qn _ _ _ _ _ d.isLt, hsc, hqn, hkn, EReal.coe_mul, EReal.coe_mul]
  have e2 : ∀ d : Fin 32, (padded (mulf (joined qn qr) sc) (ix4 b q h ⟨64 + d.val, by omega⟩) : EReal) * (padded (joined kn (shared kr)) (ix4 b k h ⟨64 + d.val, by omega⟩) : EReal)
      = ((qr' (ix4 b q h d) * (κ / Real.log 2) * kr' (ix3 b k d) : ℝ) : EReal) := fun d => by
    have ed : (⟨64 + d.val - 64, by omega⟩ : Fin 32) = d := Fin.ext (by show 64 + d.val - 64 = d.val; omega)
    rw [padded_lo _ _ _ _ _ (by show 64 + d.val < 96; omega), padded_lo _ _ _ _ _ (by show 64 + d.val < 96; omega), joined_hi kn _ _ _ _ _ (by show ¬64 + d.val < 64; omega)]
    have em : mulf (joined qn qr) sc (ix4 b q h ⟨64 + d.val, by omega⟩) = (joined qn qr (ix4 b q h ⟨64 + d.val, by omega⟩) : EReal) * (sc (ix4 b q h ⟨64 + d.val, by omega⟩) : EReal) := rfl
    rw [em, joined_hi qn _ _ _ _ _ (by show ¬64 + d.val < 64; omega), hsc, shared_apply, EReal.coe_mul, EReal.coe_mul]
    rw [show (⟨(⟨64 + d.val, by omega⟩ : Fin 96).val - 64, by show 64 + d.val - 64 < 32; omega⟩ : Fin 32) = d from ed, hqr, hkr]
  rw [Finset.sum_congr rfl fun d _ => e1 d, Finset.sum_congr rfl fun d _ => e2 d, Cert.Mla.sum_coe, Cert.Mla.sum_coe, ← EReal.coe_add]
  refine congrArg _ ?_
  unfold score2
  rw [add_mul, Finset.sum_mul, Finset.sum_mul]
  refine congrArg₂ _ (Finset.sum_congr rfl fun d _ => by ring) (Finset.sum_congr rfl fun d _ => by ring)

/-- The score of the reference: the same, times `log 2`, and `⊥` after the query. -/
theorem refScore_eq (qn : FVec Ideal S8x8192x8x64 .f32) (qr : FVec Ideal S8x8192x8x32 .f32) (kn : FVec Ideal S8x8192x8x64 .f32) (kr : FVec Ideal S8x8192x32 .f32)
    (qn' : S8x8192x8x64.Idx → ℝ) (qr' : S8x8192x8x32.Idx → ℝ) (kn' : S8x8192x8x64.Idx → ℝ) (kr' : S8x8192x32.Idx → ℝ) (κ : ℝ)
    (hqn : ∀ i, qn i = (qn' i : EReal)) (hqr : ∀ i, qr i = (qr' i : EReal)) (hkn : ∀ i, kn i = (kn' i : EReal)) (hkr : ∀ i, kr i = (kr' i : EReal))
    (hκ : (Ideal.ofBits .f32 0x3DD105EC#32 : EReal) = (κ : EReal)) (b h : Fin 8) (q k : Fin 8192) :
    Cert.Mla.refScore qn qr kn kr b h q k = if k.val < q.val + 1 then ((score2 qn' qr' kn' kr' κ b h q k * Real.log 2 : ℝ) : EReal) else ⊥ := by
  have l0 : Real.log 2 ≠ 0 := (Real.log_pos (by norm_num)).ne'
  have e1 : ∑ d : Fin 64, (qn (ix4 b q h d) : EReal) * (kn (ix4 b k h d) : EReal) = ((∑ d : Fin 64, qn' (ix4 b q h d) * kn' (ix4 b k h d) : ℝ) : EReal) := by
    rw [← Cert.Mla.sum_coe]
    exact Finset.sum_congr rfl fun d _ => by rw [hqn, hkn, EReal.coe_mul]
  have e2 : ∑ d : Fin 32, (kr (ix3 b k d) : EReal) * (qr (ix4 b q h d) : EReal) = ((∑ d : Fin 32, kr' (ix3 b k d) * qr' (ix4 b q h d) : ℝ) : EReal) := by
    rw [← Cert.Mla.sum_coe]
    exact Finset.sum_congr rfl fun d _ => by rw [hkr, hqr, EReal.coe_mul]
  unfold Cert.Mla.refScore
  rw [select_sge _ _ (by omega) (by omega), Cert.Mla.ninf]
  refine (if_congr (Nat.lt_succ_iff (m := k.val) (n := q.val)).symm ?_ rfl)
  rw [hκ, e1, e2, ← EReal.coe_add, ← EReal.coe_mul]
  refine congrArg _ ?_
  unfold score2
  field_simp

end Cert.KernelIdeal.Mla

end
-- ==== Proof.Mla.Ref.lean ====
/-
  The reference of the latent attention, read at one result: the softmax of the masked scores against the values.
-/
module

public import proofs.«01_k».proof.Proof.Gen.ReferenceIdeal.Run
public import proofs.«01_k».proof.Proof.Mla.Math
public import Idealize.ShloMosaic.Lib.Pointwise
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.ReferenceIdeal.Mla

open Cert.ReferenceIdeal Cert.ReferenceIdeal.Gen

/-- The masked scores, read at one key of one query. -/
theorem score_apply (qn : FVec Ideal S8x8192x8x64 .f32) (qr : FVec Ideal S8x8192x8x32 .f32) (kn : FVec Ideal S8x8192x8x64 .f32)
    (kr : FVec Ideal S8x8192x32 .f32) (b h : Fin 8) (q k : Fin 8192) :
    select (broadcastInDim S8x8x8192x8192 ![2, 3] bcast_S8192x8192_S8x8x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))
      (mulf (addf (Host.dotGeneral dot_S8x8192x8x64_S8x8192x8x64_S8x8x8192x8192_3_3_1_1_02_02 none qn kn)
        (transpose S8x8x8192x8192 [0, 3, 2, 1] (Host.dotGeneral dot_S8x8192x32_S8x8192x8x32_S8x8192x8192x8_2_3_1_12_0_0 none kr qr) transposes_S8x8192x8192x8_S8x8x8192x8192_0_3_2_1))
        (broadcastInDim S8x8x8192x8192 ![] bcast_S_S8x8x8192x8192 (constant S_ .f32 0x3DD105EC#32)))
      (broadcastInDim S8x8x8192x8192 ![] bcast_S_S8x8x8192x8192 (id (constant S_ .f32 0xFF800000#32))) (ix4 b h q k)
      = Cert.Mla.refScore qn qr kn kr b h q k := by
  unfold Cert.Mla.refScore
  pointwise
  rfl

/-- The greatest score of each row. -/
theorem max_apply (s : FVec Ideal S8x8x8192x8192 .f32) (b h : Fin 8) (q : Fin 8192) :
    (Host.reduce FloatOps.maximumf s (constant S_ .f32 0xFF800000#32) reducesTo_S8x8x8192x8192_S8x8x8192_d3 h_S_) (ix3 b h q)
      = Finset.fold max (Ideal.ofBits .f32 0xFF800000#32) (fun k => s (ix4 b h q k)) Finset.univ := by
  pointwise

/-- The exponentials of the scores less their row's greatest. -/
theorem exp_apply (s : FVec Ideal S8x8x8192x8192 .f32) (M : FVec Ideal S8x8x8192 .f32) (b h : Fin 8) (q k : Fin 8192) :
    (Host.exp (subf s (broadcastInDim S8x8x8192x8192 ![0, 1, 2, 3] bcast_S8x8x8192x1_S8x8x8192x8192_0_1_2_3 (broadcastInDim S8x8x8192x1 ![0, 1, 2] bcast_S8x8x8192_S8x8x8192x1_0_1_2 (maximumf (broadcastInDim S8x8x8192 ![] bcast_S_S8x8x8192 (constant S_ .f32 0xFF800000#32)) M))))) (ix4 b h q k)
      = Ideal.exp (s (ix4 b h q k) - max (Ideal.ofBits .f32 0xFF800000#32) (M (ix3 b h q))) := by
  pointwise

/-- The sum of each row. -/
theorem sum_apply (e : FVec Ideal S8x8x8192x8192 .f32) (b h : Fin 8) (q : Fin 8192) :
    (Host.reduceAdd e (constant S_ .f32 0x00000000#32) reducesTo_S8x8x8192x8192_S8x8x8192_d3 h_S_) (ix3 b h q) = ∑ k : Fin 8192, e (ix4 b h q k) := by
  pointwise

/-- Each row divided by a number. -/
theorem div_apply (e : FVec Ideal S8x8x8192x8192 .f32) (z : FVec Ideal S8x8x8192 .f32) (b h : Fin 8) (q k : Fin 8192) :
    Host.divf e (broadcastInDim S8x8x8192x8192 ![0, 1, 2, 3] bcast_S8x8x8192x1_S8x8x8192x8192_0_1_2_3 (broadcastInDim S8x8x8192x1 ![0, 1, 2] bcast_S8x8x8192_S8x8x8192x1_0_1_2 z)) (ix4 b h q k) = Ideal.div (e (ix4 b h q k)) (z (ix3 b h q)) := by
  pointwise

/-- The product with the values, in the result's layout. -/
theorem dot_apply (v : FVec Ideal S8x8192x8x64 .f32) (p : FVec Ideal S8x8x8192x8192 .f32) (i : Fin 65536) (l : Fin 512) :
    (truncf .bf16 (shapeCast S65536x512 (transpose S8x8192x8x64 [0, 3, 1, 2] (Host.dotGeneral dot_S8x8192x8x64_S8x8x8192x8192_S8x8x64x8192_1_3_3_2_02_01 none v
      p) transposes_S8x8x64x8192_S8x8192x8x64_0_3_1_2) shapeCasts_S8x8192x8x64_S65536x512) bitsLt_bf16_f32 : FVec Ideal S65536x512 .bf16) (ix2 i l)
      = ∑ k : Fin 8192, v (ix4 ⟨i.val / 8192, by omega⟩ k ⟨l.val / 64, by omega⟩ ⟨l.val % 64, Nat.mod_lt _ (by decide)⟩) * p (ix4 ⟨i.val / 8192, by omega⟩ ⟨l.val / 64, by omega⟩ ⟨i.val % 8192, Nat.mod_lt _ (by decide)⟩ k) := by
  pointwise

/-- Softmax and the product with the values, read at one result. -/
theorem attend_apply (v : FVec Ideal S8x8192x8x64 .f32) (s : FVec Ideal S8x8x8192x8192 .f32) (i : Fin 65536) (l : Fin 512) :
    (truncf .bf16 (shapeCast S65536x512 (transpose S8x8192x8x64 [0, 3, 1, 2] (Host.dotGeneral dot_S8x8192x8x64_S8x8x8192x8192_S8x8x64x8192_1_3_3_2_02_01 none v
      (Host.divf (Host.exp (subf s (broadcastInDim S8x8x8192x8192 ![0, 1, 2, 3] bcast_S8x8x8192x1_S8x8x8192x8192_0_1_2_3 (broadcastInDim S8x8x8192x1 ![0, 1, 2] bcast_S8x8x8192_S8x8x8192x1_0_1_2 (maximumf (broadcastInDim S8x8x8192 ![] bcast_S_S8x8x8192 (constant S_ .f32 0xFF800000#32)) (Host.reduce FloatOps.maximumf s (constant S_ .f32 0xFF800000#32) reducesTo_S8x8x8192x8192_S8x8x8192_d3 h_S_)))))) (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduceAdd (Host.exp (subf s (broadcastInDim S8x8x8192x8192 ![0, 1, 2, 3] bcast_S8x8x8192x1_S8x8x8192x8192_0_1_2_3 (broadcastInDim S8x8x8192x1 ![0, 1, 2] bcast_S8x8x8192_S8x8x8192x1_0_1_2 (maximumf (broadcastInDim S8x8x8192 ![] bcast_S_S8x8x8192 (constant S_ .f32 0xFF800000#32)) (Host.reduce FloatOps.maximumf s (constant S_ .f32 0xFF800000#32) reducesTo_S8x8x8192x8192_S8x8x8192_d3 h_S_)))))) (constant S_ .f32 0x00000000#32) reducesTo_S8x8x8192x8192_S8x8x8192_d3 h_S_))))) transposes_S8x8x64x8192_S8x8192x8x64_0_3_1_2) shapeCasts_S8x8192x8x64_S65536x512) bitsLt_bf16_f32 : FVec Ideal S65536x512 .bf16) (ix2 i l)
      = Cert.Mla.softmaxDot (fun k => s (ix4 ⟨i.val / 8192, by omega⟩ ⟨l.val / 64, by omega⟩ ⟨i.val % 8192, Nat.mod_lt _ (by decide)⟩ k)) (fun k => v (ix4 ⟨i.val / 8192, by omega⟩ k ⟨l.val / 64, by omega⟩ ⟨l.val % 64, Nat.mod_lt _ (by decide)⟩)) := by
  refine (dot_apply v _ i l).trans (Finset.sum_congr rfl fun k _ => congrArg _ ?_)
  have hx : ∀ k, (Host.exp (subf s (broadcastInDim S8x8x8192x8192 ![0, 1, 2, 3] bcast_S8x8x8192x1_S8x8x8192x8192_0_1_2_3 (broadcastInDim S8x8x8192x1 ![0, 1, 2] bcast_S8x8x8192_S8x8x8192x1_0_1_2 (maximumf (broadcastInDim S8x8x8192 ![] bcast_S_S8x8x8192 (constant S_ .f32 0xFF800000#32)) (Host.reduce FloatOps.maximumf s (constant S_ .f32 0xFF800000#32) reducesTo_S8x8x8192x8192_S8x8x8192_d3 h_S_)))))) (ix4 ⟨i.val / 8192, by omega⟩ ⟨l.val / 64, by omega⟩ ⟨i.val % 8192, Nat.mod_lt _ (by decide)⟩ k) = _ := fun k =>
    (exp_apply s _ _ _ _ k).trans (congrArg (fun M => Ideal.exp (s (ix4 ⟨i.val / 8192, by omega⟩ ⟨l.val / 64, by omega⟩ ⟨i.val % 8192, Nat.mod_lt _ (by decide)⟩ k) - max (Ideal.ofBits .f32 0xFF800000#32) M)) (max_apply s _ _ _))
  refine (div_apply _ _ _ _ _ k).trans ?_
  exact congr (congrArg Ideal.div (hx k)) ((sum_apply _ _ _ _).trans (Finset.sum_congr rfl fun j _ => hx j))

/-- The whole reference, read at one result. -/
theorem value (m : (ℓ : Loc nD τ sig) → Buf (Elt Ideal) ℓ) (c : Dev nD) (i : Fin 65536) (l : Fin 512) :
    (Value.res_main_v28 m c : FVec Ideal S65536x512 .bf16) (ix2 i l)
      = Cert.Mla.softmaxDot (Cert.Mla.refScore (m ((c : Thread nD τ).loc main_arg0)) (m ((c : Thread nD τ).loc main_arg1))
          (m ((c : Thread nD τ).loc main_arg2)) (m ((c : Thread nD τ).loc main_arg3)) ⟨i.val / 8192, by omega⟩ ⟨l.val / 64, by omega⟩ ⟨i.val % 8192, Nat.mod_lt _ (by decide)⟩)
          (fun k => (m ((c : Thread nD τ).loc main_arg4) : FVec Ideal S8x8192x8x64 .f32) (ix4 ⟨i.val / 8192, by omega⟩ k ⟨l.val / 64, by omega⟩ ⟨l.val % 64, Nat.mod_lt _ (by decide)⟩)) := by
  refine (attend_apply _ _ i l).trans ?_
  exact congrFun (congrArg Cert.Mla.softmaxDot (funext fun k => score_apply _ _ _ _ _ _ _ k)) _

end Cert.ReferenceIdeal.Mla

end
-- ==== Proof.Mla.Value.lean ====
/-
  The attention call's result: what each grid point writes is the reference's softmax attention at its rows and columns.
-/
module

public import proofs.«01_k».proof.Proof.Mla.Host
public import proofs.«01_k».proof.Proof.Mla.Ref

@[expose] public section

set_option maxRecDepth 16384

noncomputable section

open Idealize.ShloMosaic Idealize.ShloMosaic.TcCoe Idealize.SL.Sem
open Idealize.ShloMosaic.Pipeline (Dat)

namespace Cert.Mla

/-- Softmax attention at every query, head and column: row `i` is token `i`, column `l` is column `l % 64` of head `l / 64`. -/
def spec (qn : FVec Ideal ⟨4, ![8, 8192, 8, 64]⟩ .f32) (qr : FVec Ideal ⟨4, ![8, 8192, 8, 32]⟩ .f32) (kn : FVec Ideal ⟨4, ![8, 8192, 8, 64]⟩ .f32)
    (kr : FVec Ideal ⟨3, ![8, 8192, 32]⟩ .f32) (v : FVec Ideal ⟨4, ![8, 8192, 8, 64]⟩ .f32) : FVec Ideal ⟨2, ![65536, 512]⟩ .bf16 := fun i =>
  softmaxDot (refScore qn qr kn kr ⟨(i 0).val / 8192, Nat.div_lt_of_lt_mul (i 0).isLt⟩ ⟨(i 1).val / 64, Nat.div_lt_of_lt_mul (i 1).isLt⟩ ⟨(i 0).val % 8192, Nat.mod_lt _ (by decide)⟩)
    (fun k => v (ix4 ⟨(i 0).val / 8192, Nat.div_lt_of_lt_mul (i 0).isLt⟩ k ⟨(i 1).val / 64, Nat.div_lt_of_lt_mul (i 1).isLt⟩ ⟨(i 1).val % 64, Nat.mod_lt _ (by decide)⟩))

end Cert.Mla

namespace Cert.KernelIdeal.Mla

open Cert.KernelIdeal Cert.KernelIdeal.Gen

variable (m : (ℓ : Loc nD τ sig) → Buf (Elt Ideal) ℓ)

theorem idx : ∀ t : Fin cfg0.N, win0_0.index t = ![t.val / 32 * 16 + t.val % 16, t.val / 16 % 2] ∧ win0_1.index t = ![t.val / 32, t.val / 16 % 2]
    ∧ win0_2.index t = ![t.val / 32, t.val / 16 % 2] ∧ win0_3.index t = ![t.val / 32 * 16 + t.val % 16, t.val / 16 % 2] :=
  (by decide +kernel : ∀ t : Fin grid0.N, _)

theorem qb_eq : ∀ t : Fin grid0.N, qb t = t.val % 16 := by decide +kernel

theorem t_lt (t : Fin cfg0.N) : t.val < 256 := by
  have h := t.isLt
  have hN : cfg0.N = 256 := N_0
  omega

/-- A block of queries is 512 rows and four heads of the prepared array. -/
theorem read0 (c : Dev nD) (t : Fin cfg0.N) (r : Fin 512) (l : Fin 512) (hr : (t.val / 32 * 16 + t.val % 16) * 512 + r.val < 65536) (hl : t.val / 16 % 2 * 512 + l.val < 1024) :
    iblk m c 0 t (ix2 r l) = (V m c main_v11 : FVec Ideal S65536x1024 .bf16) (ix2 ⟨(t.val / 32 * 16 + t.val % 16) * 512 + r.val, hr⟩ ⟨t.val / 16 % 2 * 512 + l.val, hl⟩) := by
  blk_ext! [iblk, idx t]

theorem read1 (c : Dev nD) (t : Fin cfg0.N) (j : Fin 8192) (l : Fin 512) (hr : t.val / 32 * 8192 + j.val < 65536) (hl : t.val / 16 % 2 * 512 + l.val < 1024) :
    iblk m c 1 t (ix2 j l) = (V m c main_v13 : FVec Ideal S65536x1024 .bf16) (ix2 ⟨t.val / 32 * 8192 + j.val, hr⟩ ⟨t.val / 16 % 2 * 512 + l.val, hl⟩) := by
  blk_ext! [iblk, idx t]

theorem read2 (c : Dev nD) (t : Fin cfg0.N) (j : Fin 8192) (p : Fin 256) (hr : t.val / 32 * 8192 + j.val < 65536) (hl : t.val / 16 % 2 * 256 + p.val < 512) :
    iblk m c 2 t (ix2 j p) = (V m c main_v15 : FVec Ideal S65536x512 .bf16) (ix2 ⟨t.val / 32 * 8192 + j.val, hr⟩ ⟨t.val / 16 % 2 * 256 + p.val, hl⟩) := by
  blk_ext! [iblk, idx t]

/-- Where an entry of a point's block sits in the result. -/
theorem place (t : Fin cfg0.N) (r : Fin 512) (p : Fin 256) (hr : (t.val / 32 * 16 + t.val % 16) * 512 + r.val < 65536) (hl : t.val / 16 % 2 * 256 + p.val < 512) :
    ((cfg0.win 3).blk t).view.emb (ix2 r p) = (ix2 ⟨(t.val / 32 * 16 + t.val % 16) * 512 + r.val, hr⟩ ⟨t.val / 16 % 2 * 256 + p.val, hl⟩ : S65536x512.Idx) := by
  blk_ext [idx t]

/-- A head's 128 columns of a block of queries. -/
theorem ld_query (x0 : Vec Ideal S512x512 .bf16) (e : ℕ) (hi : ∀ a, ![0, e] a + S512x128.size a ≤ S512x512.size a) (r : Fin 512) (d : Fin 128) (he : e + d.val < 512) :
    (View.ld x0 (Rect.unit (s := S512x512) ![0, e] S512x128.size hi) : Vec Ideal S512x128 .bf16) (ix2 r d) = x0 (ix2 r ⟨e + d.val, he⟩) := by
  refine congrArg x0 (funext fun k => Fin.ext ?_)
  fin_cases k <;> simp [Rect.unit, Rect.emb, LoadRect.idx]

variable (qn' : S8x8192x8x64.Idx → ℝ) (qr' : S8x8192x8x32.Idx → ℝ) (kn' : S8x8192x8x64.Idx → ℝ) (kr' : S8x8192x32.Idx → ℝ) (κ : ℝ)

/-- The scores of a grid point. -/
def pointScore (t : Fin cfg0.N) (e : Fin 4) (r : Fin 512) (j : ℕ) : ℝ :=
  score2 qn' qr' kn' kr' κ ⟨t.val / 32, by have := t_lt t; omega⟩ ⟨t.val / 16 % 2 * 4 + e.val, by omega⟩ ⟨t.val % 16 * 512 + r.val, by omega⟩ ⟨j % 8192, Nat.mod_lt _ (by decide)⟩

/-- The block of queries and the block of keys of a point. -/
def qblk (c : Dev nD) (t : Fin cfg0.N) : Vec Ideal S512x512 .bf16 := iblk m c 0 t
def kblk (c : Dev nD) (t : Fin cfg0.N) : Vec Ideal S8192x512 .bf16 := iblk m c 1 t

/-- The products of the four heads of two blocks. -/
theorem scores4_of (x0 : Vec Ideal S512x512 .bf16) (x1 : Vec Ideal S8192x512 .bf16) (σ : Fin 4 → Fin 512 → ℕ → ℝ)
    (sc : ∀ (e : Fin 4) (o : ℕ) (ho : o = 128 * e.val) (r : Fin 512) (j : Fin 8192),
      ∑ d : Fin 128, (x0 (ix2 r ⟨o + d.val, by omega⟩) : EReal) * (x1 (ix2 j ⟨o + d.val, by omega⟩) : EReal) = (σ e r j.val : EReal)) :
    Scores4 x0 x1 σ := by
  have q0 : ∀ (r : Fin 512) (d : Fin 128), (qh0 x0 (ix2 r d) : EReal) = x0 (ix2 r ⟨0 + d.val, by omega⟩) := fun r d =>
    (congrFun (shapeCast_self _ _) _).trans (ld_query x0 0 _ r d _)
  have q1 : ∀ (r : Fin 512) (d : Fin 128), (qh1 x0 (ix2 r d) : EReal) = x0 (ix2 r ⟨128 + d.val, by omega⟩) := fun r d =>
    (congrFun (shapeCast_self _ _) _).trans (ld_query x0 128 _ r d _)
  have q2 : ∀ (r : Fin 512) (d : Fin 128), (qh2 x0 (ix2 r d) : EReal) = x0 (ix2 r ⟨256 + d.val, by omega⟩) := fun r d =>
    (congrFun (shapeCast_self _ _) _).trans (ld_query x0 256 _ r d _)
  have q3 : ∀ (r : Fin 512) (d : Fin 128), (qh3 x0 (ix2 r d) : EReal) = x0 (ix2 r ⟨384 + d.val, by omega⟩) := fun r d =>
    (congrFun (shapeCast_self _ _) _).trans (ld_query x0 384 _ r d _)
  refine ⟨fun r j => ?_, fun r j => ?_, fun r j => ?_, fun r j => ?_⟩
  · exact (Finset.sum_congr rfl fun d _ => by rw [q0]).trans (sc 0 0 rfl r j)
  · exact (Finset.sum_congr rfl fun d _ => by rw [q1]).trans (sc 1 128 rfl r j)
  · exact (Finset.sum_congr rfl fun d _ => by rw [q2]).trans (sc 2 256 rfl r j)
  · exact (Finset.sum_congr rfl fun d _ => by rw [q3]).trans (sc 3 384 rfl r j)

/-- The product of a query and a key of a point's blocks, at one of its four heads. -/
theorem point_score (c : Dev nD) (t : Fin cfg0.N)
    (hqn : ∀ i, (m ((c : Thread nD τ).loc main_arg0) : FVec Ideal S8x8192x8x64 .f32) i = (qn' i : EReal)) (hqr : ∀ i, (m ((c : Thread nD τ).loc main_arg1) : FVec Ideal S8x8192x8x32 .f32) i = (qr' i : EReal))
    (hkn : ∀ i, (m ((c : Thread nD τ).loc main_arg2) : FVec Ideal S8x8192x8x64 .f32) i = (kn' i : EReal)) (hkr : ∀ i, (m ((c : Thread nD τ).loc main_arg3) : FVec Ideal S8x8192x32 .f32) i = (kr' i : EReal))
    (hs : ∀ b h q d, broadcastInDim S8x8192x8x96 ![] bcast_S_S8x8192x8x96 scale (ix4 b h q d) = ((κ / Real.log 2 : ℝ) : EReal))
    (e : Fin 4) (o : ℕ) (ho : o = 128 * e.val) (r : Fin 512) (j : Fin 8192) :
    ∑ d : Fin 128, (qblk m c t (ix2 r ⟨o + d.val, by omega⟩) : EReal) * (kblk m c t (ix2 j ⟨o + d.val, by omega⟩) : EReal) = (pointScore qn' qr' kn' kr' κ t e r j.val : EReal) := by
  have ht := t_lt t
  unfold pointScore
  refine Eq.trans (Finset.sum_congr rfl fun d _ => ?_) (prepared_score _ _ _ _ qn' qr' kn' kr' κ hqn hqr hkn hkr _ hs _ _ _ _)
  have hd := d.isLt
  have eq : (qblk m c t (ix2 r ⟨o + d.val, by omega⟩) : EReal) = _ := (read0 m c t r ⟨o + d.val, by omega⟩ (by omega) (by show t.val / 16 % 2 * 512 + (o + d.val) < 1024; omega)).trans (host_q m c _ _)
  have ek : (kblk m c t (ix2 j ⟨o + d.val, by omega⟩) : EReal) = _ := (read1 m c t j ⟨o + d.val, by omega⟩ (by omega) (by show t.val / 16 % 2 * 512 + (o + d.val) < 1024; omega)).trans (host_k m c _ _)
  rw [eq, ek]
  have i4 : ∀ {b b' q q' : ℕ} {h h' d d' : ℕ} (hb : b < 8) (hb' : b' < 8) (hq : q < 8192) (hq' : q' < 8192) (hh : h < 8) (hh' : h' < 8) (hd : d < 128) (hd' : d' < 128),
      b = b' → q = q' → h = h' → d = d' → (ix4 (⟨b, hb⟩ : Fin 8) (⟨q, hq⟩ : Fin 8192) (⟨h, hh⟩ : Fin 8) (⟨d, hd⟩ : Fin 128) : S8x8192x8x128.Idx) = ix4 (⟨b', hb'⟩ : Fin 8) (⟨q', hq'⟩ : Fin 8192) (⟨h', hh'⟩ : Fin 8) (⟨d', hd'⟩ : Fin 128) := by
    intro b b' q q' h h' d d' _ _ _ _ _ _ _ _ e1 e2 e3 e4
    subst e1 e2 e3 e4
    rfl
  refine congrArg₂ (fun a b : EReal => a * b) (congrArg _ ?_) (congrArg _ ?_)
  · exact i4 _ _ _ _ _ _ _ _ (by show ((t.val / 32 * 16 + t.val % 16) * 512 + r.val) / 8192 = t.val / 32; omega)
      (by show ((t.val / 32 * 16 + t.val % 16) * 512 + r.val) % 8192 = t.val % 16 * 512 + r.val; omega)
      (by show (t.val / 16 % 2 * 512 + (o + d.val)) / 128 = t.val / 16 % 2 * 4 + e.val; omega) (by show (t.val / 16 % 2 * 512 + (o + d.val)) % 128 = d.val; omega)
  · exact i4 _ _ _ _ _ _ _ _ (by show (t.val / 32 * 8192 + j.val) / 8192 = t.val / 32; omega)
      (by show (t.val / 32 * 8192 + j.val) % 8192 = j.val % 8192; omega)
      (by show (t.val / 16 % 2 * 512 + (o + d.val)) / 128 = t.val / 16 % 2 * 4 + e.val; omega) (by show (t.val / 16 % 2 * 512 + (o + d.val)) % 128 = d.val; omega)

/-- Every score's factors are real numbers. -/
structure Finite (c : Dev nD) : Prop where
  qn : ∃ y : S8x8192x8x64.Idx → ℝ, ∀ i, (m ((c : Thread nD τ).loc main_arg0) : FVec Ideal S8x8192x8x64 .f32) i = (y i : EReal)
  qr : ∃ y : S8x8192x8x32.Idx → ℝ, ∀ i, (m ((c : Thread nD τ).loc main_arg1) : FVec Ideal S8x8192x8x32 .f32) i = (y i : EReal)
  kn : ∃ y : S8x8192x8x64.Idx → ℝ, ∀ i, (m ((c : Thread nD τ).loc main_arg2) : FVec Ideal S8x8192x8x64 .f32) i = (y i : EReal)
  kr : ∃ y : S8x8192x32.Idx → ℝ, ∀ i, (m ((c : Thread nD τ).loc main_arg3) : FVec Ideal S8x8192x32 .f32) i = (y i : EReal)

abbrev result (c : Dev nD) : FVec Ideal S65536x512 .bf16 :=
  Cert.Mla.spec (m ((c : Thread nD τ).loc main_arg0)) (m ((c : Thread nD τ).loc main_arg1)) (m ((c : Thread nD τ).loc main_arg2)) (m ((c : Thread nD τ).loc main_arg3)) (m ((c : Thread nD τ).loc main_arg4))

theorem point (c : Dev nD) (hf : Finite m c) (t : Fin cfg0.N) (y : S512x256.Idx) : outAt m c t y = result m c (((cfg0.win 3).blk t).view.emb y) := by
  obtain ⟨⟨qn', hqn⟩, ⟨qr', hqr⟩, ⟨kn', hkn⟩, ⟨kr', hkr⟩⟩ := hf
  obtain ⟨κ, hκ, hs⟩ := scale_real
  have ht := t_lt t
  idx_vars y
  have hr : (t.val / 32 * 16 + t.val % 16) * 512 + y0.val < 65536 := by omega
  have hl : t.val / 16 % 2 * 256 + y1.val < 512 := by omega
  rw [place t y0 y1 hr hl]
  have h4 : Scores4 (qblk m c t) (kblk m c t) (pointScore qn' qr' kn' kr' κ t) :=
    scores4_of _ _ _ (point_score m qn' qr' kn' kr' κ c t hqn hqr hkn hkr hs)
  unfold outAt
  refine body_value c t _ _ _ _ _ _ _ _ _ _ _ _ _ _ _ _ _ _ (iblk m c 2 t) (pointScore qn' qr' kn' kr' κ t) h4 y0 y1 _ _ (fun k => ?_) (fun k => ?_)
  · refine (refScore_eq _ _ _ _ qn' qr' kn' kr' κ hqn hqr hkn hkr hκ _ _ _ _).trans ?_
    have e1 : (t.val / 32 * 16 + t.val % 16) * 512 + y0.val = t.val / 32 * 8192 + (t.val % 16 * 512 + y0.val) := by omega
    refine if_congr ?_ ?_ rfl
    · rw [qb_eq]
      show k.val < ((t.val / 32 * 16 + t.val % 16) * 512 + y0.val) % 8192 + 1 ↔ k.val < 512 * (t.val % 16) + y0.val + 1
      omega
    · unfold pointScore
      have f1 : ∀ {b b' : Fin 8} {h h' : Fin 8} {q q' k k' : Fin 8192}, b = b' → h = h' → q = q' → k = k' →
          score2 qn' qr' kn' kr' κ b h q k = score2 qn' qr' kn' kr' κ b' h' q' k' := by
        intro b b' h h' q q' k k' a1 a2 a3 a4
        subst a1 a2 a3 a4
        rfl
      refine congrArg (fun a : ℝ => ((a * Real.log 2 : ℝ) : EReal)) (f1 (Fin.ext ?_) (Fin.ext ?_) (Fin.ext ?_) (Fin.ext ?_))
      · show ((t.val / 32 * 16 + t.val % 16) * 512 + y0.val) / 8192 = t.val / 32
        omega
      · show (t.val / 16 % 2 * 256 + y1.val) / 64 = t.val / 16 % 2 * 4 + y1.val / 64
        omega
      · show ((t.val / 32 * 16 + t.val % 16) * 512 + y0.val) % 8192 = t.val % 16 * 512 + y0.val
        omega
      · show k.val = k.val % 8192
        omega
  · refine Eq.trans ?_ ((read2 m c t k y1 (by omega) hl).trans (host_v m c _ _)).symm
    have i4 : ∀ {b b' q q' : ℕ} {h h' d d' : ℕ} (hb : b < 8) (hb' : b' < 8) (hq : q < 8192) (hq' : q' < 8192) (hh : h < 8) (hh' : h' < 8) (hd : d < 64) (hd' : d' < 64),
        b = b' → q = q' → h = h' → d = d' → (ix4 (⟨b, hb⟩ : Fin 8) (⟨q, hq⟩ : Fin 8192) (⟨h, hh⟩ : Fin 8) (⟨d, hd⟩ : Fin 64) : S8x8192x8x64.Idx) = ix4 (⟨b', hb'⟩ : Fin 8) (⟨q', hq'⟩ : Fin 8192) (⟨h', hh'⟩ : Fin 8) (⟨d', hd'⟩ : Fin 64) := by
      intro b b' q q' h h' d d' _ _ _ _ _ _ _ _ e1 e2 e3 e4
      subst e1 e2 e3 e4
      rfl
    exact congrArg (m ((c : Thread nD τ).loc main_arg4)) (i4 _ _ k.isLt _ _ _ _ _
      (by show ((t.val / 32 * 16 + t.val % 16) * 512 + y0.val) / 8192 = (t.val / 32 * 8192 + k.val) / 8192; omega)
      (by show k.val = (t.val / 32 * 8192 + k.val) % 8192; omega) rfl rfl)

theorem final (c : Dev nD) (hf : Finite m c) : (dats m 0 c).arrAt 3 cfg0.N = result m c := by
  refine (dats m 0 c).arrAt_eq_of_covers 3 _ (by decide +kernel) fun t _ y => ?_
  blk_simp
  rw [after0_3]
  exact point m c hf t y

end Cert.KernelIdeal.Mla

end
-- ==== Proof.Mla.Claims.lean ====
/-
  The claims about the attention call: its frames, its one rewritten constant, and that it computes the reference's
  softmax attention wherever the queries and the keys are real numbers.
-/
module

public import proofs.«01_k».proof.Defs
public import proofs.«01_k».proof.Proof.Mla.Value
public import proofs.«01_k».proof.Proof.Mla.BitsFrame
public import Idealize.ShloMosaic.Lib.Quiescent

@[expose] public section

noncomputable section

open Idealize.ShloMosaic Idealize.ShloMosaic.TcCoe Idealize.SL.Sem

namespace Cert.ReferenceIdeal.Mla

open Cert.ReferenceIdeal

/-- The reference's result is the attention. -/
theorem value_eq (m : (ℓ : Loc nD τ sig) → Buf (Elt Ideal) ℓ) (c : Dev nD) : Value.res_main_v28 m c
    = Cert.Mla.spec (m ((c : Thread nD τ).loc main_arg0)) (m ((c : Thread nD τ).loc main_arg1)) (m ((c : Thread nD τ).loc main_arg2))
      (m ((c : Thread nD τ).loc main_arg3)) (m ((c : Thread nD τ).loc main_arg4)) := by
  funext i
  idx_vars i
  exact value m c i0 i1

end Cert.ReferenceIdeal.Mla

namespace Cert.KernelIdeal.Mla

open Cert.KernelIdeal Cert.KernelIdeal.Gen

/-- The run with the result named. -/
theorem run_value (m : (ℓ : Loc nD τ sig) → Buf (Elt Ideal) ℓ) (ρ : Dev nD → PrngReg) (hf : ∀ c, Finite m c) :
    θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 3).trans (final m c (hf c)), h.2 c⟩)
    (θ_run_and (run_main m ρ) (frame_of m ρ (dats m) (A_eq m) (run_main m ρ)))

end Cert.KernelIdeal.Mla

namespace Cert.Proof.MlaClaims

theorem pre_facts : Cert.Pre_finite_scores.Facts := ⟨by decide, by decide, by decide⟩

theorem frame_kernel : Cert.quiescent_Kernel := fun m ρ _ => Cert.Kernel.Mla.frame_all m ρ

theorem frame_kernel_ideal : Cert.quiescent_KernelIdeal := fun m ρ _ => Cert.KernelIdeal.Mla.frame_all m ρ

theorem frame_kernel_ideal_pre : Cert.quiescent_KernelIdeal_pre_finite_scores (hPre_finite_scores := pre_facts) := fun m ρ _ => Cert.KernelIdeal.Mla.frame_all m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_finite_scores (hPre_finite_scores := pre_facts) := fun m ρ _ => frame_reference m ρ trivial

theorem preserves : Cert.preserves_Kernel_KernelIdeal := IdealRules.named_const.statement Cert.KernelIdeal.κ "mask" .f32 0xF149F2CA#32 ⊥ rfl

/-- The precondition: the queries and the keys are real numbers. -/
theorem finite (m : (ℓ : Loc Cert.KernelIdeal.nD Cert.KernelIdeal.τ Cert.KernelIdeal.sig) → Buf (Elt Ideal) ℓ)
    (h : Cert.Pre_KernelIdeal_finite_scores (hPre_finite_scores := pre_facts) m) (c : Dev Cert.KernelIdeal.nD) : Cert.KernelIdeal.Mla.Finite m c :=
  ⟨Cert.KernelIdeal.Mla.real_of_lt _ _ (fun _ => rfl) (h c).1, Cert.KernelIdeal.Mla.real_of_lt _ _ (fun _ => rfl) (h c).2.1,
    Cert.KernelIdeal.Mla.real_of_lt _ _ (fun _ => rfl) (h c).2.2.1, Cert.KernelIdeal.Mla.real_of_lt _ _ (fun _ => rfl) (h c).2.2.2⟩

theorem algebraic : Cert.algebraic_KernelIdeal_ReferenceIdeal_pre_finite_scores (hPre_finite_scores := pre_facts) := fun m ρ m' ρ' hp hag =>
  ⟨fun c => Cert.KernelIdeal.Mla.result m c,
    Cert.KernelIdeal.Mla.run_value m ρ (finite m hp),
    (θ_run Cert.ReferenceIdeal.defs _ _).mono
      (fun _ h c => ⟨(h c).1.trans (by
        rw [Cert.ReferenceIdeal.Mla.value_eq m' c]
        unfold Cert.KernelIdeal.Mla.result
        rw [(hag c).1, (hag c).2.1, (hag c).2.2.1, (hag c).2.2.2.1, (hag c).2.2.2.2]), (h c).2⟩)
      (Cert.ReferenceIdeal.Value.run (F := Ideal) m' ρ')⟩

end Cert.Proof.MlaClaims

end
-- ==== Proof.Xattn.Math.lean ====
/-
  The arithmetic of the cross-attention on a memory of 256 keys, over the extended reals, for one token.

  `soft2` is the softmax the kernel computes: base-two exponentials less the row's greatest, the weighted sum of the values
  divided by the sum of the weights.  `softE` is the softmax of the reference: natural exponentials, each weight divided
  first.  `soft2_eq` says they agree where the scores are real and the kernel's are the reference's divided by `log 2`.

  `rowK` and `rowR` are the whole row in the two forms: the row plus its four heads' results times the output weights.
  `row_eq` says they agree where what the scores are computed of is real.
-/
module

public import proofs.«01_k».proof.Proof.Ffn.Math
public import proofs.«01_k».proof.Proof.Mla.Math

@[expose] public section

set_option maxRecDepth 16384

noncomputable section

open Idealize.ShloMosaic

namespace Cert.Xattn

/-- Softmax with base-two exponentials, the division last. -/
def soft2 (σ v : Fin 256 → EReal) : EReal :=
  Ideal.div (∑ k : Fin 256, Ideal.exp2 (σ k - Finset.fold max (Ideal.ofBits .f32 0xFF800000#32) σ Finset.univ) * v k)
    (∑ k : Fin 256, Ideal.exp2 (σ k - Finset.fold max (Ideal.ofBits .f32 0xFF800000#32) σ Finset.univ))

/-- Softmax with natural exponentials, the division first. -/
def softE (s v : Fin 256 → EReal) : EReal :=
  ∑ k : Fin 256, v k * Ideal.div
    (Ideal.exp (s k - max (Ideal.ofBits .f32 0xFF800000#32) (Finset.fold max (Ideal.ofBits .f32 0xFF800000#32) s Finset.univ)))
    (∑ j : Fin 256, Ideal.exp (s j - max (Ideal.ofBits .f32 0xFF800000#32) (Finset.fold max (Ideal.ofBits .f32 0xFF800000#32) s Finset.univ)))

theorem soft2_eq (y : Fin 256 → ℝ) (σ s v : Fin 256 → EReal) (hσ : ∀ k, σ k = (y k : EReal)) (hs : ∀ k, s k = ((y k * Real.log 2 : ℝ) : EReal)) :
    soft2 σ v = softE s v := by
  obtain ⟨p, -, hp⟩ := Finset.exists_mem_eq_sup (Finset.univ : Finset (Fin 256)) ⟨0, Finset.mem_univ _⟩ σ
  have hl : (0 : ℝ) < Real.log 2 := Real.log_pos (by norm_num)
  have eM : Finset.fold max (Ideal.ofBits .f32 0xFF800000#32) σ Finset.univ = (y p : EReal) := by
    rw [Mla.ninf, Mla.fold_max, hp, hσ]
  have le : ∀ k, y k ≤ y p := fun k => by
    have := Finset.le_sup (f := σ) (Finset.mem_univ k)
    rw [hp, hσ, hσ] at this
    exact EReal.coe_le_coe_iff.mp this
  have eS : max (Ideal.ofBits .f32 0xFF800000#32) (Finset.fold max (Ideal.ofBits .f32 0xFF800000#32) s Finset.univ) = ((y p * Real.log 2 : ℝ) : EReal) := by
    rw [Mla.ninf, Mla.fold_max, max_eq_right bot_le]
    apply le_antisymm
    · refine Finset.sup_le fun k _ => ?_
      rw [hs k]
      exact EReal.coe_le_coe_iff.mpr (mul_le_mul_of_nonneg_right (le k) hl.le)
    · rw [← hs p]
      exact Finset.le_sup (f := s) (Finset.mem_univ _)
  have e2 : ∀ k, Ideal.exp2 (σ k - (y p : EReal)) = (((2 : ℝ) ^ (y k - y p) : ℝ) : EReal) := fun k => by rw [hσ k, Mla.exp2_sub]
  have eE : ∀ k, Ideal.exp (s k - ((y p * Real.log 2 : ℝ) : EReal)) = (((2 : ℝ) ^ (y k - y p) : ℝ) : EReal) := fun k => by
    rw [hs k, ← EReal.coe_sub, Ideal.exp_coe, Real.rpow_def_of_pos (by norm_num)]
    congr 2; ring
  obtain ⟨z, hz⟩ : ∃ z : ℝ, z = ∑ k : Fin 256, (2 : ℝ) ^ (y k - y p) := ⟨_, rfl⟩
  have z0 : 0 < z := hz ▸ Finset.sum_pos (fun j _ => Real.rpow_pos_of_pos (by norm_num) _) ⟨0, Finset.mem_univ _⟩
  unfold soft2 softE
  rw [eM, eS]
  simp only [e2, eE]
  rw [Mla.sum_coe, ← hz, Ideal.div_coe z0.ne', Mla.sum_mul_coe _ _ _ (by positivity)]
  refine Finset.sum_congr rfl fun k _ => ?_
  rw [Ideal.div_coe z0.ne', mul_comm (v k), mul_right_comm]

/-- A row of keys and values: the normalised row of the memory times the weights. -/
def kvRow (mem g : Fin 1024 → EReal) (w : Fin 1024 → Fin 1024 → EReal) (l : Fin 1024) : EReal :=
  ∑ j : Fin 1024, Ffn.normRow mem g j * w j l

/-- The query row: the normalised row times the weights. -/
def qRow (x g : Fin 1024 → EReal) (w : Fin 1024 → Fin 512 → EReal) (l : Fin 512) : EReal :=
  ∑ j : Fin 1024, Ffn.normRow x g j * w j l

/-- Column `d` of head `h` of the kernel's row, whose queries carry the scale `c`. -/
def headK (x g : Fin 1024 → EReal) (w : Fin 1024 → Fin 512 → EReal) (c : EReal) (kv : Fin 256 → Fin 1024 → EReal) (h : Fin 4) (d : Fin 128) : EReal :=
  soft2 (fun k => ∑ e : Fin 128, qRow x g w ⟨128 * h.val + e.val, by omega⟩ * c * kv k ⟨128 * h.val + e.val, by omega⟩)
    (fun k => kv k ⟨512 + 128 * h.val + d.val, by omega⟩)

/-- Column `d` of head `h` of the reference's row, whose scores are multiplied by the scale `c`. -/
def headR (x g : Fin 1024 → EReal) (w : Fin 1024 → Fin 512 → EReal) (c : EReal) (kv : Fin 256 → Fin 1024 → EReal) (h : Fin 4) (d : Fin 128) : EReal :=
  softE (fun k => (∑ e : Fin 128, qRow x g w ⟨128 * h.val + e.val, by omega⟩ * kv k ⟨128 * h.val + e.val, by omega⟩) * c)
    (fun k => kv k ⟨512 + 128 * h.val + d.val, by omega⟩)

/-- A row plus its heads' results times the output weights. -/
def row (head : Fin 4 → Fin 128 → EReal) (x : Fin 1024 → EReal) (wo : Fin 512 → Fin 1024 → EReal) (l : Fin 1024) : EReal :=
  x l + ∑ p : Fin 512, head ⟨p.val / 128, by omega⟩ ⟨p.val % 128, Nat.mod_lt _ (by decide)⟩ * wo p l

/-- A sum of products of real numbers is real. -/
theorem dot_real {n : ℕ} (f g : Fin n → EReal) (hf : ∀ j, ∃ y : ℝ, f j = (y : EReal)) (hg : ∀ j, ∃ y : ℝ, g j = (y : EReal)) :
    ∃ y : ℝ, ∑ j, f j * g j = (y : EReal) := by
  choose a ha using hf
  choose b hb using hg
  refine ⟨∑ j, a j * b j, ?_⟩
  rw [← Mla.sum_coe]
  exact Finset.sum_congr rfl fun j _ => by rw [ha, hb, EReal.coe_mul]

theorem bits_1024 : Ideal.ofBits .f32 0x44800000#32 = ((1024 : ℝ) : EReal) := by
  simp [Ideal.ofBits, Ideal.ieee]; rw [← EReal.coe_mul]; norm_num

theorem bits_eps : ∃ ε : ℝ, 0 < ε ∧ Ideal.ofBits .f32 0x358637BD#32 = (ε : EReal) := by
  refine ⟨_, ?_, by simp [Ideal.ofBits, Ideal.ieee]; rw [← EReal.coe_mul]⟩
  positivity

/-- RMS normalisation of a real row with a real gain is real. -/
theorem norm_real (x g : Fin 1024 → EReal) (hx : ∀ j, ∃ y : ℝ, x j = (y : EReal)) (hg : ∀ j, ∃ y : ℝ, g j = (y : EReal)) (k : Fin 1024) :
    ∃ y : ℝ, Ffn.normRow x g k = (y : EReal) := by
  choose a ha using hx
  choose b hb using hg
  obtain ⟨ε, hε, eε⟩ := bits_eps
  have e : ∑ i : Fin 1024, x i * x i = ((∑ i : Fin 1024, a i * a i : ℝ) : EReal) := by
    rw [← Mla.sum_coe]
    exact Finset.sum_congr rfl fun j _ => by rw [ha, EReal.coe_mul]
  have h0 : 0 ≤ ∑ i : Fin 1024, a i * a i := Finset.sum_nonneg fun i _ => mul_self_nonneg _
  have hp : 0 < (∑ i : Fin 1024, a i * a i) * (1 / 1024) + ε := by positivity
  unfold Ffn.normRow
  rw [e, bits_1024, eε, Ideal.div_coe (by norm_num), ← EReal.coe_mul, ← EReal.coe_add, Ideal.rsqrt_coe, if_neg hp.not_gt, if_neg hp.ne', ha, hb, ← EReal.coe_mul, ← EReal.coe_mul]
  exact ⟨_, rfl⟩

/-- The two forms of a head agree where what its scores are computed of is real. -/
theorem head_eq (x g : Fin 1024 → EReal) (w : Fin 1024 → Fin 512 → EReal) (kv : Fin 256 → Fin 1024 → EReal) (c : ℝ) (c2 cE : EReal)
    (h2 : c2 = ((c * (Real.log 2)⁻¹ : ℝ) : EReal)) (hE : cE = (c : EReal))
    (hx : ∀ j, ∃ y : ℝ, x j = (y : EReal)) (hg : ∀ j, ∃ y : ℝ, g j = (y : EReal)) (hw : ∀ j l, ∃ y : ℝ, w j l = (y : EReal))
    (hkv : ∀ k l, ∃ y : ℝ, kv k l = (y : EReal)) (h : Fin 4) (d : Fin 128) : headK x g w c2 kv h d = headR x g w cE kv h d := by
  have hq : ∀ l, ∃ y : ℝ, qRow x g w l = (y : EReal) := fun l => dot_real _ _ (norm_real x g hx hg) fun j => hw j l
  choose q eq using hq
  choose κ eκ using hkv
  have hl : Real.log 2 ≠ 0 := (Real.log_pos (by norm_num)).ne'
  refine soft2_eq (fun k => (∑ e : Fin 128, q ⟨128 * h.val + e.val, by omega⟩ * κ k ⟨128 * h.val + e.val, by omega⟩) * c * (Real.log 2)⁻¹) _ _ _ (fun k => ?_) fun k => ?_
  · rw [mul_assoc, Finset.sum_mul, ← Mla.sum_coe]
    refine Finset.sum_congr rfl fun e _ => ?_
    rw [eq, eκ, h2, ← EReal.coe_mul, ← EReal.coe_mul]
    congr 1; ring
  · have : (∑ e : Fin 128, qRow x g w ⟨128 * h.val + e.val, by omega⟩ * kv k ⟨128 * h.val + e.val, by omega⟩)
        = ((∑ e : Fin 128, q ⟨128 * h.val + e.val, by omega⟩ * κ k ⟨128 * h.val + e.val, by omega⟩ : ℝ) : EReal) := by
      rw [← Mla.sum_coe]
      exact Finset.sum_congr rfl fun e _ => by rw [eq, eκ, EReal.coe_mul]
    rw [this, hE, ← EReal.coe_mul]
    congr 1
    field_simp

end Cert.Xattn

end
-- ==== Proof.Xattn.Block4.lean ====
/-
  What one grid point of the second layer's two calls leaves in its block, entry by entry.
-/
module

public import proofs.«01_k».proof.Proof.Xattn.Math
public import proofs.«01_k».proof.Proof.Gen.Kernel4Ideal.Frame
public import Idealize.ShloMosaic.Lib.UnfoldOut

@[expose] public section

set_option maxRecDepth 16384

noncomputable section

open Idealize.ShloMosaic

namespace Cert.Xattn4

open Cert.Kernel4Ideal Cert.Kernel4Ideal.Gen

/-- The keys and values of a block of the memory. -/
theorem kv_apply (x0 : Vec Ideal S256x1024 .f32) (x1 : Vec Ideal S1x1024 .f32) (x2 : Vec Ideal S1024x1024 .bf16) (r : Fin 256) (l : Fin 1024) :
    out0_3 x0 x1 x2 (ix2 r l) = Xattn.kvRow (fun i => x0 (ix2 r i)) (fun i => x1 (ix2 0 i)) (fun j l => x2 (ix2 j l)) l := by
  unfold out0_3
  frame_out
  pointwise [k0_pay1, Xattn.kvRow, Ffn.normRow]

/-- The scale of the queries. -/
abbrev scale : EReal := Named.named (F := Ideal) (φ := .f32) κ "x_q_log2_scale" 0x3E0293EE#32

theorem mix_apply (x0 : Vec Ideal S1024x1024 .f32) (x1 x2 : Vec Ideal S1024x1024 .bf16) (r l : Fin 1024) :
    k1_pay2 x0 x1 x2 (ix2 r l) = x0 (ix2 r l) + ∑ j : Fin 1024, (x1 (ix2 r j) : EReal) * x2 (ix2 j l) := by
  pointwise [k1_pay2]

theorem query_apply (x0 : Vec Ideal S1024x1024 .f32) (x1 x2 : Vec Ideal S1024x1024 .bf16) (x3 : Vec Ideal S1x1024 .f32) (x4 : Vec Ideal S1024x512 .bf16)
    (r : Fin 1024) (l : Fin 512) :
    k1_pay3 x0 x1 x2 x3 x4 (ix2 r l) = Xattn.qRow (fun i => k1_pay2 x0 x1 x2 (ix2 r i)) (fun i => x3 (ix2 0 i)) (fun j l => x4 (ix2 j l)) l * scale := by
  pointwise [k1_pay3, Xattn.qRow, Ffn.normRow]

/-- The products of a block of queries and a block of keys. -/
def scores (q : FVec Ideal S1024x128 .bf16) (k : FVec Ideal S256x128 .bf16) : FVec Ideal S1024x256 .f32 :=
  matmul dot_S1024x128_S256x128_S1024x256_1_1_0_0_n_n none q (shapeCast S256x128 k shapeCasts_S256x128_S256x128) (constant S1024x256 .f32 0x00000000#32)

/-- The weights of a block of scores. -/
def weights (s : FVec Ideal S1024x256 .f32) : FVec Ideal S1024x256 .f32 :=
  exp2 (subf s (broadcastTo S1024x256 (shapeCast S1024x1 (multiReduction .maximumf [1] S1024 s 0xFF800000#32 reduces_S1024x256_S1024 (.inl rfl) rfl) shapeCasts_S1024_S1024x1) broadcasts_S1024x1_S1024x256))

/-- The weighted sum of the values divided by the sum of the weights. -/
def attend (s : FVec Ideal S1024x256 .f32) (v : FVec Ideal S256x128 .bf16) : FVec Ideal S1024x128 .bf16 :=
  truncf .bf16 (divf (matmul dot_S1024x256_S256x128_S1024x128_1_0_0_1_n_n none (truncf .bf16 (weights s) bitsLt_bf16_f32)
      (shapeCast S256x128 v shapeCasts_S256x128_S256x128) (constant S1024x128 .f32 0x00000000#32))
    (broadcastTo S1024x128 (shapeCast S1024x1 (multiReduction .add [1] S1024 (weights s) 0x00000000#32 reduces_S1024x256_S1024 (.inl rfl) rfl) shapeCasts_S1024_S1024x1) broadcasts_S1024x1_S1024x128)) bitsLt_bf16_f32

theorem scores_apply (q : FVec Ideal S1024x128 .bf16) (k : FVec Ideal S256x128 .bf16) (r : Fin 1024) (j : Fin 256) :
    scores q k (ix2 r j) = ∑ e : Fin 128, (q (ix2 r e) : EReal) * k (ix2 j e) := by
  unfold scores
  pointwise

theorem attend_apply (s : FVec Ideal S1024x256 .f32) (v : FVec Ideal S256x128 .bf16) (r : Fin 1024) (d : Fin 128) :
    attend s v (ix2 r d) = Xattn.soft2 (fun j => s (ix2 r j)) (fun j => v (ix2 j d)) := by
  unfold attend weights Xattn.soft2
  pointwise
  rfl

/-- The columns of four heads, one after another. -/
theorem joined_apply (h : Fin 4 → FVec Ideal S1024x128 .bf16) (r : Fin 1024) (p : Fin 512) :
    concatenate S1024x512 1 [⟨S1024x128, h 0⟩, ⟨S1024x128, h 1⟩, ⟨S1024x128, h 2⟩, ⟨S1024x128, h 3⟩] concatenates_S1024x128_S1024x128_S1024x128_S1024x128_S1024x512_d1 (ix2 r p)
      = h ⟨p.val / 128, by omega⟩ (ix2 r ⟨p.val % 128, Nat.mod_lt _ (by decide)⟩) := by
  have e : ∀ (a b : ℕ) (ha : a < 4) (hb : b < 4) (d d' : ℕ) (hd : d < 128) (hd' : d' < 128), a = b → d = d' →
      h ⟨a, ha⟩ (ix2 r ⟨d, hd⟩) = h ⟨b, hb⟩ (ix2 r ⟨d', hd'⟩) := by
    intro a b _ _ d d' _ _ e1 e2
    subst e1 e2
    rfl
  pointwise
  by_cases h1 : p.val < 128
  · rw [dif_pos h1]
    exact e 0 _ (by decide) _ _ _ h1 _ (by omega) (by omega)
  by_cases h2 : p.val - 128 < 128
  · rw [dif_neg h1, dif_pos h2]
    exact e 1 _ (by decide) _ _ _ h2 _ (by omega) (by omega)
  by_cases h3 : p.val - 128 - 128 < 128
  · rw [dif_neg h1, dif_neg h2, dif_pos h3]
    exact e 2 _ (by decide) _ _ _ h3 _ (by omega) (by omega)
  · rw [dif_neg h1, dif_neg h2, dif_neg h3]
    exact e 3 _ (by decide) _ _ _ _ _ (by omega) (by omega)

/-- The row plus the joined heads times the output weights. -/
def mixed (x : FVec Ideal S1024x1024 .f32) (h : Fin 4 → FVec Ideal S1024x128 .bf16) (wo : FVec Ideal S512x1024 .bf16) : FVec Ideal S1024x1024 .f32 :=
  addf x (matmul dot_S1024x512_S512x1024_S1024x1024_1_0_0_1_n_n none
    (concatenate S1024x512 1 [⟨S1024x128, h 0⟩, ⟨S1024x128, h 1⟩, ⟨S1024x128, h 2⟩, ⟨S1024x128, h 3⟩] concatenates_S1024x128_S1024x128_S1024x128_S1024x128_S1024x512_d1)
    (shapeCast S512x1024 wo shapeCasts_S512x1024_S512x1024) (constant S1024x1024 .f32 0x00000000#32))

theorem mixed_apply (x : FVec Ideal S1024x1024 .f32) (h : Fin 4 → FVec Ideal S1024x128 .bf16) (wo : FVec Ideal S512x1024 .bf16) (r l : Fin 1024) :
    mixed x h wo (ix2 r l) = Xattn.row (fun e d => h e (ix2 r d)) (fun i => x (ix2 r i)) (fun p l => wo (ix2 p l)) l := by
  unfold mixed Xattn.row
  simp only [← joined_apply]
  generalize concatenate S1024x512 1 [⟨S1024x128, h 0⟩, ⟨S1024x128, h 1⟩, ⟨S1024x128, h 2⟩, ⟨S1024x128, h 3⟩] concatenates_S1024x128_S1024x128_S1024x128_S1024x128_S1024x512_d1 = a
  pointwise

/-- A head's 128 columns of a block of keys and values. -/
theorem ld_kv (x5 : Vec Ideal S256x1024 .bf16) (e : ℕ) (hi : ∀ a, ![0, e] a + S256x128.size a ≤ S256x1024.size a) (j : Fin 256) (d : Fin 128) (he : e + d.val < 1024) :
    (View.ld x5 (Rect.unit (s := S256x1024) ![0, e] S256x128.size hi) : Vec Ideal S256x128 .bf16) (ix2 j d) = x5 (ix2 j ⟨e + d.val, he⟩) := by
  refine congrArg x5 (funext fun k => Fin.ext ?_)
  fin_cases k <;> simp [Rect.unit, Rect.emb, LoadRect.idx]

/-- A head's 128 columns of the queries. -/
def queries (q : FVec Ideal S1024x512 .bf16) : Fin 4 → FVec Ideal S1024x128 .bf16
  | 0 => extractStridedSlice S1024x128 ![0, 0] q slices_S1024x512_o0_0_S1024x128
  | 1 => extractStridedSlice S1024x128 ![0, 128] q slices_S1024x512_o0_128_S1024x128
  | 2 => extractStridedSlice S1024x128 ![0, 256] q slices_S1024x512_o0_256_S1024x128
  | 3 => extractStridedSlice S1024x128 ![0, 384] q slices_S1024x512_o0_384_S1024x128

theorem queries_apply (q : FVec Ideal S1024x512 .bf16) (h : Fin 4) (r : Fin 1024) (e : Fin 128) :
    queries q h (ix2 r e) = q (ix2 r ⟨128 * h.val + e.val, by omega⟩) := by
  fin_cases h
  · show extractStridedSlice S1024x128 ![0, 0] q slices_S1024x512_o0_0_S1024x128 _ = _
    pointwise
  · show extractStridedSlice S1024x128 ![0, 128] q slices_S1024x512_o0_128_S1024x128 _ = _
    pointwise
  · show extractStridedSlice S1024x128 ![0, 256] q slices_S1024x512_o0_256_S1024x128 _ = _
    pointwise
  · show extractStridedSlice S1024x128 ![0, 384] q slices_S1024x512_o0_384_S1024x128 _ = _
    pointwise

/-- A head's keys and a head's values. -/
def keys (x5 : Vec Ideal S256x1024 .bf16) : Fin 4 → Vec Ideal S256x128 .bf16
  | 0 => View.ld x5 r1_3
  | 1 => View.ld x5 r1_5
  | 2 => View.ld x5 r1_7
  | 3 => View.ld x5 r1_9

def values (x5 : Vec Ideal S256x1024 .bf16) : Fin 4 → Vec Ideal S256x128 .bf16
  | 0 => View.ld x5 r1_4
  | 1 => View.ld x5 r1_6
  | 2 => View.ld x5 r1_8
  | 3 => View.ld x5 r1_10

theorem keys_apply (x5 : Vec Ideal S256x1024 .bf16) (h : Fin 4) (j : Fin 256) (e : Fin 128) :
    keys x5 h (ix2 j e) = x5 (ix2 j ⟨128 * h.val + e.val, by omega⟩) := by
  fin_cases h
  · exact ld_kv x5 0 _ j e (by omega)
  · exact ld_kv x5 128 _ j e (by omega)
  · exact ld_kv x5 256 _ j e (by omega)
  · exact ld_kv x5 384 _ j e (by omega)

theorem values_apply (x5 : Vec Ideal S256x1024 .bf16) (h : Fin 4) (j : Fin 256) (e : Fin 128) :
    values x5 h (ix2 j e) = x5 (ix2 j ⟨512 + 128 * h.val + e.val, by omega⟩) := by
  fin_cases h
  · exact ld_kv x5 512 _ j e (by omega)
  · exact ld_kv x5 640 _ j e (by omega)
  · exact ld_kv x5 768 _ j e (by omega)
  · exact ld_kv x5 896 _ j e (by omega)

/-- The four heads of a block. -/
def heads (q : FVec Ideal S1024x512 .bf16) (x5 : Vec Ideal S256x1024 .bf16) (h : Fin 4) : FVec Ideal S1024x128 .bf16 :=
  attend (scores (queries q h) (keys x5 h)) (values x5 h)

theorem heads_apply (q : FVec Ideal S1024x512 .bf16) (x5 : Vec Ideal S256x1024 .bf16) (x g : Fin 1024 → EReal) (w : Fin 1024 → Fin 512 → EReal) (r : Fin 1024)
    (hq : ∀ l, q (ix2 r l) = Xattn.qRow x g w l * scale) (h : Fin 4) (d : Fin 128) :
    heads q x5 h (ix2 r d) = Xattn.headK x g w scale (fun j l => x5 (ix2 j l)) h d := by
  unfold heads Xattn.headK
  rw [attend_apply]
  refine congrArg₂ Xattn.soft2 (funext fun j => ?_) (funext fun j => values_apply x5 h j d)
  rw [scores_apply]
  refine Finset.sum_congr rfl fun e _ => ?_
  rw [queries_apply, keys_apply, hq]

theorem ld_self {S : Shape} {t : EltTy} (x : Vec Ideal S t) (i) (hi : ∀ a, i a + S.size a ≤ S.size a) (h0 : ∀ a, i a = 0) : View.ld x (Rect.unit (s := S) i S.size hi) = x := by
  refine funext fun k => congrArg x (funext fun a => Fin.ext ?_)
  simp [Rect.unit, Rect.emb, LoadRect.idx, h0]

/-- The block the point writes. -/
theorem out_apply (x0 : Vec Ideal S1024x1024 .f32) (x1 x2 : Vec Ideal S1024x1024 .bf16) (x3 : Vec Ideal S1x1024 .f32) (x4 : Vec Ideal S1024x512 .bf16)
    (x5 : Vec Ideal S256x1024 .bf16) (x6 : Vec Ideal S512x1024 .bf16) (r l : Fin 1024) :
    out1_7 x0 x1 x2 x3 x4 x5 x6 (ix2 r l)
      = Xattn.row (Xattn.headK (fun i => x0 (ix2 r i) + ∑ j : Fin 1024, (x1 (ix2 r j) : EReal) * x2 (ix2 j i)) (fun i => x3 (ix2 0 i)) (fun j l => x4 (ix2 j l)) scale (fun j l => x5 (ix2 j l)))
          (fun i => x0 (ix2 r i) + ∑ j : Fin 1024, (x1 (ix2 r j) : EReal) * x2 (ix2 j i)) (fun p l => x6 (ix2 p l)) l := by
  unfold out1_7 k1_pay13
  have l0 : View.ld x0 r1_0 = x0 := ld_self x0 _ _ (by decide)
  have l1 : View.ld x1 r1_0 = x1 := ld_self x1 _ _ (by decide)
  have l2 : View.ld x2 r1_0 = x2 := ld_self x2 _ _ (by decide)
  have l3 : View.ld x3 r1_1 = x3 := ld_self x3 _ _ (by decide)
  have l4 : View.ld x4 r1_2 = x4 := ld_self x4 _ _ (by decide)
  have l6 : View.ld x6 r1_11 = x6 := ld_self x6 _ _ (by decide)
  rw [l0, l1, l2, l3, l4, l6]
  frame_out
  show mixed (k1_pay2 x0 x1 x2) (heads (k1_pay3 x0 x1 x2 x3 x4) x5) x6 (ix2 r l) = _
  rw [mixed_apply]
  simp only [heads_apply _ _ _ _ _ r (query_apply x0 x1 x2 x3 x4 r), mix_apply]

end Cert.Xattn4

end
-- ==== Proof.Xattn.Spec.lean ====
/-
  The output mixing and the cross-attention at every token, in the reference's form.

  `memKv` are the keys and values of every memory row; `mixed4` and `mixed5` are the token's row plus the mixed outputs of
  the layer's attentions; `all` is the row of the cross-attention at every token.
-/
module

public import proofs.«01_k».proof.Proof.Xattn.Math

@[expose] public section

noncomputable section

open Idealize.ShloMosaic

namespace Cert.Xattn

/-- The number of a token's sequence and its place there. -/
abbrev seqOf (i : Fin 65536) : Fin 8 := ⟨i.val / 8192, by omega⟩
abbrev posOf (i : Fin 65536) : Fin 8192 := ⟨i.val % 8192, Nat.mod_lt _ (by decide)⟩

/-- Keys and values of the memory of sequence `b`. -/
def memKv (mem : FVec Ideal ⟨3, ![8, 256, 1024]⟩ .f32) (g : FVec Ideal ⟨1, ![1024]⟩ .f32) (w : FVec Ideal ⟨2, ![1024, 1024]⟩ .f32)
    (b : Fin 8) (k : Fin 256) : Fin 1024 → EReal :=
  kvRow (fun j => mem (ix3 b k j)) (fun j => g (ix1 j)) (fun j l => w (ix2 j l))

/-- A token's row plus the outputs of its sixteen heads times the weights. -/
def mixed4 (x : FVec Ideal ⟨3, ![8, 8192, 1024]⟩ .f32) (o : FVec Ideal ⟨4, ![8, 8192, 16, 64]⟩ .f32) (w : FVec Ideal ⟨2, ![1024, 1024]⟩ .f32)
    (i : Fin 65536) (l : Fin 1024) : EReal :=
  x (ix3 (seqOf i) (posOf i) l) + ∑ j : Fin 1024, o (ix4 (seqOf i) (posOf i) ⟨j.val / 64, by omega⟩ ⟨j.val % 64, Nat.mod_lt _ (by decide)⟩) * w (ix2 j l)

/-- A token's row plus the outputs of two attentions of eight heads times their halves of the weights. -/
def mixed5 (x : FVec Ideal ⟨3, ![8, 8192, 1024]⟩ .f32) (oa ob : FVec Ideal ⟨4, ![8, 8192, 8, 64]⟩ .f32) (w : FVec Ideal ⟨2, ![1024, 1024]⟩ .f32)
    (i : Fin 65536) (l : Fin 1024) : EReal :=
  x (ix3 (seqOf i) (posOf i) l)
    + (∑ j : Fin 512, oa (ix4 (seqOf i) (posOf i) ⟨j.val / 64, by omega⟩ ⟨j.val % 64, Nat.mod_lt _ (by decide)⟩) * w (ix2 ⟨j.val, by omega⟩ l))
    + ∑ j : Fin 512, ob (ix4 (seqOf i) (posOf i) ⟨j.val / 64, by omega⟩ ⟨j.val % 64, Nat.mod_lt _ (by decide)⟩) * w (ix2 ⟨512 + j.val, by omega⟩ l)

/-- The scale of the scores: one over the root of a head's width, as the f32 constant that the reference multiplies by. -/
def xscale : EReal := Ideal.ofBits .f32 0x3DB504F3#32

theorem xscale_eq : xscale = ((11863283 / 134217728 : ℝ) : EReal) := by
  unfold xscale
  simp [Ideal.ofBits, Ideal.ieee]; rw [← EReal.coe_mul]; norm_num

/-- The rows `x` plus their cross-attention on the keys and values `kv`. -/
def all (x : Fin 65536 → Fin 1024 → EReal) (kv : Fin 8 → Fin 256 → Fin 1024 → EReal) (g : FVec Ideal ⟨1, ![1024]⟩ .f32) (wq : FVec Ideal ⟨2, ![1024, 512]⟩ .f32)
    (wo : FVec Ideal ⟨2, ![512, 1024]⟩ .f32) (i : Fin 65536) (l : Fin 1024) : EReal :=
  row (headR (x i) (fun j => g (ix1 j)) (fun j l => wq (ix2 j l)) xscale (kv (seqOf i))) (x i) (fun p l => wo (ix2 p l)) l

/-- The same in the kernel's form, where what the scores are computed of is real. -/
theorem all_eq (x : Fin 65536 → Fin 1024 → EReal) (kv : Fin 8 → Fin 256 → Fin 1024 → EReal) (g : FVec Ideal ⟨1, ![1024]⟩ .f32) (wq : FVec Ideal ⟨2, ![1024, 512]⟩ .f32)
    (wo : FVec Ideal ⟨2, ![512, 1024]⟩ .f32) (c2 : EReal) (h2 : c2 = (((11863283 / 134217728) * (Real.log 2)⁻¹ : ℝ) : EReal))
    (hx : ∀ i j, ∃ y : ℝ, x i j = (y : EReal)) (hkv : ∀ b k l, ∃ y : ℝ, kv b k l = (y : EReal)) (hg : ∃ y : Shape.Idx ⟨1, ![1024]⟩ → ℝ, ∀ i, g i = (y i : EReal))
    (hw : ∃ y : Shape.Idx ⟨2, ![1024, 512]⟩ → ℝ, ∀ i, wq i = (y i : EReal)) (i : Fin 65536) (l : Fin 1024) :
    row (headK (x i) (fun j => g (ix1 j)) (fun j l => wq (ix2 j l)) c2 (kv (seqOf i))) (x i) (fun p l => wo (ix2 p l)) l = all x kv g wq wo i l := by
  obtain ⟨yg, hg⟩ := hg
  obtain ⟨yw, hw⟩ := hw
  unfold all row
  refine congrArg (x i l + ·) (Finset.sum_congr rfl fun p _ => congrArg (· * _) ?_)
  exact head_eq _ _ _ _ _ _ _ h2 xscale_eq (hx i) (fun j => ⟨_, hg _⟩) (fun j l => ⟨_, hw _⟩) (hkv _) _ _

theorem memKv_real (mem : FVec Ideal ⟨3, ![8, 256, 1024]⟩ .f32) (g : FVec Ideal ⟨1, ![1024]⟩ .f32) (w : FVec Ideal ⟨2, ![1024, 1024]⟩ .f32)
    (hm : ∃ y : Shape.Idx ⟨3, ![8, 256, 1024]⟩ → ℝ, ∀ i, mem i = (y i : EReal)) (hg : ∃ y : Shape.Idx ⟨1, ![1024]⟩ → ℝ, ∀ i, g i = (y i : EReal))
    (hw : ∃ y : Shape.Idx ⟨2, ![1024, 1024]⟩ → ℝ, ∀ i, w i = (y i : EReal)) (b : Fin 8) (k : Fin 256) (l : Fin 1024) : ∃ y : ℝ, memKv mem g w b k l = (y : EReal) := by
  obtain ⟨ym, hm⟩ := hm
  obtain ⟨yg, hg⟩ := hg
  obtain ⟨yw, hw⟩ := hw
  exact dot_real _ _ (norm_real _ _ (fun j => ⟨_, hm _⟩) fun j => ⟨_, hg _⟩) fun j => ⟨_, hw _⟩

theorem add_real {a b : EReal} (ha : ∃ y : ℝ, a = (y : EReal)) (hb : ∃ y : ℝ, b = (y : EReal)) : ∃ y : ℝ, a + b = (y : EReal) := by
  obtain ⟨y, rfl⟩ := ha
  obtain ⟨z, rfl⟩ := hb
  exact ⟨y + z, (EReal.coe_add _ _).symm⟩

theorem mixed4_real (x : FVec Ideal ⟨3, ![8, 8192, 1024]⟩ .f32) (o : FVec Ideal ⟨4, ![8, 8192, 16, 64]⟩ .f32) (w : FVec Ideal ⟨2, ![1024, 1024]⟩ .f32)
    (hx : ∃ y : Shape.Idx ⟨3, ![8, 8192, 1024]⟩ → ℝ, ∀ i, x i = (y i : EReal)) (ho : ∃ y : Shape.Idx ⟨4, ![8, 8192, 16, 64]⟩ → ℝ, ∀ i, o i = (y i : EReal))
    (hw : ∃ y : Shape.Idx ⟨2, ![1024, 1024]⟩ → ℝ, ∀ i, w i = (y i : EReal)) (i : Fin 65536) (l : Fin 1024) : ∃ y : ℝ, mixed4 x o w i l = (y : EReal) := by
  obtain ⟨yx, hx⟩ := hx
  obtain ⟨yo, ho⟩ := ho
  obtain ⟨yw, hw⟩ := hw
  exact add_real ⟨_, hx _⟩ (dot_real _ _ (fun j => ⟨_, ho _⟩) fun j => ⟨_, hw _⟩)

theorem mixed5_real (x : FVec Ideal ⟨3, ![8, 8192, 1024]⟩ .f32) (oa ob : FVec Ideal ⟨4, ![8, 8192, 8, 64]⟩ .f32) (w : FVec Ideal ⟨2, ![1024, 1024]⟩ .f32)
    (hx : ∃ y : Shape.Idx ⟨3, ![8, 8192, 1024]⟩ → ℝ, ∀ i, x i = (y i : EReal)) (ha : ∃ y : Shape.Idx ⟨4, ![8, 8192, 8, 64]⟩ → ℝ, ∀ i, oa i = (y i : EReal))
    (hb : ∃ y : Shape.Idx ⟨4, ![8, 8192, 8, 64]⟩ → ℝ, ∀ i, ob i = (y i : EReal))
    (hw : ∃ y : Shape.Idx ⟨2, ![1024, 1024]⟩ → ℝ, ∀ i, w i = (y i : EReal)) (i : Fin 65536) (l : Fin 1024) : ∃ y : ℝ, mixed5 x oa ob w i l = (y : EReal) := by
  obtain ⟨yx, hx⟩ := hx
  obtain ⟨ya, ha⟩ := ha
  obtain ⟨yb, hb⟩ := hb
  obtain ⟨yw, hw⟩ := hw
  exact add_real (add_real ⟨_, hx _⟩ (dot_real _ _ (fun j => ⟨_, ha _⟩) fun j => ⟨_, hw _⟩)) (dot_real _ _ (fun j => ⟨_, hb _⟩) fun j => ⟨_, hw _⟩)

end Cert.Xattn

end
-- ==== Proof.Xattn.Value4.lean ====
/-
  The result of the second layer's two calls: what each grid point writes is the row of the specification.
-/
module

public import proofs.«01_k».proof.Proof.Xattn.Block4
public import proofs.«01_k».proof.Proof.Xattn.Spec
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Xattn4

open Cert.Kernel4Ideal Cert.Kernel4Ideal.Gen

variable (m : (ℓ : Loc nD τ sig) → Buf (Elt Ideal) ℓ) (ρ : Dev nD → PrngReg)

theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem idx1 : ∀ t : Fin cfg1.N, win1_0.index t = ![t.val, 0] ∧ win1_1.index t = ![t.val, 0] ∧ win1_2.index t = ![0, 0] ∧ win1_3.index t = ![0, 0]
    ∧ win1_4.index t = ![0, 0] ∧ win1_5.index t = ![t.val / 8, 0] ∧ win1_6.index t = ![0, 0] ∧ win1_7.index t = ![t.val, 0] :=
  (by decide +kernel : ∀ t : Fin grid1.N, _)

/-! The arrays the host prepares for the two calls. -/

theorem host_mem (c : Dev nD) (i : Fin 2048) (l : Fin 1024) : (V1 m ρ c main_v0 : FVec Ideal S2048x1024 .f32) (ix2 i l)
    = (m ((c : Thread nD τ).loc main_arg1) : FVec Ideal S8x256x1024 .f32) (ix3 ⟨i.val / 256, by omega⟩ ⟨i.val % 256, Nat.mod_lt _ (by decide)⟩ l) := by
  simp only [V1, W1, hostOps0]
  entry_read
  pointwise

theorem host_gm (c : Dev nD) (l : Fin 1024) : (V1 m ρ c main_v1 : FVec Ideal S1x1024 .f32) (ix2 0 l)
    = (m ((c : Thread nD τ).loc main_arg5) : FVec Ideal S1024 .f32) (ix1 l) := by
  simp only [V1, W1, hostOps0]
  entry_read
  pointwise

theorem host_wkv (c : Dev nD) (j l : Fin 1024) : (V1 m ρ c main_v2 : FVec Ideal S1024x1024 .bf16) (ix2 j l)
    = (m ((c : Thread nD τ).loc main_arg7) : FVec Ideal S1024x1024 .f32) (ix2 j l) := by
  simp only [V1, W1, hostOps0]
  entry_read
  pointwise

theorem host_x (c : Dev nD) (i : Fin 65536) (l : Fin 1024) : (V3 m ρ c main_v4 : FVec Ideal S65536x1024 .f32) (ix2 i l)
    = (m ((c : Thread nD τ).loc main_arg0) : FVec Ideal S8x8192x1024 .f32) (ix3 (Xattn.seqOf i) (Xattn.posOf i) l) := by
  simp only [V3, W3, hostOps1]
  entry_read
  pointwise
  exact congrFun (W2_args m ρ c main_arg0 (by decide)) _

theorem host_o (c : Dev nD) (i : Fin 65536) (l : Fin 1024) : (V3 m ρ c main_v6 : FVec Ideal S65536x1024 .bf16) (ix2 i l)
    = (m ((c : Thread nD τ).loc main_arg2) : FVec Ideal S8x8192x16x64 .f32) (ix4 (Xattn.seqOf i) (Xattn.posOf i) ⟨l.val / 64, by omega⟩ ⟨l.val % 64, Nat.mod_lt _ (by decide)⟩) := by
  simp only [V3, W3, hostOps1]
  entry_read
  pointwise
  exact congrFun (W2_args m ρ c main_arg2 (by decide)) _

theorem host_w (c : Dev nD) (j l : Fin 1024) : (V3 m ρ c main_v7 : FVec Ideal S1024x1024 .bf16) (ix2 j l)
    = (m ((c : Thread nD τ).loc main_arg3) : FVec Ideal S1024x1024 .f32) (ix2 j l) := by
  simp only [V3, W3, hostOps1]
  entry_read
  pointwise
  exact congrFun (W2_args m ρ c main_arg3 (by decide)) _

theorem host_g (c : Dev nD) (l : Fin 1024) : (V3 m ρ c main_v8 : FVec Ideal S1x1024 .f32) (ix2 0 l)
    = (m ((c : Thread nD τ).loc main_arg4) : FVec Ideal S1024 .f32) (ix1 l) := by
  simp only [V3, W3, hostOps1]
  entry_read
  pointwise
  exact congrFun (W2_args m ρ c main_arg4 (by decide)) _

theorem host_wq (c : Dev nD) (j : Fin 1024) (l : Fin 512) : (V3 m ρ c main_v9 : FVec Ideal S1024x512 .bf16) (ix2 j l)
    = (m ((c : Thread nD τ).loc main_arg6) : FVec Ideal S1024x512 .f32) (ix2 j l) := by
  simp only [V3, W3, hostOps1]
  entry_read
  pointwise
  exact congrFun (W2_args m ρ c main_arg6 (by decide)) _

theorem host_wo (c : Dev nD) (j : Fin 512) (l : Fin 1024) : (V3 m ρ c main_v10 : FVec Ideal S512x1024 .bf16) (ix2 j l)
    = (m ((c : Thread nD τ).loc main_arg8) : FVec Ideal S512x1024 .f32) (ix2 j l) := by
  simp only [V3, W3, hostOps1]
  entry_read
  pointwise
  exact congrFun (W2_args m ρ c main_arg8 (by decide)) _

/-! The first call: the keys and values. -/

/-- The keys and values of sequence `b`. -/
abbrev kvs (c : Dev nD) : Fin 8 → Fin 256 → Fin 1024 → EReal :=
  Xattn.memKv (m ((c : Thread nD τ).loc main_arg1)) (m ((c : Thread nD τ).loc main_arg5)) (m ((c : Thread nD τ).loc main_arg7))

/-- The array of keys and values, the sequences one after another. -/
def kvArr (c : Dev nD) : FVec Ideal S2048x1024 .bf16 := fun i =>
  kvs m c ⟨(i 0).val / 256, Nat.div_lt_of_lt_mul (i 0).isLt⟩ ⟨(i 0).val % 256, Nat.mod_lt _ (by decide)⟩ (i 1)

theorem t0_lt (t : Fin cfg0.N) : t.val < 8 := by
  have h := t.isLt
  have hN : cfg0.N = 8 := N_0
  omega

theorem t1_lt (t : Fin cfg1.N) : t.val < 64 := by
  have h := t.isLt
  have hN : cfg1.N = 64 := N_1
  omega

theorem read0_0 (c : Dev nD) (t : Fin cfg0.N) (r : Fin 256) (l : Fin 1024) (h : t.val * 256 + r.val < 2048) :
    iblk0 (V1 m ρ) c 0 t (ix2 r l) = (V1 m ρ c main_v0 : FVec Ideal S2048x1024 .f32) (ix2 ⟨t.val * 256 + r.val, h⟩ l) := by
  blk_ext! [iblk0, idx0 t]

theorem read0_1 (c : Dev nD) (t : Fin cfg0.N) (l : Fin 1024) :
    iblk0 (V1 m ρ) c 1 t (ix2 0 l) = (V1 m ρ c main_v1 : FVec Ideal S1x1024 .f32) (ix2 0 l) := by
  blk_ext! [iblk0, idx0 t]

theorem read0_2 (c : Dev nD) (t : Fin cfg0.N) (j l : Fin 1024) :
    iblk0 (V1 m ρ) c 2 t (ix2 j l) = (V1 m ρ c main_v2 : FVec Ideal S1024x1024 .bf16) (ix2 j l) := by
  blk_ext! [iblk0, idx0 t]

theorem place0 (t : Fin cfg0.N) (r : Fin 256) (l : Fin 1024) (h : t.val * 256 + r.val < 2048) :
    ((cfg0.win 3).blk t).view.emb (ix2 r l) = (ix2 ⟨t.val * 256 + r.val, h⟩ l : S2048x1024.Idx) := by
  blk_ext [idx0 t]

theorem point0 (c : Dev nD) (t : Fin cfg0.N) (y : S256x1024.Idx) :
    out0_3 (iblk0 (V1 m ρ) c 0 t) (iblk0 (V1 m ρ) c 1 t) (iblk0 (V1 m ρ) c 2 t) y = kvArr m c (((cfg0.win 3).blk t).view.emb y) := by
  have ht := t0_lt t
  idx_vars y
  have h : t.val * 256 + y0.val < 2048 := by omega
  rw [place0 t y0 y1 h]
  refine (kv_apply _ _ _ y0 y1).trans ?_
  exact congrFun (congr (congr (congrArg Xattn.kvRow (funext fun j => (read0_0 m ρ c t y0 j h).trans (host_mem m ρ c _ j)))
    (funext fun j => (read0_1 m ρ c t j).trans (host_gm m ρ c j)))
    (funext fun j => funext fun l => (read0_2 m ρ c t j l).trans (host_wkv m ρ c j l))) y1

theorem final0 (c : Dev nD) : (dat0 (V1 m ρ) c).arrAt 3 cfg0.N = kvArr m c := by
  refine (dat0 (V1 m ρ) c).arrAt_eq_of_covers 3 _ (by decide +kernel) fun t _ y => ?_
  blk_simp
  rw [after0_3]
  exact point0 m ρ c t y

/-- The second call finds the keys and values where the first left them. -/
theorem host_kv (c : Dev nD) : V3 m ρ c main_v3 = kvArr m c :=
  (W3_of m ρ c main_v3 (by decide)).trans ((W2_arr m ρ c 3).trans (final0 m ρ c))

/-! The second call. -/

theorem read1_0 (c : Dev nD) (t : Fin cfg1.N) (r l : Fin 1024) (h : t.val * 1024 + r.val < 65536) :
    iblk1 (V3 m ρ) c 0 t (ix2 r l) = (V3 m ρ c main_v4 : FVec Ideal S65536x1024 .f32) (ix2 ⟨t.val * 1024 + r.val, h⟩ l) := by
  blk_ext! [iblk1, idx1 t]

theorem read1_1 (c : Dev nD) (t : Fin cfg1.N) (r l : Fin 1024) (h : t.val * 1024 + r.val < 65536) :
    iblk1 (V3 m ρ) c 1 t (ix2 r l) = (V3 m ρ c main_v6 : FVec Ideal S65536x1024 .bf16) (ix2 ⟨t.val * 1024 + r.val, h⟩ l) := by
  blk_ext! [iblk1, idx1 t]

theorem read1_2 (c : Dev nD) (t : Fin cfg1.N) (j l : Fin 1024) :
    iblk1 (V3 m ρ) c 2 t (ix2 j l) = (V3 m ρ c main_v7 : FVec Ideal S1024x1024 .bf16) (ix2 j l) := by
  blk_ext! [iblk1, idx1 t]

theorem read1_3 (c : Dev nD) (t : Fin cfg1.N) (l : Fin 1024) :
    iblk1 (V3 m ρ) c 3 t (ix2 0 l) = (V3 m ρ c main_v8 : FVec Ideal S1x1024 .f32) (ix2 0 l) := by
  blk_ext! [iblk1, idx1 t]

theorem read1_4 (c : Dev nD) (t : Fin cfg1.N) (j : Fin 1024) (l : Fin 512) :
    iblk1 (V3 m ρ) c 4 t (ix2 j l) = (V3 m ρ c main_v9 : FVec Ideal S1024x512 .bf16) (ix2 j l) := by
  blk_ext! [iblk1, idx1 t]

theorem read1_5 (c : Dev nD) (t : Fin cfg1.N) (r : Fin 256) (l : Fin 1024) (h : t.val / 8 * 256 + r.val < 2048) :
    iblk1 (V3 m ρ) c 5 t (ix2 r l) = (V3 m ρ c main_v3 : FVec Ideal S2048x1024 .bf16) (ix2 ⟨t.val / 8 * 256 + r.val, h⟩ l) := by
  blk_ext! [iblk1, idx1 t]

theorem read1_6 (c : Dev nD) (t : Fin cfg1.N) (j : Fin 512) (l : Fin 1024) :
    iblk1 (V3 m ρ) c 6 t (ix2 j l) = (V3 m ρ c main_v10 : FVec Ideal S512x1024 .bf16) (ix2 j l) := by
  blk_ext! [iblk1, idx1 t]

theorem place1 (t : Fin cfg1.N) (r l : Fin 1024) (h : t.val * 1024 + r.val < 65536) :
    ((cfg1.win 7).blk t).view.emb (ix2 r l) = (ix2 ⟨t.val * 1024 + r.val, h⟩ l : S65536x1024.Idx) := by
  blk_ext [idx1 t]

/-- What the scores are computed of is real. -/
structure Finite (c : Dev nD) : Prop where
  x : ∃ y : S8x8192x1024.Idx → ℝ, ∀ i, (m ((c : Thread nD τ).loc main_arg0) : FVec Ideal S8x8192x1024 .f32) i = (y i : EReal)
  mem : ∃ y : S8x256x1024.Idx → ℝ, ∀ i, (m ((c : Thread nD τ).loc main_arg1) : FVec Ideal S8x256x1024 .f32) i = (y i : EReal)
  o : ∃ y : S8x8192x16x64.Idx → ℝ, ∀ i, (m ((c : Thread nD τ).loc main_arg2) : FVec Ideal S8x8192x16x64 .f32) i = (y i : EReal)
  w : ∃ y : S1024x1024.Idx → ℝ, ∀ i, (m ((c : Thread nD τ).loc main_arg3) : FVec Ideal S1024x1024 .f32) i = (y i : EReal)
  g : ∃ y : S1024.Idx → ℝ, ∀ i, (m ((c : Thread nD τ).loc main_arg4) : FVec Ideal S1024 .f32) i = (y i : EReal)
  gm : ∃ y : S1024.Idx → ℝ, ∀ i, (m ((c : Thread nD τ).loc main_arg5) : FVec Ideal S1024 .f32) i = (y i : EReal)
  wq : ∃ y : S1024x512.Idx → ℝ, ∀ i, (m ((c : Thread nD τ).loc main_arg6) : FVec Ideal S1024x512 .f32) i = (y i : EReal)
  wkv : ∃ y : S1024x1024.Idx → ℝ, ∀ i, (m ((c : Thread nD τ).loc main_arg7) : FVec Ideal S1024x1024 .f32) i = (y i : EReal)

/-- The rows before the cross-attention. -/
abbrev rows (c : Dev nD) : Fin 65536 → Fin 1024 → EReal :=
  Xattn.mixed4 (m ((c : Thread nD τ).loc main_arg0)) (m ((c : Thread nD τ).loc main_arg2)) (m ((c : Thread nD τ).loc main_arg3))

/-- The result. -/
def result (c : Dev nD) : FVec Ideal S65536x1024 .f32 := fun i =>
  Xattn.all (rows m c) (kvs m c) (m ((c : Thread nD τ).loc main_arg4)) (m ((c : Thread nD τ).loc main_arg6)) (m ((c : Thread nD τ).loc main_arg8)) (i 0) (i 1)

theorem scale_eq : scale = (((11863283 / 134217728) * (Real.log 2)⁻¹ : ℝ) : EReal) := rfl

/-- A block of the result from blocks with the rows' entries. -/
theorem block_eq (c : Dev nD) (hf : Finite m c) (x0 : FVec Ideal S1024x1024 .f32) (x1 : FVec Ideal S1024x1024 .bf16) (x2 : FVec Ideal S1024x1024 .bf16)
    (x3 : FVec Ideal S1x1024 .f32) (x4 : FVec Ideal S1024x512 .bf16) (x5 : FVec Ideal S256x1024 .bf16) (x6 : FVec Ideal S512x1024 .bf16) (r l : Fin 1024) (i : Fin 65536)
    (h0 : ∀ j, x0 (ix2 r j) = (m ((c : Thread nD τ).loc main_arg0) : FVec Ideal S8x8192x1024 .f32) (ix3 (Xattn.seqOf i) (Xattn.posOf i) j))
    (h1 : ∀ j, x1 (ix2 r j) = (m ((c : Thread nD τ).loc main_arg2) : FVec Ideal S8x8192x16x64 .f32)
      (ix4 (Xattn.seqOf i) (Xattn.posOf i) ⟨j.val / 64, by omega⟩ ⟨j.val % 64, Nat.mod_lt _ (by decide)⟩))
    (h2 : ∀ j k, x2 (ix2 j k) = (m ((c : Thread nD τ).loc main_arg3) : FVec Ideal S1024x1024 .f32) (ix2 j k))
    (h3 : ∀ j, x3 (ix2 0 j) = (m ((c : Thread nD τ).loc main_arg4) : FVec Ideal S1024 .f32) (ix1 j))
    (h4 : ∀ j k, x4 (ix2 j k) = (m ((c : Thread nD τ).loc main_arg6) : FVec Ideal S1024x512 .f32) (ix2 j k))
    (h5 : ∀ k j, x5 (ix2 k j) = kvs m c (Xattn.seqOf i) k j)
    (h6 : ∀ j k, x6 (ix2 j k) = (m ((c : Thread nD τ).loc main_arg8) : FVec Ideal S512x1024 .f32) (ix2 j k)) :
    out1_7 (F := Ideal) x0 x1 x2 x3 x4 x5 x6 (ix2 r l) = result m c (ix2 i l) := by
  refine (out_apply _ _ _ _ _ _ _ r l).trans ?_
  refine Eq.trans ?_ (Xattn.all_eq (rows m c) (kvs m c) _ _ _ scale scale_eq (Xattn.mixed4_real _ _ _ hf.x hf.o hf.w) (Xattn.memKv_real _ _ _ hf.mem hf.gm hf.wkv) hf.g hf.wq i l)
  have e1 : (fun k : Fin 1024 => x0 (ix2 r k) + ∑ j : Fin 1024, (x1 (ix2 r j) : EReal) * x2 (ix2 j k)) = rows m c i := funext fun k =>
    congrArg₂ (fun a b : EReal => a + b) (h0 k) (Finset.sum_congr rfl fun j _ => congrArg₂ (fun a b : EReal => a * b) (h1 j) (h2 j k))
  exact congrFun (congr (congr (congrArg Xattn.row (congr (congr (congr (congr (congrArg Xattn.headK e1) (funext h3)) (funext fun j => funext fun k => h4 j k)) rfl)
    (funext fun k => funext fun j => h5 k j))) e1) (funext fun j => funext fun k => h6 j k)) l

theorem read_kv (c : Dev nD) (t : Fin cfg1.N) (i : Fin 65536) (r : Fin 1024) (hi : i.val = t.val * 1024 + r.val) (k : Fin 256) (j : Fin 1024) :
    iblk1 (V3 m ρ) c 5 t (ix2 k j) = kvs m c (Xattn.seqOf i) k j := by
  have ht := t1_lt t
  refine (read1_5 m ρ c t k j (by omega)).trans ((congrFun (host_kv m ρ c) _).trans ?_)
  have e : ∀ (b b' : Fin 8) (k k' : Fin 256), b.val = b'.val → k.val = k'.val → kvs m c b k j = kvs m c b' k' j := by
    intro b b' k k' a1 a2
    rw [Fin.ext a1, Fin.ext a2]
  exact e _ _ _ _ (by show (t.val / 8 * 256 + k.val) / 256 = i.val / 8192; omega) (by show (t.val / 8 * 256 + k.val) % 256 = k.val; omega)

theorem point1 (c : Dev nD) (hf : Finite m c) (t : Fin cfg1.N) (y : S1024x1024.Idx) :
    out1_7 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) y
      = result m c (((cfg1.win 7).blk t).view.emb y) := by
  have ht := t1_lt t
  idx_vars y
  have h : t.val * 1024 + y0.val < 65536 := by omega
  rw [place1 t y0 y1 h]
  exact block_eq m c hf _ _ _ _ _ _ _ y0 y1 ⟨t.val * 1024 + y0.val, h⟩ (fun j => (read1_0 m ρ c t y0 j h).trans (host_x m ρ c _ j))
    (fun j => (read1_1 m ρ c t y0 j h).trans (host_o m ρ c _ j)) (fun j k => (read1_2 m ρ c t j k).trans (host_w m ρ c j k))
    (fun j => (read1_3 m ρ c t j).trans (host_g m ρ c j)) (fun j k => (read1_4 m ρ c t j k).trans (host_wq m ρ c j k))
    (fun k j => read_kv m ρ c t _ y0 rfl k j) (fun j k => (read1_6 m ρ c t j k).trans (host_wo m ρ c j k))

theorem final1 (c : Dev nD) (hf : Finite m c) : (dat1 (V3 m ρ) c).arrAt 7 cfg1.N = result m c := by
  refine (dat1 (V3 m ρ) c).arrAt_eq_of_covers 7 _ (by decide +kernel) fun t _ y => ?_
  blk_simp
  rw [after1_7]
  exact point1 m ρ c hf t y

end Cert.Xattn4

end
-- ==== Proof.Xattn.Run4.lean ====
/-
  The run of the second layer's two calls, the result read at its end: the launch over the two calls with the last call's
  window as what is read, beside the unchanged arguments.
-/
module

public import proofs.«01_k».proof.Proof.Xattn.Value4
public import Idealize.ShloMosaic.Lib.Tactic

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Xattn4

open Cert.Kernel4Ideal Cert.Kernel4Ideal.Gen

variable (m : (ℓ : Loc nD τ sig) → Buf (Elt Ideal) ℓ) (ρ : Dev nD → PrngReg)

set_option backward.isDefEq.respectTransparency.types false in
/-- Every execution ends with the rows plus their cross-attention, and with the arguments unchanged. -/
theorem run (hf : ∀ c, Finite m c) : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v11 (by decide))).trans ((W4_arr m ρ c 7).trans (final1 m ρ c (hf c))),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩)

end Cert.Xattn4

end
-- ==== Proof.Xattn.Block5.lean ====
/-
  What one grid point of the first layer's two calls leaves in its block, entry by entry.  The heads are those of the
  second layer's call; the two halves of the mixed outputs are multiplied one after the other.
-/
module

public import proofs.«01_k».proof.Proof.Xattn.Block4
public import proofs.«01_k».proof.Proof.Gen.Kernel5Ideal.Frame

@[expose] public section

set_option maxRecDepth 16384

noncomputable section

open Idealize.ShloMosaic

namespace Cert.Xattn5

open Cert.Kernel5Ideal Cert.Kernel5Ideal.Gen

/-- The keys and values of a block of the memory. -/
theorem kv_apply (x0 : Vec Ideal S256x1024 .f32) (x1 : Vec Ideal S1x1024 .f32) (x2 : Vec Ideal S1024x1024 .bf16) (r : Fin 256) (l : Fin 1024) :
    out0_3 x0 x1 x2 (ix2 r l) = Xattn.kvRow (fun i => x0 (ix2 r i)) (fun i => x1 (ix2 0 i)) (fun j l => x2 (ix2 j l)) l := by
  unfold out0_3
  frame_out
  pointwise [k0_pay1, Xattn.kvRow, Ffn.normRow]

/-- The scale of the queries. -/
abbrev scale : EReal := Named.named (F := Ideal) (φ := .f32) κ "x_q_log2_scale" 0x3E0293EE#32

theorem mix_apply (x0 : Vec Ideal S1024x1024 .f32) (a : Vec Ideal S1024x512 .bf16) (wa : Vec Ideal S512x1024 .bf16) (b : Vec Ideal S1024x512 .bf16) (wb : Vec Ideal S512x1024 .bf16) (r l : Fin 1024) :
    k1_pay2 x0 a wa b wb (ix2 r l) = x0 (ix2 r l) + (∑ j : Fin 512, (a (ix2 r j) : EReal) * wa (ix2 j l)) + ∑ j : Fin 512, (b (ix2 r j) : EReal) * wb (ix2 j l) := by
  pointwise [k1_pay2]

theorem query_apply (x0 : Vec Ideal S1024x1024 .f32) (a : Vec Ideal S1024x512 .bf16) (wa : Vec Ideal S512x1024 .bf16) (b : Vec Ideal S1024x512 .bf16) (wb : Vec Ideal S512x1024 .bf16)
    (g : Vec Ideal S1x1024 .f32) (wq : Vec Ideal S1024x512 .bf16) (r : Fin 1024) (l : Fin 512) :
    k1_pay3 x0 a wa b wb g wq (ix2 r l) = Xattn.qRow (fun i => k1_pay2 x0 a wa b wb (ix2 r i)) (fun i => g (ix2 0 i)) (fun j l => wq (ix2 j l)) l * scale := by
  pointwise [k1_pay3, Xattn.qRow, Ffn.normRow]

/-- The block the point writes. -/
theorem out_apply (x0 : Vec Ideal S1024x1024 .f32) (x1 x2 : Vec Ideal S1024x512 .bf16) (x3 x4 : Vec Ideal S512x1024 .bf16) (x5 : Vec Ideal S1x1024 .f32) (x6 : Vec Ideal S1024x512 .bf16)
    (x7 : Vec Ideal S256x1024 .bf16) (x8 : Vec Ideal S512x1024 .bf16) (r l : Fin 1024) :
    out1_9 x0 x1 x2 x3 x4 x5 x6 x7 x8 (ix2 r l)
      = Xattn.row (Xattn.headK (fun i => x0 (ix2 r i) + (∑ j : Fin 512, (x1 (ix2 r j) : EReal) * x3 (ix2 j i)) + ∑ j : Fin 512, (x2 (ix2 r j) : EReal) * x4 (ix2 j i))
            (fun i => x5 (ix2 0 i)) (fun j l => x6 (ix2 j l)) scale (fun j l => x7 (ix2 j l)))
          (fun i => x0 (ix2 r i) + (∑ j : Fin 512, (x1 (ix2 r j) : EReal) * x3 (ix2 j i)) + ∑ j : Fin 512, (x2 (ix2 r j) : EReal) * x4 (ix2 j i)) (fun p l => x8 (ix2 p l)) l := by
  unfold out1_9 k1_pay9
  have l0 : View.ld x0 r1_0 = x0 := Xattn4.ld_self x0 _ _ (by decide)
  have l1 : View.ld x1 r1_1 = x1 := Xattn4.ld_self x1 _ _ (by decide)
  have l2 : View.ld x2 r1_1 = x2 := Xattn4.ld_self x2 _ _ (by decide)
  have l3 : View.ld x3 r1_2 = x3 := Xattn4.ld_self x3 _ _ (by decide)
  have l4 : View.ld x4 r1_2 = x4 := Xattn4.ld_self x4 _ _ (by decide)
  have l5 : View.ld x5 r1_3 = x5 := Xattn4.ld_self x5 _ _ (by decide)
  have l6 : View.ld x6 r1_1 = x6 := Xattn4.ld_self x6 _ _ (by decide)
  have l8 : View.ld x8 r1_2 = x8 := Xattn4.ld_self x8 _ _ (by decide)
  rw [l0, l1, l2, l3, l4, l5, l6, l8]
  frame_out
  show Xattn4.mixed (k1_pay2 x0 x1 x3 x2 x4) (Xattn4.heads (k1_pay3 x0 x1 x3 x2 x4 x5 x6) x7) x8 (ix2 r l) = _
  rw [Xattn4.mixed_apply]
  simp only [Xattn4.heads_apply _ _ _ _ _ r (query_apply x0 x1 x3 x2 x4 x5 x6 r), mix_apply]
  rfl

end Cert.Xattn5

end
-- ==== Proof.Xattn.Value5.lean ====
/-
  The result of the first layer's two calls: what each grid point writes is the row of the specification.
-/
module

public import proofs.«01_k».proof.Proof.Xattn.Block5
public import proofs.«01_k».proof.Proof.Xattn.Spec
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Xattn5

open Cert.Kernel5Ideal Cert.Kernel5Ideal.Gen

variable (m : (ℓ : Loc nD τ sig) → Buf (Elt Ideal) ℓ) (ρ : Dev nD → PrngReg)

theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem idx1 : ∀ t : Fin cfg1.N, win1_0.index t = ![t.val, 0] ∧ win1_1.index t = ![t.val, 0] ∧ win1_2.index t = ![t.val, 0] ∧ win1_3.index t = ![0, 0]
    ∧ win1_4.index t = ![0, 0] ∧ win1_5.index t = ![0, 0] ∧ win1_6.index t = ![0, 0] ∧ win1_7.index t = ![t.val / 8, 0] ∧ win1_8.index t = ![0, 0]
    ∧ win1_9.index t = ![t.val, 0] :=
  (by decide +kernel : ∀ t : Fin grid1.N, _)

/-! The arrays the host prepares for the two calls. -/

theorem host_mem (c : Dev nD) (i : Fin 2048) (l : Fin 1024) : (V1 m ρ c main_v0 : FVec Ideal S2048x1024 .f32) (ix2 i l)
    = (m ((c : Thread nD τ).loc main_arg1) : FVec Ideal S8x256x1024 .f32) (ix3 ⟨i.val / 256, by omega⟩ ⟨i.val % 256, Nat.mod_lt _ (by decide)⟩ l) := by
  simp only [V1, W1, hostOps0]
  entry_read
  pointwise

theorem host_gm (c : Dev nD) (l : Fin 1024) : (V1 m ρ c main_v1 : FVec Ideal S1x1024 .f32) (ix2 0 l)
    = (m ((c : Thread nD τ).loc main_arg6) : FVec Ideal S1024 .f32) (ix1 l) := by
  simp only [V1, W1, hostOps0]
  entry_read
  pointwise

theorem host_wkv (c : Dev nD) (j l : Fin 1024) : (V1 m ρ c main_v2 : FVec Ideal S1024x1024 .bf16) (ix2 j l)
    = (m ((c : Thread nD τ).loc main_arg8) : FVec Ideal S1024x1024 .f32) (ix2 j l) := by
  simp only [V1, W1, hostOps0]
  entry_read
  pointwise

theorem host_x (c : Dev nD) (i : Fin 65536) (l : Fin 1024) : (V3 m ρ c main_v8 : FVec Ideal S65536x1024 .f32) (ix2 i l)
    = (m ((c : Thread nD τ).loc main_arg0) : FVec Ideal S8x8192x1024 .f32) (ix3 (Xattn.seqOf i) (Xattn.posOf i) l) := by
  simp only [V3, W3, hostOps1]
  entry_read
  pointwise
  exact congrFun (W2_args m ρ c main_arg0 (by decide)) _

theorem host_oa (c : Dev nD) (i : Fin 65536) (l : Fin 512) : (V3 m ρ c main_v5 : FVec Ideal S65536x512 .bf16) (ix2 i l)
    = (m ((c : Thread nD τ).loc main_arg2) : FVec Ideal S8x8192x8x64 .f32) (ix4 (Xattn.seqOf i) (Xattn.posOf i) ⟨l.val / 64, by omega⟩ ⟨l.val % 64, Nat.mod_lt _ (by decide)⟩) := by
  simp only [V3, W3, hostOps1]
  entry_read
  pointwise
  exact congrFun (W2_args m ρ c main_arg2 (by decide)) _

theorem host_ob (c : Dev nD) (i : Fin 65536) (l : Fin 512) : (V3 m ρ c main_v7 : FVec Ideal S65536x512 .bf16) (ix2 i l)
    = (m ((c : Thread nD τ).loc main_arg3) : FVec Ideal S8x8192x8x64 .f32) (ix4 (Xattn.seqOf i) (Xattn.posOf i) ⟨l.val / 64, by omega⟩ ⟨l.val % 64, Nat.mod_lt _ (by decide)⟩) := by
  simp only [V3, W3, hostOps1]
  entry_read
  pointwise
  exact congrFun (W2_args m ρ c main_arg3 (by decide)) _

theorem host_wa (c : Dev nD) (j : Fin 512) (l : Fin 1024) : (V3 m ρ c main_v11 : FVec Ideal S512x1024 .bf16) (ix2 j l)
    = (m ((c : Thread nD τ).loc main_arg4) : FVec Ideal S1024x1024 .f32) (ix2 ⟨j.val, by omega⟩ l) := by
  simp only [V3, W3, hostOps1]
  entry_read
  pointwise
  exact congrFun (W2_args m ρ c main_arg4 (by decide)) _

theorem host_wb (c : Dev nD) (j : Fin 512) (l : Fin 1024) : (V3 m ρ c main_v12 : FVec Ideal S512x1024 .bf16) (ix2 j l)
    = (m ((c : Thread nD τ).loc main_arg4) : FVec Ideal S1024x1024 .f32) (ix2 ⟨512 + j.val, by omega⟩ l) := by
  simp only [V3, W3, hostOps1]
  entry_read
  pointwise
  exact congrFun (W2_args m ρ c main_arg4 (by decide)) _

theorem host_g (c : Dev nD) (l : Fin 1024) : (V3 m ρ c main_v13 : FVec Ideal S1x1024 .f32) (ix2 0 l)
    = (m ((c : Thread nD τ).loc main_arg5) : FVec Ideal S1024 .f32) (ix1 l) := by
  simp only [V3, W3, hostOps1]
  entry_read
  pointwise
  exact congrFun (W2_args m ρ c main_arg5 (by decide)) _

theorem host_wq (c : Dev nD) (j : Fin 1024) (l : Fin 512) : (V3 m ρ c main_v14 : FVec Ideal S1024x512 .bf16) (ix2 j l)
    = (m ((c : Thread nD τ).loc main_arg7) : FVec Ideal S1024x512 .f32) (ix2 j l) := by
  simp only [V3, W3, hostOps1]
  entry_read
  pointwise
  exact congrFun (W2_args m ρ c main_arg7 (by decide)) _

theorem host_wo (c : Dev nD) (j : Fin 512) (l : Fin 1024) : (V3 m ρ c main_v15 : FVec Ideal S512x1024 .bf16) (ix2 j l)
    = (m ((c : Thread nD τ).loc main_arg9) : FVec Ideal S512x1024 .f32) (ix2 j l) := by
  simp only [V3, W3, hostOps1]
  entry_read
  pointwise
  exact congrFun (W2_args m ρ c main_arg9 (by decide)) _

/-! The first call: the keys and values. -/

/-- The keys and values of sequence `b`. -/
abbrev kvs (c : Dev nD) : Fin 8 → Fin 256 → Fin 1024 → EReal :=
  Xattn.memKv (m ((c : Thread nD τ).loc main_arg1)) (m ((c : Thread nD τ).loc main_arg6)) (m ((c : Thread nD τ).loc main_arg8))

/-- The array of keys and values, the sequences one after another. -/
def kvArr (c : Dev nD) : FVec Ideal S2048x1024 .bf16 := fun i =>
  kvs m c ⟨(i 0).val / 256, Nat.div_lt_of_lt_mul (i 0).isLt⟩ ⟨(i 0).val % 256, Nat.mod_lt _ (by decide)⟩ (i 1)

theorem t0_lt (t : Fin cfg0.N) : t.val < 8 := by
  have h := t.isLt
  have hN : cfg0.N = 8 := N_0
  omega

theorem t1_lt (t : Fin cfg1.N) : t.val < 64 := by
  have h := t.isLt
  have hN : cfg1.N = 64 := N_1
  omega

theorem read0_0 (c : Dev nD) (t : Fin cfg0.N) (r : Fin 256) (l : Fin 1024) (h : t.val * 256 + r.val < 2048) :
    iblk0 (V1 m ρ) c 0 t (ix2 r l) = (V1 m ρ c main_v0 : FVec Ideal S2048x1024 .f32) (ix2 ⟨t.val * 256 + r.val, h⟩ l) := by
  blk_ext! [iblk0, idx0 t]

theorem read0_1 (c : Dev nD) (t : Fin cfg0.N) (l : Fin 1024) :
    iblk0 (V1 m ρ) c 1 t (ix2 0 l) = (V1 m ρ c main_v1 : FVec Ideal S1x1024 .f32) (ix2 0 l) := by
  blk_ext! [iblk0, idx0 t]

theorem read0_2 (c : Dev nD) (t : Fin cfg0.N) (j l : Fin 1024) :
    iblk0 (V1 m ρ) c 2 t (ix2 j l) = (V1 m ρ c main_v2 : FVec Ideal S1024x1024 .bf16) (ix2 j l) := by
  blk_ext! [iblk0, idx0 t]

theorem place0 (t : Fin cfg0.N) (r : Fin 256) (l : Fin 1024) (h : t.val * 256 + r.val < 2048) :
    ((cfg0.win 3).blk t).view.emb (ix2 r l) = (ix2 ⟨t.val * 256 + r.val, h⟩ l : S2048x1024.Idx) := by
  blk_ext [idx0 t]

theorem point0 (c : Dev nD) (t : Fin cfg0.N) (y : S256x1024.Idx) :
    out0_3 (iblk0 (V1 m ρ) c 0 t) (iblk0 (V1 m ρ) c 1 t) (iblk0 (V1 m ρ) c 2 t) y = kvArr m c (((cfg0.win 3).blk t).view.emb y) := by
  have ht := t0_lt t
  idx_vars y
  have h : t.val * 256 + y0.val < 2048 := by omega
  rw [place0 t y0 y1 h]
  refine (kv_apply _ _ _ y0 y1).trans ?_
  exact congrFun (congr (congr (congrArg Xattn.kvRow (funext fun j => (read0_0 m ρ c t y0 j h).trans (host_mem m ρ c _ j)))
    (funext fun j => (read0_1 m ρ c t j).trans (host_gm m ρ c j)))
    (funext fun j => funext fun l => (read0_2 m ρ c t j l).trans (host_wkv m ρ c j l))) y1

theorem final0 (c : Dev nD) : (dat0 (V1 m ρ) c).arrAt 3 cfg0.N = kvArr m c := by
  refine (dat0 (V1 m ρ) c).arrAt_eq_of_covers 3 _ (by decide +kernel) fun t _ y => ?_
  blk_simp
  rw [after0_3]
  exact point0 m ρ c t y

/-- The second call finds the keys and values where the first left them. -/
theorem host_kv (c : Dev nD) : V3 m ρ c main_v3 = kvArr m c :=
  (W3_of m ρ c main_v3 (by decide)).trans ((W2_arr m ρ c 3).trans (final0 m ρ c))

/-! The second call. -/

theorem read1_0 (c : Dev nD) (t : Fin cfg1.N) (r l : Fin 1024) (h : t.val * 1024 + r.val < 65536) :
    iblk1 (V3 m ρ) c 0 t (ix2 r l) = (V3 m ρ c main_v8 : FVec Ideal S65536x1024 .f32) (ix2 ⟨t.val * 1024 + r.val, h⟩ l) := by
  blk_ext! [iblk1, idx1 t]

theorem read1_1 (c : Dev nD) (t : Fin cfg1.N) (r : Fin 1024) (l : Fin 512) (h : t.val * 1024 + r.val < 65536) :
    iblk1 (V3 m ρ) c 1 t (ix2 r l) = (V3 m ρ c main_v5 : FVec Ideal S65536x512 .bf16) (ix2 ⟨t.val * 1024 + r.val, h⟩ l) := by
  blk_ext! [iblk1, idx1 t]

theorem read1_2 (c : Dev nD) (t : Fin cfg1.N) (r : Fin 1024) (l : Fin 512) (h : t.val * 1024 + r.val < 65536) :
    iblk1 (V3 m ρ) c 2 t (ix2 r l) = (V3 m ρ c main_v7 : FVec Ideal S65536x512 .bf16) (ix2 ⟨t.val * 1024 + r.val, h⟩ l) := by
  blk_ext! [iblk1, idx1 t]

theorem read1_3 (c : Dev nD) (t : Fin cfg1.N) (j : Fin 512) (l : Fin 1024) :
    iblk1 (V3 m ρ) c 3 t (ix2 j l) = (V3 m ρ c main_v11 : FVec Ideal S512x1024 .bf16) (ix2 j l) := by
  blk_ext! [iblk1, idx1 t]

theorem read1_4 (c : Dev nD) (t : Fin cfg1.N) (j : Fin 512) (l : Fin 1024) :
    iblk1 (V3 m ρ) c 4 t (ix2 j l) = (V3 m ρ c main_v12 : FVec Ideal S512x1024 .bf16) (ix2 j l) := by
  blk_ext! [iblk1, idx1 t]

theorem read1_5 (c : Dev nD) (t : Fin cfg1.N) (l : Fin 1024) :
    iblk1 (V3 m ρ) c 5 t (ix2 0 l) = (V3 m ρ c main_v13 : FVec Ideal S1x1024 .f32) (ix2 0 l) := by
  blk_ext! [iblk1, idx1 t]

theorem read1_6 (c : Dev nD) (t : Fin cfg1.N) (j : Fin 1024) (l : Fin 512) :
    iblk1 (V3 m ρ) c 6 t (ix2 j l) = (V3 m ρ c main_v14 : FVec Ideal S1024x512 .bf16) (ix2 j l) := by
  blk_ext! [iblk1, idx1 t]

theorem read1_7 (c : Dev nD) (t : Fin cfg1.N) (r : Fin 256) (l : Fin 1024) (h : t.val / 8 * 256 + r.val < 2048) :
    iblk1 (V3 m ρ) c 7 t (ix2 r l) = (V3 m ρ c main_v3 : FVec Ideal S2048x1024 .bf16) (ix2 ⟨t.val / 8 * 256 + r.val, h⟩ l) := by
  blk_ext! [iblk1, idx1 t]

theorem read1_8 (c : Dev nD) (t : Fin cfg1.N) (j : Fin 512) (l : Fin 1024) :
    iblk1 (V3 m ρ) c 8 t (ix2 j l) = (V3 m ρ c main_v15 : FVec Ideal S512x1024 .bf16) (ix2 j l) := by
  blk_ext! [iblk1, idx1 t]

theorem place1 (t : Fin cfg1.N) (r l : Fin 1024) (h : t.val * 1024 + r.val < 65536) :
    ((cfg1.win 9).blk t).view.emb (ix2 r l) = (ix2 ⟨t.val * 1024 + r.val, h⟩ l : S65536x1024.Idx) := by
  blk_ext [idx1 t]

/-- What the scores are computed of is real. -/
structure Finite (c : Dev nD) : Prop where
  x : ∃ y : S8x8192x1024.Idx → ℝ, ∀ i, (m ((c : Thread nD τ).loc main_arg0) : FVec Ideal S8x8192x1024 .f32) i = (y i : EReal)
  mem : ∃ y : S8x256x1024.Idx → ℝ, ∀ i, (m ((c : Thread nD τ).loc main_arg1) : FVec Ideal S8x256x1024 .f32) i = (y i : EReal)
  oa : ∃ y : S8x8192x8x64.Idx → ℝ, ∀ i, (m ((c : Thread nD τ).loc main_arg2) : FVec Ideal S8x8192x8x64 .f32) i = (y i : EReal)
  ob : ∃ y : S8x8192x8x64.Idx → ℝ, ∀ i, (m ((c : Thread nD τ).loc main_arg3) : FVec Ideal S8x8192x8x64 .f32) i = (y i : EReal)
  w : ∃ y : S1024x1024.Idx → ℝ, ∀ i, (m ((c : Thread nD τ).loc main_arg4) : FVec Ideal S1024x1024 .f32) i = (y i : EReal)
  g : ∃ y : S1024.Idx → ℝ, ∀ i, (m ((c : Thread nD τ).loc main_arg5) : FVec Ideal S1024 .f32) i = (y i : EReal)
  gm : ∃ y : S1024.Idx → ℝ, ∀ i, (m ((c : Thread nD τ).loc main_arg6) : FVec Ideal S1024 .f32) i = (y i : EReal)
  wq : ∃ y : S1024x512.Idx → ℝ, ∀ i, (m ((c : Thread nD τ).loc main_arg7) : FVec Ideal S1024x512 .f32) i = (y i : EReal)
  wkv : ∃ y : S1024x1024.Idx → ℝ, ∀ i, (m ((c : Thread nD τ).loc main_arg8) : FVec Ideal S1024x1024 .f32) i = (y i : EReal)

/-- The rows before the cross-attention. -/
abbrev rows (c : Dev nD) : Fin 65536 → Fin 1024 → EReal :=
  Xattn.mixed5 (m ((c : Thread nD τ).loc main_arg0)) (m ((c : Thread nD τ).loc main_arg2)) (m ((c : Thread nD τ).loc main_arg3)) (m ((c : Thread nD τ).loc main_arg4))

/-- The result. -/
def result (c : Dev nD) : FVec Ideal S65536x1024 .f32 := fun i =>
  Xattn.all (rows m c) (kvs m c) (m ((c : Thread nD τ).loc main_arg5)) (m ((c : Thread nD τ).loc main_arg7)) (m ((c : Thread nD τ).loc main_arg9)) (i 0) (i 1)

theorem scale_eq : scale = (((11863283 / 134217728) * (Real.log 2)⁻¹ : ℝ) : EReal) := rfl

/-- A block of the result from blocks with the rows' entries. -/
theorem block_eq (c : Dev nD) (hf : Finite m c) (x0 : FVec Ideal S1024x1024 .f32) (x1 x2 : FVec Ideal S1024x512 .bf16) (x3 x4 : FVec Ideal S512x1024 .bf16)
    (x5 : FVec Ideal S1x1024 .f32) (x6 : FVec Ideal S1024x512 .bf16) (x7 : FVec Ideal S256x1024 .bf16) (x8 : FVec Ideal S512x1024 .bf16) (r l : Fin 1024) (i : Fin 65536)
    (h0 : ∀ j, x0 (ix2 r j) = (m ((c : Thread nD τ).loc main_arg0) : FVec Ideal S8x8192x1024 .f32) (ix3 (Xattn.seqOf i) (Xattn.posOf i) j))
    (h1 : ∀ j, x1 (ix2 r j) = (m ((c : Thread nD τ).loc main_arg2) : FVec Ideal S8x8192x8x64 .f32) (ix4 (Xattn.seqOf i) (Xattn.posOf i) ⟨j.val / 64, by omega⟩ ⟨j.val % 64, Nat.mod_lt _ (by decide)⟩))
    (h2 : ∀ j, x2 (ix2 r j) = (m ((c : Thread nD τ).loc main_arg3) : FVec Ideal S8x8192x8x64 .f32) (ix4 (Xattn.seqOf i) (Xattn.posOf i) ⟨j.val / 64, by omega⟩ ⟨j.val % 64, Nat.mod_lt _ (by decide)⟩))
    (h3 : ∀ j k, x3 (ix2 j k) = (m ((c : Thread nD τ).loc main_arg4) : FVec Ideal S1024x1024 .f32) (ix2 ⟨j.val, by omega⟩ k))
    (h4 : ∀ j k, x4 (ix2 j k) = (m ((c : Thread nD τ).loc main_arg4) : FVec Ideal S1024x1024 .f32) (ix2 ⟨512 + j.val, by omega⟩ k))
    (h5 : ∀ j, x5 (ix2 0 j) = (m ((c : Thread nD τ).loc main_arg5) : FVec Ideal S1024 .f32) (ix1 j))
    (h6 : ∀ j k, x6 (ix2 j k) = (m ((c : Thread nD τ).loc main_arg7) : FVec Ideal S1024x512 .f32) (ix2 j k))
    (h7 : ∀ k j, x7 (ix2 k j) = kvs m c (Xattn.seqOf i) k j)
    (h8 : ∀ j k, x8 (ix2 j k) = (m ((c : Thread nD τ).loc main_arg9) : FVec Ideal S512x1024 .f32) (ix2 j k)) :
    out1_9 (F := Ideal) x0 x1 x2 x3 x4 x5 x6 x7 x8 (ix2 r l) = result m c (ix2 i l) := by
  refine (out_apply _ _ _ _ _ _ _ _ _ r l).trans ?_
  refine Eq.trans ?_ (Xattn.all_eq (rows m c) (kvs m c) _ _ _ scale scale_eq (Xattn.mixed5_real _ _ _ _ hf.x hf.oa hf.ob hf.w) (Xattn.memKv_real _ _ _ hf.mem hf.gm hf.wkv) hf.g hf.wq i l)
  have e1 : (fun k : Fin 1024 => x0 (ix2 r k) + (∑ j : Fin 512, (x1 (ix2 r j) : EReal) * x3 (ix2 j k)) + ∑ j : Fin 512, (x2 (ix2 r j) : EReal) * x4 (ix2 j k)) = rows m c i :=
    funext fun k => congrArg₂ (fun a b : EReal => a + b)
      (congrArg₂ (fun a b : EReal => a + b) (h0 k) (Finset.sum_congr rfl fun j _ => congrArg₂ (fun a b : EReal => a * b) (h1 j) (h3 j k)))
      (Finset.sum_congr rfl fun j _ => congrArg₂ (fun a b : EReal => a * b) (h2 j) (h4 j k))
  exact congrFun (congr (congr (congrArg Xattn.row (congr (congr (congr (congr (congrArg Xattn.headK e1) (funext h5)) (funext fun j => funext fun k => h6 j k)) rfl)
    (funext fun k => funext fun j => h7 k j))) e1) (funext fun j => funext fun k => h8 j k)) l

theorem read_kv (c : Dev nD) (t : Fin cfg1.N) (i : Fin 65536) (r : Fin 1024) (hi : i.val = t.val * 1024 + r.val) (k : Fin 256) (j : Fin 1024) :
    iblk1 (V3 m ρ) c 7 t (ix2 k j) = kvs m c (Xattn.seqOf i) k j := by
  have ht := t1_lt t
  refine (read1_7 m ρ c t k j (by omega)).trans ((congrFun (host_kv m ρ c) _).trans ?_)
  have e : ∀ (b b' : Fin 8) (k k' : Fin 256), b.val = b'.val → k.val = k'.val → kvs m c b k j = kvs m c b' k' j := by
    intro b b' k k' a1 a2
    rw [Fin.ext a1, Fin.ext a2]
  exact e _ _ _ _ (by show (t.val / 8 * 256 + k.val) / 256 = i.val / 8192; omega) (by show (t.val / 8 * 256 + k.val) % 256 = k.val; omega)

theorem point1 (c : Dev nD) (hf : Finite m c) (t : Fin cfg1.N) (y : S1024x1024.Idx) :
    out1_9 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t)
        (iblk1 (V3 m ρ) c 7 t) (iblk1 (V3 m ρ) c 8 t) y
      = result m c (((cfg1.win 9).blk t).view.emb y) := by
  have ht := t1_lt t
  idx_vars y
  have h : t.val * 1024 + y0.val < 65536 := by omega
  rw [place1 t y0 y1 h]
  exact block_eq m c hf _ _ _ _ _ _ _ _ _ y0 y1 ⟨t.val * 1024 + y0.val, h⟩ (fun j => (read1_0 m ρ c t y0 j h).trans (host_x m ρ c _ j))
    (fun j => (read1_1 m ρ c t y0 j h).trans (host_oa m ρ c _ j)) (fun j => (read1_2 m ρ c t y0 j h).trans (host_ob m ρ c _ j))
    (fun j k => (read1_3 m ρ c t j k).trans (host_wa m ρ c j k)) (fun j k => (read1_4 m ρ c t j k).trans (host_wb m ρ c j k))
    (fun j => (read1_5 m ρ c t j).trans (host_g m ρ c j)) (fun j k => (read1_6 m ρ c t j k).trans (host_wq m ρ c j k))
    (fun k j => read_kv m ρ c t _ y0 rfl k j) (fun j k => (read1_8 m ρ c t j k).trans (host_wo m ρ c j k))

theorem final1 (c : Dev nD) (hf : Finite m c) : (dat1 (V3 m ρ) c).arrAt 9 cfg1.N = result m c := by
  refine (dat1 (V3 m ρ) c).arrAt_eq_of_covers 9 _ (by decide +kernel) fun t _ y => ?_
  blk_simp
  rw [after1_9]
  exact point1 m ρ c hf t y

end Cert.Xattn5

end
-- ==== Proof.Xattn.Run5.lean ====
/-
  The run of the first layer's two calls, the result read at its end: the launch over the two calls with the last call's
  window as what is read, beside the unchanged arguments.
-/
module

public import proofs.«01_k».proof.Proof.Xattn.Value5
public import Idealize.ShloMosaic.Lib.Tactic

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Xattn5

open Cert.Kernel5Ideal Cert.Kernel5Ideal.Gen

variable (m : (ℓ : Loc nD τ sig) → Buf (Elt Ideal) ℓ) (ρ : Dev nD → PrngReg)

set_option backward.isDefEq.respectTransparency.types false in
/-- Every execution ends with the rows plus their cross-attention, and with the arguments unchanged. -/
theorem run (hf : ∀ c, Finite m c) : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v16 (by decide))).trans ((W4_arr m ρ c 9).trans (final1 m ρ c (hf c))),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩)

end Cert.Xattn5

end
-- ==== Proof.Xattn.Ref.lean ====
/-
  The cross-attention of the references, by its stages, each read at one entry.

  Both references compute it in the same text of the rows `x`, so `whole` is stated once of any array `x`.
-/
module

public import proofs.«01_k».proof.Proof.Gen.Reference4Ideal.Run
public import proofs.«01_k».proof.Proof.Xattn.Spec
public import Idealize.ShloMosaic.Lib.Pointwise
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Xattn.Ref

open Cert.Reference4Ideal Cert.Reference4Ideal.Gen

/-- The normalised rows of the tokens. -/
def normX (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2 (Host.rsqrt (addf (Host.divf
    (broadcastInDim S8x8192x1 ![0, 1] bcast_S8x8192_S8x8192x1_0_1 (Host.reduceAdd (mulf x x) (constant S_ .f32 0x00000000#32) reducesTo_S8x8192x1024_S8x8192_d2 h_S_))
    (broadcastInDim S8x8192x1 ![] bcast_S_S8x8192x1 (constant S_ .f32 0x44800000#32))) (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- The normalised rows of the memory. -/
def normM (x : FVec Ideal S8x256x1024 .f32) (g : FVec Ideal S1024 .f32) : FVec Ideal S8x256x1024 .f32 :=
  mulf (mulf x (broadcastInDim S8x256x1024 ![0, 1, 2] bcast_S8x256x1_S8x256x1024_0_1_2 (Host.rsqrt (addf (Host.divf
    (broadcastInDim S8x256x1 ![0, 1] bcast_S8x256_S8x256x1_0_1 (Host.reduceAdd (mulf x x) (constant S_ .f32 0x00000000#32) reducesTo_S8x256x1024_S8x256_d2 h_S_))
    (broadcastInDim S8x256x1 ![] bcast_S_S8x256x1 (constant S_ .f32 0x44800000#32))) (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 g))

def queries (h : FVec Ideal S8x8192x1024 .f32) (w : FVec Ideal S1024x512 .f32) : FVec Ideal S8x8192x4x128 .f32 :=
  shapeCast _ (Host.dotGeneral dot_S8x8192x1024_S1024x512_S8x8192x512_2_0_01_1_n_n none h w) shapeCasts_S8x8192x512_S8x8192x4x128

def keyVals (h : FVec Ideal S8x256x1024 .f32) (w : FVec Ideal S1024x1024 .f32) : FVec Ideal S8x256x8x128 .f32 :=
  shapeCast _ (Host.dotGeneral dot_S8x256x1024_S1024x1024_S8x256x1024_2_0_01_1_n_n none h w) shapeCasts_S8x256x1024_S8x256x8x128

def scores (q : FVec Ideal S8x8192x4x128 .f32) (kv : FVec Ideal S8x256x8x128 .f32) : FVec Ideal S8x4x8192x256 .f32 :=
  mulf (Host.dotGeneral dot_S8x8192x4x128_S8x256x4x128_S8x4x8192x256_3_3_1_1_02_02 none q
    (extractStridedSlice S8x256x4x128 ![0, 0, 0, 0] kv slices_S8x256x8x128_S8x256x4x128_0_0_0_0))
    (broadcastInDim S8x4x8192x256 ![] bcast_S_S8x4x8192x256 (constant S_ .f32 0x3DB504F3#32))

/-- A number of each row spread over the row. -/
def spread (M : FVec Ideal S8x4x8192 .f32) : FVec Ideal S8x4x8192x256 .f32 :=
  broadcastInDim S8x4x8192x256 ![0, 1, 2, 3] bcast_S8x4x8192x1_S8x4x8192x256_0_1_2_3 (broadcastInDim S8x4x8192x1 ![0, 1, 2] bcast_S8x4x8192_S8x4x8192x1_0_1_2 M)

/-- Each row's greatest score. -/
def top (s : FVec Ideal S8x4x8192x256 .f32) : FVec Ideal S8x4x8192 .f32 :=
  Host.reduce FloatOps.maximumf s (constant S_ .f32 0xFF800000#32) reducesTo_S8x4x8192x256_S8x4x8192_d3 h_S_

/-- Each row's sum. -/
def total (e : FVec Ideal S8x4x8192x256 .f32) : FVec Ideal S8x4x8192 .f32 :=
  Host.reduceAdd e (constant S_ .f32 0x00000000#32) reducesTo_S8x4x8192x256_S8x4x8192_d3 h_S_

/-- The exponentials of the scores less the greatest of their row. -/
def exps (s : FVec Ideal S8x4x8192x256 .f32) (M : FVec Ideal S8x4x8192 .f32) : FVec Ideal S8x4x8192x256 .f32 :=
  Host.exp (subf s (spread (maximumf (broadcastInDim S8x4x8192 ![] bcast_S_S8x4x8192 (constant S_ .f32 0xFF800000#32)) M)))

/-- Each row divided by a number. -/
def shares (e : FVec Ideal S8x4x8192x256 .f32) (z : FVec Ideal S8x4x8192 .f32) : FVec Ideal S8x4x8192x256 .f32 := Host.divf e (spread z)

/-- The heads' outputs side by side. -/
def joined (kv : FVec Ideal S8x256x8x128 .f32) (p : FVec Ideal S8x4x8192x256 .f32) : FVec Ideal S8x8192x512 .f32 :=
  shapeCast _ (transpose S8x8192x4x128 [0, 3, 1, 2] (Host.dotGeneral dot_S8x256x4x128_S8x4x8192x256_S8x4x128x8192_1_3_3_2_02_01 none
    (extractStridedSlice S8x256x4x128 ![0, 0, 4, 0] kv slices_S8x256x8x128_S8x256x4x128_0_0_4_0) p) transposes_S8x4x128x8192_S8x8192x4x128_0_3_1_2)
    shapeCasts_S8x8192x4x128_S8x8192x512

/-- The rows plus the heads' outputs times the weights. -/
def added (x : FVec Ideal S8x8192x1024 .f32) (a : FVec Ideal S8x8192x512 .f32) (w : FVec Ideal S512x1024 .f32) : FVec Ideal S65536x1024 .f32 :=
  shapeCast _ (addf x (Host.dotGeneral dot_S8x8192x512_S512x1024_S8x8192x1024_2_0_01_1_n_n none a w)) shapeCasts_S8x8192x1024_S65536x1024

/-- The whole cross-attention of the rows `x`. -/
def whole (x : FVec Ideal S8x8192x1024 .f32) (mem : FVec Ideal S8x256x1024 .f32) (gx gm : FVec Ideal S1024 .f32) (wq : FVec Ideal S1024x512 .f32)
    (wkv : FVec Ideal S1024x1024 .f32) (wo : FVec Ideal S512x1024 .f32) : FVec Ideal S65536x1024 .f32 :=
  added x (joined (keyVals (normM mem gm) wkv)
    (shares (exps (scores (queries (normX x gx) wq) (keyVals (normM mem gm) wkv)) (top (scores (queries (normX x gx) wq) (keyVals (normM mem gm) wkv))))
      (total (exps (scores (queries (normX x gx) wq) (keyVals (normM mem gm) wkv)) (top (scores (queries (normX x gx) wq) (keyVals (normM mem gm) wkv))))))) wo

theorem normX_apply (x : FVec Ideal S8x8192x1024 .f32) (g : FVec Ideal S1024 .f32) (b : Fin 8) (s : Fin 8192) (j : Fin 1024) :
    normX x g (ix3 b s j) = Ffn.normRow (fun i => x (ix3 b s i)) (fun i => g (ix1 i)) j := by
  unfold normX Ffn.normRow
  pointwise

theorem normM_apply (x : FVec Ideal S8x256x1024 .f32) (g : FVec Ideal S1024 .f32) (b : Fin 8) (s : Fin 256) (j : Fin 1024) :
    normM x g (ix3 b s j) = Ffn.normRow (fun i => x (ix3 b s i)) (fun i => g (ix1 i)) j := by
  unfold normM Ffn.normRow
  pointwise

theorem queries_apply (h : FVec Ideal S8x8192x1024 .f32) (w : FVec Ideal S1024x512 .f32) (b : Fin 8) (s : Fin 8192) (n : Fin 4) (d : Fin 128) :
    queries h w (ix4 b s n d) = ∑ j : Fin 1024, (h (ix3 b s j) : EReal) * w (ix2 j ⟨n.val * 128 + d.val, by omega⟩) := by
  unfold queries
  pointwise

theorem keyVals_apply (h : FVec Ideal S8x256x1024 .f32) (w : FVec Ideal S1024x1024 .f32) (b : Fin 8) (s : Fin 256) (n : Fin 8) (d : Fin 128) :
    keyVals h w (ix4 b s n d) = ∑ j : Fin 1024, (h (ix3 b s j) : EReal) * w (ix2 j ⟨n.val * 128 + d.val, by omega⟩) := by
  unfold keyVals
  pointwise

theorem scores_apply (q : FVec Ideal S8x8192x4x128 .f32) (kv : FVec Ideal S8x256x8x128 .f32) (b : Fin 8) (n : Fin 4) (s : Fin 8192) (k : Fin 256) :
    scores q kv (ix4 b n s k) = (∑ d : Fin 128, (q (ix4 b s n d) : EReal) * kv (ix4 b k ⟨n.val, by omega⟩ d)) * Ideal.ofBits .f32 0x3DB504F3#32 := by
  unfold scores
  pointwise

theorem top_apply (s : FVec Ideal S8x4x8192x256 .f32) (b : Fin 8) (n : Fin 4) (q : Fin 8192) :
    top s (ix3 b n q) = Finset.fold max (Ideal.ofBits .f32 0xFF800000#32) (fun j => s (ix4 b n q j)) Finset.univ := by
  unfold top
  pointwise

theorem total_apply (e : FVec Ideal S8x4x8192x256 .f32) (b : Fin 8) (n : Fin 4) (q : Fin 8192) :
    total e (ix3 b n q) = ∑ j : Fin 256, (e (ix4 b n q j) : EReal) := by
  unfold total
  pointwise

theorem exps_apply (s : FVec Ideal S8x4x8192x256 .f32) (M : FVec Ideal S8x4x8192 .f32) (b : Fin 8) (n : Fin 4) (q : Fin 8192) (k : Fin 256) :
    exps s M (ix4 b n q k) = Ideal.exp (s (ix4 b n q k) - max (Ideal.ofBits .f32 0xFF800000#32) (M (ix3 b n q))) := by
  unfold exps spread
  pointwise

theorem shares_apply (e : FVec Ideal S8x4x8192x256 .f32) (z : FVec Ideal S8x4x8192 .f32) (b : Fin 8) (n : Fin 4) (q : Fin 8192) (k : Fin 256) :
    shares e z (ix4 b n q k) = Ideal.div (e (ix4 b n q k)) (z (ix3 b n q)) := by
  unfold shares spread
  pointwise

theorem joined_apply (kv : FVec Ideal S8x256x8x128 .f32) (p : FVec Ideal S8x4x8192x256 .f32) (b : Fin 8) (s : Fin 8192) (l : Fin 512) :
    joined kv p (ix3 b s l) = ∑ k : Fin 256, (kv (ix4 b k ⟨4 + l.val / 128, by omega⟩ ⟨l.val % 128, Nat.mod_lt _ (by decide)⟩) : EReal)
      * p (ix4 b ⟨l.val / 128, by omega⟩ s k) := by
  unfold joined
  pointwise

theorem added_apply (x : FVec Ideal S8x8192x1024 .f32) (a : FVec Ideal S8x8192x512 .f32) (w : FVec Ideal S512x1024 .f32) (i : Fin 65536) (l : Fin 1024) :
    added x a w (ix2 i l) = x (ix3 (seqOf i) (posOf i) l) + ∑ p : Fin 512, (a (ix3 (seqOf i) (posOf i) p) : EReal) * w (ix2 p l) := by
  unfold added
  pointwise

/-- Softmax of the scores against the values, read at one head's column. -/
theorem attend_apply (kv : FVec Ideal S8x256x8x128 .f32) (s : FVec Ideal S8x4x8192x256 .f32) (b : Fin 8) (q : Fin 8192) (l : Fin 512) :
    joined kv (shares (exps s (top s)) (total (exps s (top s)))) (ix3 b q l)
      = softE (fun k => s (ix4 b ⟨l.val / 128, by omega⟩ q k)) (fun k => kv (ix4 b k ⟨4 + l.val / 128, by omega⟩ ⟨l.val % 128, Nat.mod_lt _ (by decide)⟩)) := by
  refine (joined_apply kv _ b q l).trans (Finset.sum_congr rfl fun k _ => congrArg (fun a : EReal => _ * a) ?_)
  have hx : ∀ k, exps s (top s) (ix4 b ⟨l.val / 128, by omega⟩ q k)
      = Ideal.exp (s (ix4 b ⟨l.val / 128, by omega⟩ q k) - max (Ideal.ofBits .f32 0xFF800000#32)
          (Finset.fold max (Ideal.ofBits .f32 0xFF800000#32) (fun j => s (ix4 b ⟨l.val / 128, by omega⟩ q j)) Finset.univ)) := fun k =>
    (exps_apply s _ b _ q k).trans (congrArg (fun M => Ideal.exp (s (ix4 b ⟨l.val / 128, by omega⟩ q k) - max (Ideal.ofBits .f32 0xFF800000#32) M)) (top_apply s b _ q))
  refine (shares_apply _ _ b _ q k).trans ?_
  exact congr (congrArg Ideal.div (hx k)) ((total_apply _ b _ q).trans (Finset.sum_congr rfl fun j _ => hx j))

/-- The whole cross-attention, read at one result. -/
theorem whole_apply (x : FVec Ideal S8x8192x1024 .f32) (mem : FVec Ideal S8x256x1024 .f32) (gx gm : FVec Ideal S1024 .f32) (wq : FVec Ideal S1024x512 .f32)
    (wkv : FVec Ideal S1024x1024 .f32) (wo : FVec Ideal S512x1024 .f32) (i : Fin 65536) (l : Fin 1024) :
    whole x mem gx gm wq wkv wo (ix2 i l) = all (fun i j => x (ix3 (seqOf i) (posOf i) j)) (memKv mem gm wkv) gx wq wo i l := by
  have hkv : ∀ (b : Fin 8) (k : Fin 256) (n : Fin 8) (d : Fin 128) (p : Fin 1024), p.val = n.val * 128 + d.val →
      keyVals (normM mem gm) wkv (ix4 b k n d) = memKv mem gm wkv b k p := fun b k n d p hp => by
    refine (keyVals_apply _ _ b k n d).trans ?_
    rw [show (⟨n.val * 128 + d.val, by omega⟩ : Fin 1024) = p from Fin.ext hp.symm]
    exact Finset.sum_congr rfl fun j _ => congrArg (· * _) (normM_apply mem gm b k j)
  have hq : ∀ (n : Fin 4) (d : Fin 128) (p : Fin 512), p.val = n.val * 128 + d.val →
      queries (normX x gx) wq (ix4 (seqOf i) (posOf i) n d) = qRow (fun j => x (ix3 (seqOf i) (posOf i) j)) (fun j => gx (ix1 j)) (fun j l => wq (ix2 j l)) p := fun n d p hp => by
    refine (queries_apply _ _ _ _ n d).trans ?_
    rw [show (⟨n.val * 128 + d.val, by omega⟩ : Fin 512) = p from Fin.ext hp.symm]
    exact Finset.sum_congr rfl fun j _ => congrArg (· * _) (normX_apply x gx _ _ j)
  refine (added_apply x _ wo i l).trans ?_
  unfold all row
  refine congrArg (fun a : EReal => _ + a) (Finset.sum_congr rfl fun p _ => congrArg (fun a : EReal => a * _) ?_)
  refine (attend_apply _ _ _ _ p).trans ?_
  refine congrArg₂ softE (funext fun k => ?_) (funext fun k => ?_)
  · refine (scores_apply _ _ _ _ _ k).trans (congrArg (fun a : EReal => a * _) (Finset.sum_congr rfl fun d _ => ?_))
    refine congrArg₂ (fun a b : EReal => a * b) (hq _ d _ ?_) (hkv _ k _ d _ ?_)
    · show 128 * (p.val / 128) + d.val = p.val / 128 * 128 + d.val
      omega
    · show 128 * (p.val / 128) + d.val = p.val / 128 * 128 + d.val
      omega
  · refine hkv _ k _ _ _ ?_
    show 512 + 128 * (p.val / 128) + p.val % 128 = (4 + p.val / 128) * 128 + p.val % 128
    omega

end Cert.Xattn.Ref

end
-- ==== Proof.Xattn.Ref4.lean ====
/-
  The second layer's reference, read at one result.
-/
module

public import proofs.«01_k».proof.Proof.Xattn.Ref

@[expose] public section

set_option maxRecDepth 16384

noncomputable section

open Idealize.ShloMosaic Idealize.ShloMosaic.TcCoe Idealize.SL.Sem

namespace Cert.Xattn4.Ref

open Cert.Reference4Ideal Cert.Reference4Ideal.Gen

/-- The tokens' rows plus the mixed outputs. -/
def mixed (x : FVec Ideal S8x8192x1024 .f32) (o : FVec Ideal S8x8192x16x64 .f32) (w : FVec Ideal S1024x1024 .f32) : FVec Ideal S8x8192x1024 .f32 :=
  addf x (Host.dotGeneral dot_S8x8192x1024_S1024x1024_S8x8192x1024_2_0_01_1_n_n none (shapeCast _ o shapeCasts_S8x8192x16x64_S8x8192x1024) w)

theorem mixed_apply (x : FVec Ideal S8x8192x1024 .f32) (o : FVec Ideal S8x8192x16x64 .f32) (w : FVec Ideal S1024x1024 .f32) (i : Fin 65536) (l : Fin 1024) :
    mixed x o w (ix3 (Xattn.seqOf i) (Xattn.posOf i) l) = Xattn.mixed4 x o w i l := by
  unfold mixed Xattn.mixed4
  pointwise

theorem value (m : (ℓ : Loc nD τ sig) → Buf (Elt Ideal) ℓ) (c : Dev nD) : Value.res_main_v54 m c
    = fun i => Xattn.all (Xattn.mixed4 (m ((c : Thread nD τ).loc main_arg0)) (m ((c : Thread nD τ).loc main_arg2)) (m ((c : Thread nD τ).loc main_arg3)))
        (Xattn.memKv (m ((c : Thread nD τ).loc main_arg1)) (m ((c : Thread nD τ).loc main_arg5)) (m ((c : Thread nD τ).loc main_arg7)))
        (m ((c : Thread nD τ).loc main_arg4)) (m ((c : Thread nD τ).loc main_arg6)) (m ((c : Thread nD τ).loc main_arg8)) (i 0) (i 1) := by
  have e : Value.res_main_v54 m c = Xattn.Ref.whole (mixed (m ((c : Thread nD τ).loc main_arg0)) (m ((c : Thread nD τ).loc main_arg2)) (m ((c : Thread nD τ).loc main_arg3)))
      (m ((c : Thread nD τ).loc main_arg1)) (m ((c : Thread nD τ).loc main_arg4)) (m ((c : Thread nD τ).loc main_arg5)) (m ((c : Thread nD τ).loc main_arg6))
      (m ((c : Thread nD τ).loc main_arg7)) (m ((c : Thread nD τ).loc main_arg8)) := by
    unfold Value.res_main_v54
    rfl
  rw [e]
  funext i
  idx_vars i
  refine (Xattn.Ref.whole_apply _ _ _ _ _ _ _ i0 i1).trans ?_
  exact congrArg (fun r => Xattn.all r _ _ _ _ i0 i1) (funext fun i => funext fun j => mixed_apply _ _ _ i j)

end Cert.Xattn4.Ref

end
-- ==== Proof.Xattn.Ref5.lean ====
/-
  The first layer's reference, read at one result: the product with the joined outputs is the sum of the two halves' products.
-/
module

public import proofs.«01_k».proof.Proof.Gen.Reference5Ideal.Run
public import proofs.«01_k».proof.Proof.Xattn.Ref

@[expose] public section

set_option maxRecDepth 16384

noncomputable section

open Idealize.ShloMosaic Idealize.ShloMosaic.TcCoe Idealize.SL.Sem

namespace Cert.Xattn5.Ref

open Cert.Reference5Ideal Cert.Reference5Ideal.Gen

/-- The two attentions' outputs side by side. -/
def outputs (a b : FVec Ideal S8x8192x8x64 .f32) : FVec Ideal S8x8192x1024 .f32 :=
  concatenate S8x8192x1024 2 [⟨S8x8192x512, (shapeCast _ a shapeCasts_S8x8192x8x64_S8x8192x512)⟩, ⟨S8x8192x512, (shapeCast _ b shapeCasts_S8x8192x8x64_S8x8192x512)⟩]
    concatenates_S8x8192x512_S8x8192x512_S8x8192x1024_d2

/-- The tokens' rows plus the mixed outputs `o`. -/
def mixed (x o : FVec Ideal S8x8192x1024 .f32) (w : FVec Ideal S1024x1024 .f32) : FVec Ideal S8x8192x1024 .f32 :=
  addf x (Host.dotGeneral dot_S8x8192x1024_S1024x1024_S8x8192x1024_2_0_01_1_n_n none o w)

theorem outputs_left (a b : FVec Ideal S8x8192x8x64 .f32) (s : Fin 8) (q : Fin 8192) (j : Fin 512) :
    outputs a b (ix3 s q ⟨j.val, by omega⟩) = a (ix4 s q ⟨j.val / 64, by omega⟩ ⟨j.val % 64, Nat.mod_lt _ (by decide)⟩) := by
  unfold outputs
  pointwise

theorem outputs_right (a b : FVec Ideal S8x8192x8x64 .f32) (s : Fin 8) (q : Fin 8192) (j : Fin 512) :
    outputs a b (ix3 s q ⟨512 + j.val, by omega⟩) = b (ix4 s q ⟨j.val / 64, by omega⟩ ⟨j.val % 64, Nat.mod_lt _ (by decide)⟩) := by
  unfold outputs
  pointwise

theorem mixed_apply (x o : FVec Ideal S8x8192x1024 .f32) (w : FVec Ideal S1024x1024 .f32) (s : Fin 8) (q : Fin 8192) (l : Fin 1024) :
    mixed x o w (ix3 s q l) = x (ix3 s q l) + ∑ j : Fin 1024, (o (ix3 s q j) : EReal) * w (ix2 j l) := by
  unfold mixed
  pointwise

theorem mixed_eq (x : FVec Ideal S8x8192x1024 .f32) (a b : FVec Ideal S8x8192x8x64 .f32) (w : FVec Ideal S1024x1024 .f32) (i : Fin 65536) (l : Fin 1024) :
    mixed x (outputs a b) w (ix3 (Xattn.seqOf i) (Xattn.posOf i) l) = Xattn.mixed5 x a b w i l := by
  refine (mixed_apply _ _ _ _ _ l).trans ?_
  unfold Xattn.mixed5
  rw [add_assoc]
  refine congrArg (fun e : EReal => _ + e) ?_
  refine (Fin.sum_univ_add (a := 512) (b := 512) (fun j : Fin 1024 => (outputs a b (ix3 (Xattn.seqOf i) (Xattn.posOf i) j) : EReal) * w (ix2 j l))).trans ?_
  exact congrArg₂ (fun a b : EReal => a + b) (Finset.sum_congr rfl fun j _ => congrArg (· * _) (outputs_left a b _ _ j))
    (Finset.sum_congr rfl fun j _ => congrArg (· * _) (outputs_right a b _ _ j))

theorem value (m : (ℓ : Loc nD τ sig) → Buf (Elt Ideal) ℓ) (c : Dev nD) : Value.res_main_v56 m c
    = fun i => Xattn.all (Xattn.mixed5 (m ((c : Thread nD τ).loc main_arg0)) (m ((c : Thread nD τ).loc main_arg2)) (m ((c : Thread nD τ).loc main_arg3)) (m ((c : Thread nD τ).loc main_arg4)))
        (Xattn.memKv (m ((c : Thread nD τ).loc main_arg1)) (m ((c : Thread nD τ).loc main_arg6)) (m ((c : Thread nD τ).loc main_arg8)))
        (m ((c : Thread nD τ).loc main_arg5)) (m ((c : Thread nD τ).loc main_arg7)) (m ((c : Thread nD τ).loc main_arg9)) (i 0) (i 1) := by
  have e : Value.res_main_v56 m c = Xattn.Ref.whole (mixed (m ((c : Thread nD τ).loc main_arg0)) (outputs (m ((c : Thread nD τ).loc main_arg2)) (m ((c : Thread nD τ).loc main_arg3)))
        (m ((c : Thread nD τ).loc main_arg4)))
      (m ((c : Thread nD τ).loc main_arg1)) (m ((c : Thread nD τ).loc main_arg5)) (m ((c : Thread nD τ).loc main_arg6)) (m ((c : Thread nD τ).loc main_arg7))
      (m ((c : Thread nD τ).loc main_arg8)) (m ((c : Thread nD τ).loc main_arg9)) := by
    unfold Value.res_main_v56
    rfl
  rw [e]
  funext i
  idx_vars i
  refine (Xattn.Ref.whole_apply _ _ _ _ _ _ _ i0 i1).trans ?_
  exact congrArg (fun r => Xattn.all r _ _ _ _ i0 i1) (funext fun i => funext fun j => mixed_eq _ _ _ _ i j)

end Cert.Xattn5.Ref

end
-- ==== Proof.Xattn.Claims.lean ====
/-
  The claims about the memory's keys and values and the cross-attention on them, of both layers: the frames, the one named
  constant, and that the calls compute the reference's rows wherever what the scores are computed of is real.
-/
module

public import proofs.«01_k».proof.Defs
public import proofs.«01_k».proof.Proof.Gen.Kernel4.Frame
public import proofs.«01_k».proof.Proof.Gen.Kernel5.Frame
public import proofs.«01_k».proof.Proof.Mla.Host
public import proofs.«01_k».proof.Proof.Xattn.Run4
public import proofs.«01_k».proof.Proof.Xattn.Run5
public import proofs.«01_k».proof.Proof.Xattn.Ref4
public import proofs.«01_k».proof.Proof.Xattn.Ref5
public import Idealize.ShloMosaic.Lib.Quiescent

@[expose] public section

noncomputable section

open Idealize.ShloMosaic Idealize.ShloMosaic.TcCoe Idealize.SL.Sem

namespace Cert.Proof.XattnClaims

theorem pre_facts4 : Cert.Pre_finite4.Facts := ⟨by decide, by decide, by decide, by decide, by decide, by decide⟩

theorem frame_kernel4 : Cert.quiescent_Kernel4 := fun m ρ _ => Cert.Kernel4.Gen.frame m ρ

theorem frame_kernel4_ideal : Cert.quiescent_Kernel4Ideal := fun m ρ _ => Cert.Kernel4Ideal.Gen.frame m ρ

theorem frame_kernel4_ideal_pre : Cert.quiescent_Kernel4Ideal_pre_finite4 (hPre_finite4 := pre_facts4) := fun m ρ _ => Cert.Kernel4Ideal.Gen.frame m ρ

theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem frame_reference4_pre : Cert.quiescent_Reference4Ideal_pre_finite4 (hPre_finite4 := pre_facts4) := fun m ρ _ => frame_reference4 m ρ trivial

theorem preserves4 : Cert.preserves_Kernel4_Kernel4Ideal :=
  IdealRules.named_const.statement Cert.Kernel4Ideal.κ "x_q_log2_scale" .f32 0x3E0293EE#32 (((11863283 / 134217728) * (Real.log 2)⁻¹ : ℝ) : EReal) rfl

/-- The precondition: what the scores are computed of is real. -/
theorem finite4 (m : (ℓ : Loc Cert.Kernel4Ideal.nD Cert.Kernel4Ideal.τ Cert.Kernel4Ideal.sig) → Buf (Elt Ideal) ℓ)
    (h : Cert.Pre_Kernel4Ideal_finite4 (hPre_finite4 := pre_facts4) m) (c : Dev Cert.Kernel4Ideal.nD) : Cert.Xattn4.Finite m c :=
  ⟨Cert.KernelIdeal.Mla.real_of_lt _ _ (fun _ => rfl) (h c).1,
    Cert.KernelIdeal.Mla.real_of_lt _ _ (fun _ => rfl) (h c).2.1,
    Cert.KernelIdeal.Mla.real_of_lt _ _ (fun _ => rfl) (h c).2.2.1,
    Cert.KernelIdeal.Mla.real_of_lt _ _ (fun _ => rfl) (h c).2.2.2.1,
    Cert.KernelIdeal.Mla.real_of_lt _ _ (fun _ => rfl) (h c).2.2.2.2.1,
    Cert.KernelIdeal.Mla.real_of_lt _ _ (fun _ => rfl) (h c).2.2.2.2.2.1,
    Cert.KernelIdeal.Mla.real_of_lt _ _ (fun _ => rfl) (h c).2.2.2.2.2.2.1,
    Cert.KernelIdeal.Mla.real_of_lt _ _ (fun _ => rfl) (h c).2.2.2.2.2.2.2⟩

theorem algebraic4 : Cert.algebraic_Kernel4Ideal_Reference4Ideal_pre_finite4 (hPre_finite4 := pre_facts4) := fun m ρ m' ρ' hp hag =>
  ⟨fun c => Cert.Xattn4.result m c,
    Cert.Xattn4.run m ρ (finite4 m hp),
    (θ_run Cert.Reference4Ideal.defs _ _).mono
      (fun _ h c => ⟨(h c).1.trans (by
        rw [Cert.Xattn4.Ref.value m' c]
        unfold Cert.Xattn4.result
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
        rfl), (h c).2⟩)
      (Cert.Reference4Ideal.Value.run (F := Ideal) m' ρ')⟩

theorem pre_facts5 : Cert.Pre_finite5.Facts := ⟨by decide, by decide, by decide, by decide, by decide, by decide⟩

theorem frame_kernel5 : Cert.quiescent_Kernel5 := fun m ρ _ => Cert.Kernel5.Gen.frame m ρ

theorem frame_kernel5_ideal : Cert.quiescent_Kernel5Ideal := fun m ρ _ => Cert.Kernel5Ideal.Gen.frame m ρ

theorem frame_kernel5_ideal_pre : Cert.quiescent_Kernel5Ideal_pre_finite5 (hPre_finite5 := pre_facts5) := fun m ρ _ => Cert.Kernel5Ideal.Gen.frame m ρ

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem frame_reference5_pre : Cert.quiescent_Reference5Ideal_pre_finite5 (hPre_finite5 := pre_facts5) := fun m ρ _ => frame_reference5 m ρ trivial

theorem preserves5 : Cert.preserves_Kernel5_Kernel5Ideal :=
  IdealRules.named_const.statement Cert.Kernel5Ideal.κ "x_q_log2_scale" .f32 0x3E0293EE#32 (((11863283 / 134217728) * (Real.log 2)⁻¹ : ℝ) : EReal) rfl

/-- The precondition: what the scores are computed of is real. -/
theorem finite5 (m : (ℓ : Loc Cert.Kernel5Ideal.nD Cert.Kernel5Ideal.τ Cert.Kernel5Ideal.sig) → Buf (Elt Ideal) ℓ)
    (h : Cert.Pre_Kernel5Ideal_finite5 (hPre_finite5 := pre_facts5) m) (c : Dev Cert.Kernel5Ideal.nD) : Cert.Xattn5.Finite m c :=
  ⟨Cert.KernelIdeal.Mla.real_of_lt _ _ (fun _ => rfl) (h c).1,
    Cert.KernelIdeal.Mla.real_of_lt _ _ (fun _ => rfl) (h c).2.1,
    Cert.KernelIdeal.Mla.real_of_lt _ _ (fun _ => rfl) (h c).2.2.1,
    Cert.KernelIdeal.Mla.real_of_lt _ _ (fun _ => rfl) (h c).2.2.2.1,
    Cert.KernelIdeal.Mla.real_of_lt _ _ (fun _ => rfl) (h c).2.2.2.2.1,
    Cert.KernelIdeal.Mla.real_of_lt _ _ (fun _ => rfl) (h c).2.2.2.2.2.1,
    Cert.KernelIdeal.Mla.real_of_lt _ _ (fun _ => rfl) (h c).2.2.2.2.2.2.1,
    Cert.KernelIdeal.Mla.real_of_lt _ _ (fun _ => rfl) (h c).2.2.2.2.2.2.2.1,
    Cert.KernelIdeal.Mla.real_of_lt _ _ (fun _ => rfl) (h c).2.2.2.2.2.2.2.2⟩

theorem algebraic5 : Cert.algebraic_Kernel5Ideal_Reference5Ideal_pre_finite5 (hPre_finite5 := pre_facts5) := fun m ρ m' ρ' hp hag =>
  ⟨fun c => Cert.Xattn5.result m c,
    Cert.Xattn5.run m ρ (finite5 m hp),
    (θ_run Cert.Reference5Ideal.defs _ _).mono
      (fun _ h c => ⟨(h c).1.trans (by
        rw [Cert.Xattn5.Ref.value m' c]
        unfold Cert.Xattn5.result
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
        rfl), (h c).2⟩)
      (Cert.Reference5Ideal.Value.run (F := Ideal) m' ρ')⟩

end Cert.Proof.XattnClaims

end
-- ==== Proof.Rope.Math.lean ====
/-
  The second layer's projections of one token, over the extended reals: the normalised row times the weights, the queries'
  and the keys' heads of 64 rotated in pairs of places 32 apart.

  `turn` is the rotation as the reference writes it, the minus sign in a subtraction; `lanes` is the rotation with the
  signed sine, as the kernel computes it.
-/
module

public import proofs.«01_k».proof.Proof.Ffn.Math
public import proofs.«01_k».proof.Proof.Xattn.Spec

@[expose] public section

noncomputable section

open Idealize.ShloMosaic

namespace Cert.Rope

/-- Column `l` of the projected row's third `b`. -/
abbrev col (b : Fin 3) (l : Fin 1024) : Fin 3072 := ⟨b.val * 1024 + l.val, by omega⟩

/-- The place column `l` is rotated with: 32 further in the first half of its head, 32 back in the second. -/
def mate (l : Fin 1024) : Fin 1024 := ⟨if l.val % 64 < 32 then l.val + 32 else l.val - 32, by split <;> omega⟩

/-- The angle's number of column `l`. -/
abbrev freq (l : Fin 1024) : Fin 32 := ⟨l.val % 32, Nat.mod_lt _ (by decide)⟩

/-- The sine of column `l`'s angle, with its sign. -/
def signed (s : Fin 32 → EReal) (l : Fin 1024) : EReal := if l.val % 64 < 32 then -s (freq l) else s (freq l)

/-- The projected row. -/
def proj (x g : Fin 1024 → EReal) (w : Fin 1024 → Fin 3072 → EReal) (n : Fin 3072) : EReal :=
  ∑ k : Fin 1024, Ffn.normRow x g k * w k n

/-- Column `l` of the rotated third. -/
def lanes (p : Fin 1024 → EReal) (c s : Fin 32 → EReal) (l : Fin 1024) : EReal :=
  p l * c (freq l) + p (mate l) * signed s l

/-- Column `l` of the rotated third, by the half of its head it lies in. -/
def turn (p : Fin 1024 → EReal) (c s : Fin 32 → EReal) (l : Fin 1024) : EReal :=
  if l.val % 64 < 32 then p l * c (freq l) - p (mate l) * s (freq l) else p l * c (freq l) + p (mate l) * s (freq l)

theorem turn_eq (p : Fin 1024 → EReal) (c s : Fin 32 → EReal) (l : Fin 1024) : turn p c s l = lanes p c s l := by
  unfold turn lanes signed
  split
  · rw [sub_eq_add_neg, ← mul_neg]
  · rfl

/-- Multiplying by an eighth and dividing by log 2 is multiplying by their quotient. -/
theorem scale_eq (a : EReal) : Ideal.div (a * Ideal.ofBits .f32 0x3E000000#32) (Ideal.log (Ideal.ofBits .f32 0x40000000#32))
    = a * (((1 / 8) * (Real.log 2)⁻¹ : ℝ) : EReal) := by
  have eighth : (Ideal.ofBits .f32 0x3E000000#32 : EReal) = ((1 / 8 : ℝ) : EReal) := by
    simp [Ideal.ofBits, Ideal.ieee]
    rw [← EReal.coe_mul]
    norm_num
  have two : (Ideal.ofBits .f32 0x40000000#32 : EReal) = ((2 : ℝ) : EReal) := by
    simp [Ideal.ofBits, Ideal.ieee]
    rw [← EReal.coe_mul]
    norm_num
  have l2 : Ideal.log ((2 : ℝ) : EReal) = ((Real.log 2 : ℝ) : EReal) := by
    show (if (2 : ℝ) ≤ 0 then (⊥ : EReal) else _) = _
    rw [if_neg (by norm_num)]
  have l0 : Real.log 2 ≠ 0 := (Real.log_pos (by norm_num)).ne'
  rw [two, l2, eighth, Ideal.div_coe l0, mul_assoc, ← EReal.coe_mul, one_div (Real.log 2)]

end Cert.Rope

end
-- ==== Proof.Rope.Block.lean ====
/-
  What one grid point of the projections leaves in its three blocks, entry by entry.
-/
module

public import proofs.«01_k».proof.Proof.Rope.Math
public import proofs.«01_k».proof.Proof.Gen.Kernel6Ideal.Value
public import Idealize.ShloMosaic.Lib.UnfoldOut

@[expose] public section

set_option maxRecDepth 16384

noncomputable section

open Idealize.ShloMosaic

namespace Cert.Rope

open Cert.Kernel6Ideal Cert.Kernel6Ideal.Gen

/-- The scale of the queries. -/
abbrev scale : EReal := Named.named (F := Ideal) (φ := .f32) κ "q_log2_scale" 0x3E38AA3B#32

theorem proj_apply (x0 : Vec Ideal S1024x1024 .f32) (x1 : Vec Ideal S1x1024 .f32) (x2 : Vec Ideal S1024x3072 .bf16) (r : Fin 1024) (n : Fin 3072) :
    k0_pay3 x0 x1 x2 (ix2 r n) = proj (fun i => x0 (ix2 r i)) (fun i => x1 (ix2 0 i)) (fun k n => x2 (ix2 k n)) n := by
  pointwise [k0_pay3, proj, Ffn.normRow]

/-- One chunk of 128 columns rotated. -/
def chunk (u c s : FVec Ideal S1024x128 .f32) : FVec Ideal S1024x128 .f32 :=
  addf (mulf u c) (mulf (select (cmpi .slt (andi (iota .tc S1024x128 32 [1] iota_S1024x128_d1_w32) (broadcast S1024x128 63#32)) (broadcast S1024x128 32#32))
    (dynamicRotate 1 96#32 none u rotates_S1024x128_d1) (dynamicRotate 1 32#32 none u rotates_S1024x128_d1)) s)

/-- The place lane `j` of a chunk is rotated with. -/
def mateLane (j : Fin 128) : Fin 128 := ⟨if j.val % 64 < 32 then j.val + 32 else j.val - 32, by split <;> omega⟩

theorem half_lane : ∀ j : Fin 128, IntOp.cmpi .slt (BitVec.ofNat 32 j.val &&& 63#32) 32#32 = BitVec.ofBool (decide (j.val % 64 < 32)) := by
  decide +kernel

theorem chunk_apply (u c s : FVec Ideal S1024x128 .f32) (r : Fin 1024) (j : Fin 128) :
    chunk u c s (ix2 r j) = u (ix2 r j) * c (ix2 r j) + u (ix2 r (mateLane j)) * s (ix2 r j) := by
  unfold chunk
  pointwise
  have e := half_lane j
  by_cases h : j.val % 64 < 32
  · rw [show IntOp.cmpi .slt (IntOp.andi (BitVec.ofNat 32 j.val) 63#32) 32#32 = 1#1 from by
      refine e.trans ?_
      rw [decide_eq_true h]
      rfl]
    have m : (⟨(j.val + 128 - 96) % 128, Nat.mod_lt _ (by decide)⟩ : Fin 128) = mateLane j := Fin.ext (by simp only [mateLane, if_pos h]; omega)
    rw [← m]
    rfl
  · rw [show IntOp.cmpi .slt (IntOp.andi (BitVec.ofNat 32 j.val) 63#32) 32#32 = 0#1 from by
      refine e.trans ?_
      rw [decide_eq_false h]
      rfl]
    have m : (⟨(j.val + 128 - 32) % 128, Nat.mod_lt _ (by decide)⟩ : Fin 128) = mateLane j := Fin.ext (by simp only [mateLane, if_neg h]; omega)
    rw [← m]
    rfl

/-- A chunk's columns of the projected block. -/
theorem slice_apply (v : FVec Ideal S1024x3072 .f32) (o : Nat) (h : S1024x3072.Slices ![0, o] S1024x128) (ho : o + 128 ≤ 3072) (r : Fin 1024) (j : Fin 128) :
    extractStridedSlice S1024x128 ![0, o] v h (ix2 r j) = v (ix2 r ⟨o + j.val, by omega⟩) := by
  pointwise

abbrev lane (l : Fin 1024) : Fin 128 := ⟨l.val % 128, Nat.mod_lt _ (by decide)⟩

/-- Column `l` of a block's rotated third `b`. -/
def rotated (v : FVec Ideal S1024x3072 .f32) (c s : FVec Ideal S1024x128 .f32) (b : Fin 3) (r l : Fin 1024) : EReal :=
  v (ix2 r (col b l)) * c (ix2 r (lane l)) + v (ix2 r (col b (mate l))) * s (ix2 r (lane l))

theorem piece (v : FVec Ideal S1024x3072 .f32) (c s : FVec Ideal S1024x128 .f32) (b : Fin 3) (k : Fin 8) (o : Nat) (h : S1024x3072.Slices ![0, o] S1024x128)
    (ho : o = b.val * 1024 + k.val * 128) (r : Fin 1024) (j : Fin 128) :
    chunk (extractStridedSlice S1024x128 ![0, o] v h) c s (ix2 r j) = rotated v c s b r ⟨k.val * 128 + j.val, by omega⟩ := by
  refine (chunk_apply _ _ _ r j).trans ?_
  rw [slice_apply v o h (by omega), slice_apply v o h (by omega)]
  unfold rotated
  have a1 : (⟨o + j.val, by omega⟩ : Fin 3072) = col b ⟨k.val * 128 + j.val, by omega⟩ := Fin.ext (by simp only [col]; omega)
  have a2 : (⟨o + (mateLane j).val, by omega⟩ : Fin 3072) = col b (mate ⟨k.val * 128 + j.val, by omega⟩) := Fin.ext (by
    simp only [col, mate, mateLane]
    by_cases hj : j.val % 64 < 32
    · rw [if_pos hj, if_pos (by omega)]; omega
    · rw [if_neg hj, if_neg (by omega)]; omega)
  have a3 : lane ⟨k.val * 128 + j.val, by omega⟩ = j := Fin.ext (by simp only [lane]; omega)
  rw [a1, a2, a3]

/-- Where lane `j` of the piece at column `o` lies in the block. -/
theorem at_piece (o : Nat) (h : ∀ a, (![0, o] : Fin 2 → Nat) a + S1024x128.size a ≤ S1024x1024.size a) (ho : o + 128 ≤ 1024) (r : Fin 1024) (j : Fin 128) :
    (Rect.unit (s := S1024x1024) ![0, o] S1024x128.size h).emb (ix2 r j) = (ix2 r ⟨o + j.val, by omega⟩ : S1024x1024.Idx) := by
  funext a
  apply Fin.ext
  match a with
  | ⟨0, _⟩ => show 0 + 1 * r.val = r.val; omega
  | ⟨1, _⟩ => show o + 1 * j.val = o + j.val; omega

theorem ld0 (x : Vec Ideal S1024x1024 .f32) : View.ld x r0_0 = x := by
  funext i
  idx_vars i
  pointwise [View.ld, r0_0]

theorem ld1 (x : Vec Ideal S1x1024 .f32) : View.ld x r0_1 = x := by
  funext i
  idx_vars i
  pointwise [View.ld, r0_1]
  exact congrArg (fun r => x (ix2 r i1)) (Subsingleton.elim _ _)

theorem ld2 (x : Vec Ideal S1024x3072 .bf16) : View.ld x r0_2 = x := by
  funext i
  idx_vars i
  pointwise [View.ld, r0_2]

theorem ld3 (x : Vec Ideal S1024x128 .f32) : View.ld x r0_3 = x := by
  funext i
  idx_vars i
  pointwise [View.ld, r0_3]

section

variable (x0 : Vec Ideal S1024x1024 .f32) (x1 : Vec Ideal S1x1024 .f32) (x2 : Vec Ideal S1024x3072 .bf16) (x3 x4 : Vec Ideal S1024x128 .f32)

theorem pay_proj : k0_pay32 x0 x1 x2 x3 x4 = k0_pay3 x0 x1 x2 := by
  unfold k0_pay32
  rw [ld0, ld1, ld2]

theorem pay_cos : k0_pay33 x0 x1 x2 x3 x4 = x3 := by
  unfold k0_pay33 k0_pay4
  rw [ld3]
  exact shapeCast_self _ _

theorem pay_sin : k0_pay34 x0 x1 x2 x3 x4 = x4 := by
  unfold k0_pay34 k0_pay5
  rw [ld3]
  exact shapeCast_self _ _

theorem pay_first : k0_pay6 (View.ld x0 r0_0) (View.ld x1 r0_1) (View.ld x2 r0_2) (View.ld x3 r0_3) (View.ld x4 r0_3)
    = mulf (chunk (extractStridedSlice S1024x128 ![0, 0] (k0_pay3 x0 x1 x2) slices_S1024x3072_o0_0_S1024x128) x3 x4) (broadcast S1024x128 (scale : Ideal .f32)) := by
  rw [ld0, ld1, ld2, ld3, ld3]
  unfold k0_pay6 k0_pay4 k0_pay5
  rw [shapeCast_self, shapeCast_self]
  rfl

end

/-- The rotated keys of a block. -/
def keyBlock (v : FVec Ideal S1024x3072 .f32) (c s : FVec Ideal S1024x128 .f32) : FVec Ideal S1024x1024 .f32 := fun y => rotated v c s 1 (y 0) (y 1)

/-- The rotated and scaled queries of a block. -/
def queryBlock (v : FVec Ideal S1024x3072 .f32) (c s : FVec Ideal S1024x128 .f32) : FVec Ideal S1024x1024 .f32 := fun y => rotated v c s 0 (y 0) (y 1) * scale

/-- The keys a grid point leaves. -/
theorem keys_apply (x0 : Vec Ideal S1024x1024 .f32) (x1 : Vec Ideal S1x1024 .f32) (x2 : Vec Ideal S1024x3072 .bf16) (x3 x4 : Vec Ideal S1024x128 .f32) (r l : Fin 1024) :
    out0_6 x0 x1 x2 x3 x4 (ix2 r l) = rotated (k0_pay3 x0 x1 x2) x3 x4 1 r l := by
  unfold out0_6
  rw [pay_proj, pay_cos, pay_sin]
  generalize k0_pay3 x0 x1 x2 = v
  refine View.canon_apply_of_pieces (Val := Elt Ideal) (keyBlock v x3 x4) _ ?_ (ix2 r l) (cover0_6 _ _ _ _ _ _ _ _ _)
  intro pc hpc
  rcases List.mem_cons.mp hpc with rfl | hpc
  · intro i
    idx_vars i
    refine (piece v x3 x4 1 7 1920 slices_S1024x3072_o0_1920_S1024x128 rfl i0 i1).trans ?_
    exact congrArg (keyBlock v x3 x4) (at_piece 896 inb_S1024x1024_S1024x128_0_896 (by decide) i0 i1).symm
  rcases List.mem_cons.mp hpc with rfl | hpc
  · intro i
    idx_vars i
    refine (piece v x3 x4 1 6 1792 slices_S1024x3072_o0_1792_S1024x128 rfl i0 i1).trans ?_
    exact congrArg (keyBlock v x3 x4) (at_piece 768 inb_S1024x1024_S1024x128_0_768 (by decide) i0 i1).symm
  rcases List.mem_cons.mp hpc with rfl | hpc
  · intro i
    idx_vars i
    refine (piece v x3 x4 1 5 1664 slices_S1024x3072_o0_1664_S1024x128 rfl i0 i1).trans ?_
    exact congrArg (keyBlock v x3 x4) (at_piece 640 inb_S1024x1024_S1024x128_0_640 (by decide) i0 i1).symm
  rcases List.mem_cons.mp hpc with rfl | hpc
  · intro i
    idx_vars i
    refine (piece v x3 x4 1 4 1536 slices_S1024x3072_o0_1536_S1024x128 rfl i0 i1).trans ?_
    exact congrArg (keyBlock v x3 x4) (at_piece 512 inb_S1024x1024_S1024x128_0_512 (by decide) i0 i1).symm
  rcases List.mem_cons.mp hpc with rfl | hpc
  · intro i
    idx_vars i
    refine (piece v x3 x4 1 3 1408 slices_S1024x3072_o0_1408_S1024x128 rfl i0 i1).trans ?_
    exact congrArg (keyBlock v x3 x4) (at_piece 384 inb_S1024x1024_S1024x128_0_384 (by decide) i0 i1).symm
  rcases List.mem_cons.mp hpc with rfl | hpc
  · intro i
    idx_vars i
    refine (piece v x3 x4 1 2 1280 slices_S1024x3072_o0_1280_S1024x128 rfl i0 i1).trans ?_
    exact congrArg (keyBlock v x3 x4) (at_piece 256 inb_S1024x1024_S1024x128_0_256 (by decide) i0 i1).symm
  rcases List.mem_cons.mp hpc with rfl | hpc
  · intro i
    idx_vars i
    refine (piece v x3 x4 1 1 1152 slices_S1024x3072_o0_1152_S1024x128 rfl i0 i1).trans ?_
    exact congrArg (keyBlock v x3 x4) (at_piece 128 inb_S1024x1024_S1024x128_0_128 (by decide) i0 i1).symm
  rcases List.mem_cons.mp hpc with rfl | hpc
  · intro i
    idx_vars i
    refine (piece v x3 x4 1 0 1024 slices_S1024x3072_o0_1024_S1024x128 rfl i0 i1).trans ?_
    exact congrArg (keyBlock v x3 x4) (at_piece 0 inb_S1024x1024_S1024x128_0_0 (by decide) i0 i1).symm
  nomatch hpc

/-- The queries a grid point leaves. -/
theorem queries_apply (x0 : Vec Ideal S1024x1024 .f32) (x1 : Vec Ideal S1x1024 .f32) (x2 : Vec Ideal S1024x3072 .bf16) (x3 x4 : Vec Ideal S1024x128 .f32) (r l : Fin 1024) :
    out0_5 x0 x1 x2 x3 x4 (ix2 r l) = rotated (k0_pay3 x0 x1 x2) x3 x4 0 r l * scale := by
  unfold out0_5
  rw [pay_first, pay_proj, pay_cos, pay_sin]
  generalize k0_pay3 x0 x1 x2 = v
  refine View.canon_apply_of_pieces (Val := Elt Ideal) (queryBlock v x3 x4) _ ?_ (ix2 r l) (cover0_5 _ _ _ _ _ _ _ _ _)
  intro pc hpc
  rcases List.mem_cons.mp hpc with rfl | hpc
  · intro i
    idx_vars i
    refine (congrArg (fun e : EReal => e * scale) (piece v x3 x4 0 7 896 slices_S1024x3072_o0_896_S1024x128 rfl i0 i1)).trans ?_
    exact congrArg (queryBlock v x3 x4) (at_piece 896 inb_S1024x1024_S1024x128_0_896 (by decide) i0 i1).symm
  rcases List.mem_cons.mp hpc with rfl | hpc
  · intro i
    idx_vars i
    refine (congrArg (fun e : EReal => e * scale) (piece v x3 x4 0 6 768 slices_S1024x3072_o0_768_S1024x128 rfl i0 i1)).trans ?_
    exact congrArg (queryBlock v x3 x4) (at_piece 768 inb_S1024x1024_S1024x128_0_768 (by decide) i0 i1).symm
  rcases List.mem_cons.mp hpc with rfl | hpc
  · intro i
    idx_vars i
    refine (congrArg (fun e : EReal => e * scale) (piece v x3 x4 0 5 640 slices_S1024x3072_o0_640_S1024x128 rfl i0 i1)).trans ?_
    exact congrArg (queryBlock v x3 x4) (at_piece 640 inb_S1024x1024_S1024x128_0_640 (by decide) i0 i1).symm
  rcases List.mem_cons.mp hpc with rfl | hpc
  · intro i
    idx_vars i
    refine (congrArg (fun e : EReal => e * scale) (piece v x3 x4 0 4 512 slices_S1024x3072_o0_512_S1024x128 rfl i0 i1)).trans ?_
    exact congrArg (queryBlock v x3 x4) (at_piece 512 inb_S1024x1024_S1024x128_0_512 (by decide) i0 i1).symm
  rcases List.mem_cons.mp hpc with rfl | hpc
  · intro i
    idx_vars i
    refine (congrArg (fun e : EReal => e * scale) (piece v x3 x4 0 3 384 slices_S1024x3072_o0_384_S1024x128 rfl i0 i1)).trans ?_
    exact congrArg (queryBlock v x3 x4) (at_piece 384 inb_S1024x1024_S1024x128_0_384 (by decide) i0 i1).symm
  rcases List.mem_cons.mp hpc with rfl | hpc
  · intro i
    idx_vars i
    refine (congrArg (fun e : EReal => e * scale) (piece v x3 x4 0 2 256 slices_S1024x3072_o0_256_S1024x128 rfl i0 i1)).trans ?_
    exact congrArg (queryBlock v x3 x4) (at_piece 256 inb_S1024x1024_S1024x128_0_256 (by decide) i0 i1).symm
  rcases List.mem_cons.mp hpc with rfl | hpc
  · intro i
    idx_vars i
    refine (congrArg (fun e : EReal => e * scale) (piece v x3 x4 0 1 128 slices_S1024x3072_o0_128_S1024x128 rfl i0 i1)).trans ?_
    exact congrArg (queryBlock v x3 x4) (at_piece 128 inb_S1024x1024_S1024x128_0_128 (by decide) i0 i1).symm
  rcases List.mem_cons.mp hpc with rfl | hpc
  · intro i
    idx_vars i
    refine (congrArg (fun e : EReal => e * scale) (piece v x3 x4 0 0 0 slices_S1024x3072_o0_0_S1024x128 rfl i0 i1)).trans ?_
    exact congrArg (queryBlock v x3 x4) (at_piece 0 inb_S1024x1024_S1024x128_0_0 (by decide) i0 i1).symm
  nomatch hpc

/-- The values a grid point leaves. -/
theorem values_apply (x0 : Vec Ideal S1024x1024 .f32) (x1 : Vec Ideal S1x1024 .f32) (x2 : Vec Ideal S1024x3072 .bf16) (x3 x4 : Vec Ideal S1024x128 .f32) (r l : Fin 1024) :
    out0_7 x0 x1 x2 x3 x4 (ix2 r l) = k0_pay3 x0 x1 x2 (ix2 r (col 2 l)) := by
  unfold out0_7
  rw [pay_proj]
  generalize k0_pay3 x0 x1 x2 = v
  frame_out
  pointwise [k0_pay2]
  exact congrArg (fun j => v (ix2 r j)) (Fin.ext rfl)

end Cert.Rope

end
-- ==== Proof.Rope.Host.lean ====
/-
  The projections' three results of the arguments, and the tables of cosines and signed sines as the host writes them.
-/
module

public import proofs.«01_k».proof.Proof.Rope.Block
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)
open Cert.Xattn (seqOf posOf)

namespace Cert.Rope

open Cert.Kernel6Ideal Cert.Kernel6Ideal.Gen

/-- The angles: a position times each of the 32 frequencies. -/
def angles (p : IVec S8x8192 32) : FVec Ideal S8x8192x32 .f32 :=
  mulf (broadcastInDim S8x8192x32 ![0, 1, 2] bcast_S8x8192x1_S8x8192x32_0_1_2 (broadcastInDim S8x8192x1 ![0, 1] bcast_S8x8192_S8x8192x1_0_1 (sitofp .f32 p)))
    (broadcastInDim S8x8192x32 ![0, 1, 2] bcast_S1x1x32_S8x8192x32_0_1_2 (broadcastInDim S1x1x32 ![2] bcast_S32_S1x1x32_2 (Host.powf (broadcastInDim S32 ![] bcast_S_S32 (constant S_ .f32 0x461C4000#32))
      (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0)))))
        (broadcastInDim S32 ![] bcast_S_S32 (constant S_ .f32 0x42800000#32))))))

/-- The angles' cosines and sines at token `i`. -/
def cosAt (p : IVec S8x8192 32) (i : Fin 65536) (j : Fin 32) : EReal := Host.cos (angles p) (ix3 (seqOf i) (posOf i) j)
def sinAt (p : IVec S8x8192 32) (i : Fin 65536) (j : Fin 32) : EReal := Host.sin (angles p) (ix3 (seqOf i) (posOf i) j)

/-- The projected row of token `i`. -/
def projAt (x : FVec Ideal S8x8192x1024 .f32) (g : FVec Ideal S1024 .f32) (w : FVec Ideal S1024x3072 .f32) (i : Fin 65536) : Fin 3072 → EReal :=
  proj (fun k => x (ix3 (seqOf i) (posOf i) k)) (fun k => g (ix1 k)) (fun k n => w (ix2 k n))

/-- The three results. -/
def queries (x : FVec Ideal S8x8192x1024 .f32) (p : IVec S8x8192 32) (g : FVec Ideal S1024 .f32) (w : FVec Ideal S1024x3072 .f32) : FVec Ideal S65536x1024 .f32 :=
  fun y => lanes (fun l => projAt x g w (y 0) (col 0 l)) (cosAt p (y 0)) (sinAt p (y 0)) (y 1) * (((1 / 8) * (Real.log 2)⁻¹ : ℝ) : EReal)

def keys (x : FVec Ideal S8x8192x1024 .f32) (p : IVec S8x8192 32) (g : FVec Ideal S1024 .f32) (w : FVec Ideal S1024x3072 .f32) : FVec Ideal S65536x1024 .f32 :=
  fun y => lanes (fun l => projAt x g w (y 0) (col 1 l)) (cosAt p (y 0)) (sinAt p (y 0)) (y 1)

def values (x : FVec Ideal S8x8192x1024 .f32) (g : FVec Ideal S1024 .f32) (w : FVec Ideal S1024x3072 .f32) : FVec Ideal S65536x1024 .f32 :=
  fun y => projAt x g w (y 0) (col 2 (y 1))

/-- The table of cosines as written before the call. -/
def cosTable (p : IVec S8x8192 32) : FVec Ideal S65536x128 .f32 :=
  concatenate S65536x128 1 [⟨S65536x32, shapeCast S65536x32 (Host.cos (angles p)) shapeCasts_S8x8192x32_S65536x32⟩, ⟨S65536x32, shapeCast S65536x32 (Host.cos (angles p)) shapeCasts_S8x8192x32_S65536x32⟩,
    ⟨S65536x32, shapeCast S65536x32 (Host.cos (angles p)) shapeCasts_S8x8192x32_S65536x32⟩, ⟨S65536x32, shapeCast S65536x32 (Host.cos (angles p)) shapeCasts_S8x8192x32_S65536x32⟩]
    concatenates_S65536x32_S65536x32_S65536x32_S65536x32_S65536x128_d1

/-- The table of signed sines as written before the call. -/
def sinTable (p : IVec S8x8192 32) : FVec Ideal S65536x128 .f32 :=
  concatenate S65536x128 1 [⟨S65536x32, Host.negf (shapeCast S65536x32 (Host.sin (angles p)) shapeCasts_S8x8192x32_S65536x32)⟩, ⟨S65536x32, shapeCast S65536x32 (Host.sin (angles p)) shapeCasts_S8x8192x32_S65536x32⟩,
    ⟨S65536x32, Host.negf (shapeCast S65536x32 (Host.sin (angles p)) shapeCasts_S8x8192x32_S65536x32)⟩, ⟨S65536x32, shapeCast S65536x32 (Host.sin (angles p)) shapeCasts_S8x8192x32_S65536x32⟩]
    concatenates_S65536x32_S65536x32_S65536x32_S65536x32_S65536x128_d1

theorem half_apply (a : FVec Ideal S8x8192x32 .f32) (i : Fin 65536) (j : Fin 32) :
    shapeCast S65536x32 a shapeCasts_S8x8192x32_S65536x32 (ix2 i j) = a (ix3 (seqOf i) (posOf i) j) := by
  pointwise

theorem four_apply (h : Fin 4 → FVec Ideal S65536x32 .f32) (i : Fin 65536) (j : Fin 128) :
    concatenate S65536x128 1 [⟨S65536x32, h 0⟩, ⟨S65536x32, h 1⟩, ⟨S65536x32, h 2⟩, ⟨S65536x32, h 3⟩] concatenates_S65536x32_S65536x32_S65536x32_S65536x32_S65536x128_d1 (ix2 i j)
      = h ⟨j.val / 32, by omega⟩ (ix2 i ⟨j.val % 32, Nat.mod_lt _ (by decide)⟩) := by
  have e : ∀ (a b : ℕ) (ha : a < 4) (hb : b < 4) (d d' : ℕ) (hd : d < 32) (hd' : d' < 32), a = b → d = d' →
      h ⟨a, ha⟩ (ix2 i ⟨d, hd⟩) = h ⟨b, hb⟩ (ix2 i ⟨d', hd'⟩) := by
    intro a b _ _ d d' _ _ e1 e2
    subst e1 e2
    rfl
  pointwise
  by_cases h1 : j.val < 32
  · rw [dif_pos h1]
    exact e 0 _ (by decide) _ _ _ h1 _ (by omega) (by omega)
  by_cases h2 : j.val - 32 < 32
  · rw [dif_neg h1, dif_pos h2]
    exact e 1 _ (by decide) _ _ _ h2 _ (by omega) (by omega)
  by_cases h3 : j.val - 32 - 32 < 32
  · rw [dif_neg h1, dif_neg h2, dif_pos h3]
    exact e 2 _ (by decide) _ _ _ h3 _ (by omega) (by omega)
  · rw [dif_neg h1, dif_neg h2, dif_neg h3]
    exact e 3 _ (by decide) _ _ _ _ _ (by omega) (by omega)

theorem cos_apply (p : IVec S8x8192 32) (i : Fin 65536) (j : Fin 128) : cosTable p (ix2 i j) = cosAt p i ⟨j.val % 32, Nat.mod_lt _ (by decide)⟩ := by
  refine (four_apply (fun _ => shapeCast S65536x32 (Host.cos (angles p)) shapeCasts_S8x8192x32_S65536x32) i j).trans ?_
  exact half_apply _ _ _

/-- The table's four groups of columns. -/
def groups (s : FVec Ideal S65536x32 .f32) : Fin 4 → FVec Ideal S65536x32 .f32
  | 0 => Host.negf s
  | 1 => s
  | 2 => Host.negf s
  | 3 => s

theorem groups_apply (s : FVec Ideal S65536x32 .f32) (k : Fin 4) (y : S65536x32.Idx) : (groups s k y : EReal) = if k.val % 2 = 0 then -(s y : EReal) else s y := by
  fin_cases k <;> rfl

theorem sin_apply (p : IVec S8x8192 32) (i : Fin 65536) (j : Fin 128) : (sinTable p (ix2 i j) : EReal)
    = if j.val % 64 < 32 then -sinAt p i ⟨j.val % 32, Nat.mod_lt _ (by decide)⟩ else sinAt p i ⟨j.val % 32, Nat.mod_lt _ (by decide)⟩ := by
  refine (four_apply (groups (shapeCast S65536x32 (Host.sin (angles p)) shapeCasts_S8x8192x32_S65536x32)) i j).trans ?_
  refine (groups_apply _ _ _).trans ?_
  rw [half_apply]
  by_cases h : j.val % 64 < 32
  · rw [if_pos h, if_pos (show j.val / 32 % 2 = 0 by omega)]
    rfl
  · rw [if_neg h, if_neg (show ¬ j.val / 32 % 2 = 0 by omega)]
    rfl

variable (m : (ℓ : Loc nD τ sig) → Buf (Elt Ideal) ℓ)

set_option maxHeartbeats 2000000 in
/-- The cosine table the call reads. -/
theorem host3 (c : Dev nD) : V m c main_v20 = cosTable (m ((c : Thread nD τ).loc main_arg1)) := rfl

set_option maxHeartbeats 2000000 in
/-- The signed sine table the call reads. -/
theorem host4 (c : Dev nD) : V m c main_v23 = sinTable (m ((c : Thread nD τ).loc main_arg1)) := rfl

end Cert.Rope

end
-- ==== Proof.Rope.Value.lean ====
/-
  The projections' three arrays after the run: at every token, the rotated queries and keys and the values of its row.
-/
module

public import proofs.«01_k».proof.Proof.Rope.Host
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)
open Cert.Xattn (seqOf posOf)

namespace Cert.Rope

open Cert.Kernel6Ideal Cert.Kernel6Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem read0 (c : Dev nD) (t : Fin cfg0.N) (r k : Fin 1024) (h : t.val * 1024 + r.val < 65536) : iblk m c 0 t (ix2 r k)
    = m ((c : Thread nD τ).loc main_arg0) (ix3 (seqOf ⟨t.val * 1024 + r.val, h⟩) (posOf ⟨t.val * 1024 + r.val, h⟩) k) := by
  blk_ext! [iblk, V, idx t]

theorem read1 (c : Dev nD) (t : Fin cfg0.N) (k : Fin 1024) : iblk m c 1 t (ix2 0 k) = m ((c : Thread nD τ).loc main_arg2) (ix1 k) := by
  blk_ext! [iblk, V, idx t]

theorem read2 (c : Dev nD) (t : Fin cfg0.N) (k : Fin 1024) (j : Fin 3072) : iblk m c 2 t (ix2 k j) = m ((c : Thread nD τ).loc main_arg3) (ix2 k j) := by
  blk_ext! [iblk, V, idx t]

theorem read3 (c : Dev nD) (t : Fin cfg0.N) (r : Fin 1024) (j : Fin 128) (h : t.val * 1024 + r.val < 65536) : iblk m c 3 t (ix2 r j)
    = cosTable (m ((c : Thread nD τ).loc main_arg1)) (ix2 ⟨t.val * 1024 + r.val, h⟩ j) := by
  rw [← host3]
  blk_ext [iblk, idx t]

theorem read4 (c : Dev nD) (t : Fin cfg0.N) (r : Fin 1024) (j : Fin 128) (h : t.val * 1024 + r.val < 65536) : iblk m c 4 t (ix2 r j)
    = sinTable (m ((c : Thread nD τ).loc main_arg1)) (ix2 ⟨t.val * 1024 + r.val, h⟩ j) := by
  rw [← host4]
  blk_ext [iblk, idx t]

theorem place5 (t : Fin cfg0.N) (r l : Fin 1024) (h : t.val * 1024 + r.val < 65536) :
    ((cfg0.win 5).blk t).view.emb (ix2 r l) = (ix2 ⟨t.val * 1024 + r.val, h⟩ l : S65536x1024.Idx) := by
  blk_ext [idx t]

theorem place6 (t : Fin cfg0.N) (r l : Fin 1024) (h : t.val * 1024 + r.val < 65536) :
    ((cfg0.win 6).blk t).view.emb (ix2 r l) = (ix2 ⟨t.val * 1024 + r.val, h⟩ l : S65536x1024.Idx) := by
  blk_ext [idx t]

theorem place7 (t : Fin cfg0.N) (r l : Fin 1024) (h : t.val * 1024 + r.val < 65536) :
    ((cfg0.win 7).blk t).view.emb (ix2 r l) = (ix2 ⟨t.val * 1024 + r.val, h⟩ l : S65536x1024.Idx) := by
  blk_ext [idx t]

/-- Point `t`'s rows of the projection. -/
theorem projected (c : Dev nD) (t : Fin cfg0.N) (r : Fin 1024) (n : Fin 3072) (h : t.val * 1024 + r.val < 65536) :
    (k0_pay3 (iblk m c 0 t) (iblk m c 1 t) (iblk m c 2 t) (ix2 r n) : EReal)
      = projAt (m ((c : Thread nD τ).loc main_arg0)) (m ((c : Thread nD τ).loc main_arg2)) (m ((c : Thread nD τ).loc main_arg3)) ⟨t.val * 1024 + r.val, h⟩ n := by
  refine (proj_apply _ _ _ r n).trans ?_
  unfold projAt
  exact congrFun (congr (congr (congrArg proj (funext fun k => read0 m c t r k h)) (funext fun k => read1 m c t k))
    (funext fun k => funext fun j => read2 m c t k j)) n

/-- Point `t`'s rows of a rotated third. -/
theorem rotated_rows (c : Dev nD) (t : Fin cfg0.N) (b : Fin 3) (r l : Fin 1024) (h : t.val * 1024 + r.val < 65536) :
    rotated (k0_pay3 (iblk m c 0 t) (iblk m c 1 t) (iblk m c 2 t)) (iblk m c 3 t) (iblk m c 4 t) b r l
      = lanes (fun l => projAt (m ((c : Thread nD τ).loc main_arg0)) (m ((c : Thread nD τ).loc main_arg2)) (m ((c : Thread nD τ).loc main_arg3)) ⟨t.val * 1024 + r.val, h⟩ (col b l))
        (cosAt (m ((c : Thread nD τ).loc main_arg1)) ⟨t.val * 1024 + r.val, h⟩) (sinAt (m ((c : Thread nD τ).loc main_arg1)) ⟨t.val * 1024 + r.val, h⟩) l := by
  have e : (⟨(lane l).val % 32, Nat.mod_lt _ (by decide)⟩ : Fin 32) = freq l :=
    Fin.ext (show l.val % 128 % 32 = l.val % 32 by omega)
  have g : ((lane l).val % 64 < 32) = (l.val % 64 < 32) := by
    rw [show (lane l).val % 64 = l.val % 64 from (show l.val % 128 % 64 = l.val % 64 by omega)]
  have hc : (iblk m c 3 t (ix2 r (lane l)) : EReal) = cosAt (m ((c : Thread nD τ).loc main_arg1)) ⟨t.val * 1024 + r.val, h⟩ (freq l) := by
    refine (read3 m c t r (lane l) h).trans ((cos_apply _ _ _).trans ?_)
    rw [e]
  have hs : (iblk m c 4 t (ix2 r (lane l)) : EReal) = signed (sinAt (m ((c : Thread nD τ).loc main_arg1)) ⟨t.val * 1024 + r.val, h⟩) l := by
    refine (read4 m c t r (lane l) h).trans ((sin_apply _ _ _).trans ?_)
    rw [e]
    unfold signed
    simp only [g]
  unfold rotated lanes
  exact congrArg₂ (fun a b : EReal => a + b) (congrArg₂ (fun a b : EReal => a * b) (projected m c t r _ h) hc)
    (congrArg₂ (fun a b : EReal => a * b) (projected m c t r _ h) hs)

theorem in_range (t : Fin cfg0.N) (r : Fin 1024) : t.val * 1024 + r.val < 65536 := by
  have := t.isLt
  have hN : cfg0.N = 64 := N_0
  omega

theorem scale_value : scale = (((1 / 8) * (Real.log 2)⁻¹ : ℝ) : EReal) :=
  (IdealRules.named_const.statement κ "q_log2_scale" .f32 0x3E38AA3B#32 (((1 / 8) * (Real.log 2)⁻¹ : ℝ) : EReal) rfl).2.2

abbrev result5 (c : Dev nD) : FVec Ideal S65536x1024 .f32 := queries (m ((c : Thread nD τ).loc main_arg0)) (m ((c : Thread nD τ).loc main_arg1)) (m ((c : Thread nD τ).loc main_arg2)) (m ((c : Thread nD τ).loc main_arg3))
abbrev result6 (c : Dev nD) : FVec Ideal S65536x1024 .f32 := keys (m ((c : Thread nD τ).loc main_arg0)) (m ((c : Thread nD τ).loc main_arg1)) (m ((c : Thread nD τ).loc main_arg2)) (m ((c : Thread nD τ).loc main_arg3))
abbrev result7 (c : Dev nD) : FVec Ideal S65536x1024 .f32 := values (m ((c : Thread nD τ).loc main_arg0)) (m ((c : Thread nD τ).loc main_arg2)) (m ((c : Thread nD τ).loc main_arg3))

theorem point5 (c : Dev nD) (t : Fin cfg0.N) (y : S1024x1024.Idx) :
    out0_5 (iblk m c 0 t) (iblk m c 1 t) (iblk m c 2 t) (iblk m c 3 t) (iblk m c 4 t) y = result5 m c (((cfg0.win 5).blk t).view.emb y) := by
  idx_vars y
  have h := in_range t y0
  rw [place5 t y0 y1 h]
  refine (queries_apply _ _ _ _ _ y0 y1).trans ?_
  rw [scale_value]
  exact congrArg (fun a : EReal => a * _) (rotated_rows m c t 0 y0 y1 h)

theorem final5 (c : Dev nD) : (dats m 0 c).arrAt 5 cfg0.N = result5 m c := by
  refine (dats m 0 c).arrAt_eq_of_covers 5 _ (by decide +kernel) fun t _ y => ?_
  blk_simp
  rw [after0_5]
  exact point5 m c t y

theorem point6 (c : Dev nD) (t : Fin cfg0.N) (y : S1024x1024.Idx) :
    out0_6 (iblk m c 0 t) (iblk m c 1 t) (iblk m c 2 t) (iblk m c 3 t) (iblk m c 4 t) y = result6 m c (((cfg0.win 6).blk t).view.emb y) := by
  idx_vars y
  have h := in_range t y0
  rw [place6 t y0 y1 h]
  refine (keys_apply _ _ _ _ _ y0 y1).trans ?_
  exact rotated_rows m c t 1 y0 y1 h

theorem final6 (c : Dev nD) : (dats m 0 c).arrAt 6 cfg0.N = result6 m c := by
  refine (dats m 0 c).arrAt_eq_of_covers 6 _ (by decide +kernel) fun t _ y => ?_
  blk_simp
  rw [after0_6]
  exact point6 m c t y

theorem point7 (c : Dev nD) (t : Fin cfg0.N) (y : S1024x1024.Idx) :
    out0_7 (iblk m c 0 t) (iblk m c 1 t) (iblk m c 2 t) (iblk m c 3 t) (iblk m c 4 t) y = result7 m c (((cfg0.win 7).blk t).view.emb y) := by
  idx_vars y
  have h := in_range t y0
  rw [place7 t y0 y1 h]
  refine (values_apply _ _ _ _ _ y0 y1).trans ?_
  exact projected m c t y0 (col 2 y1) h

theorem final7 (c : Dev nD) : (dats m 0 c).arrAt 7 cfg0.N = result7 m c := by
  refine (dats m 0 c).arrAt_eq_of_covers 7 _ (by decide +kernel) fun t _ y => ?_
  blk_simp
  rw [after0_7]
  exact point7 m c t y

end Cert.Rope

end
-- ==== Proof.Rope.Ref.lean ====
/-
  The reference's projections, by their stages, each read at one entry.
-/
module

public import proofs.«01_k».proof.Proof.Gen.Reference6Ideal.Run
public import proofs.«01_k».proof.Proof.Rope.Host
public import proofs.«01_k».proof.Proof.Xattn.Ref
public import Idealize.ShloMosaic.Lib.Pointwise
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem
open Cert.Xattn (seqOf posOf)
open Cert.Xattn.Ref (normX normX_apply)

namespace Cert.Rope.Ref

open Cert.Reference6Ideal Cert.Reference6Ideal.Gen

/-- The projected rows, in 48 heads of 64. -/
def heads (h : FVec Ideal S8x8192x1024 .f32) (w : FVec Ideal S1024x3072 .f32) : FVec Ideal S8x8192x48x64 .f32 :=
  shapeCast _ (Host.dotGeneral dot_S8x8192x1024_S1024x3072_S8x8192x3072_2_0_01_1_n_n none h w) shapeCasts_S8x8192x3072_S8x8192x48x64

/-- The queries', the keys' and the values' heads. -/
def third0 (a : FVec Ideal S8x8192x48x64 .f32) : FVec Ideal S8x8192x16x64 .f32 :=
  extractStridedSlice S8x8192x16x64 ![0, 0, 0, 0] a slices_S8x8192x48x64_S8x8192x16x64_0_0_0_0
def third1 (a : FVec Ideal S8x8192x48x64 .f32) : FVec Ideal S8x8192x16x64 .f32 :=
  extractStridedSlice S8x8192x16x64 ![0, 0, 16, 0] a slices_S8x8192x48x64_S8x8192x16x64_0_0_16_0
def third2 (a : FVec Ideal S8x8192x48x64 .f32) : FVec Ideal S8x8192x16x64 .f32 :=
  extractStridedSlice S8x8192x16x64 ![0, 0, 32, 0] a slices_S8x8192x48x64_S8x8192x16x64_0_0_32_0

/-- The halves of every head. -/
def half0 (a : FVec Ideal S8x8192x16x64 .f32) : FVec Ideal S8x8192x16x32 .f32 :=
  extractStridedSlice S8x8192x16x32 ![0, 0, 0, 0] a slices_S8x8192x16x64_S8x8192x16x32_0_0_0_0
def half1 (a : FVec Ideal S8x8192x16x64 .f32) : FVec Ideal S8x8192x16x32 .f32 :=
  extractStridedSlice S8x8192x16x32 ![0, 0, 0, 32] a slices_S8x8192x16x64_S8x8192x16x32_0_0_0_32

/-- The same table for every head. -/
def spread (a : FVec Ideal S8x8192x32 .f32) : FVec Ideal S8x8192x16x32 .f32 :=
  broadcastInDim S8x8192x16x32 ![0, 1, 2, 3] bcast_S8x8192x1x32_S8x8192x16x32_0_1_2_3 (broadcastInDim S8x8192x1x32 ![0, 1, 3] bcast_S8x8192x32_S8x8192x1x32_0_1_3 a)

def joined (a b : FVec Ideal S8x8192x16x32 .f32) : FVec Ideal S8x8192x16x64 .f32 :=
  concatenate S8x8192x16x64 3 [⟨S8x8192x16x32, a⟩, ⟨S8x8192x16x32, b⟩] concatenates_S8x8192x16x32_S8x8192x16x32_S8x8192x16x64_d3

/-- The rotated heads. -/
def turned (t : FVec Ideal S8x8192x16x64 .f32) (c s : FVec Ideal S8x8192x32 .f32) : FVec Ideal S8x8192x16x64 .f32 :=
  joined (subf (mulf (half0 t) (spread c)) (mulf (half1 t) (spread s))) (addf (mulf (half1 t) (spread c)) (mulf (half0 t) (spread s)))

/-- The queries' factor. -/
def scaled (t : FVec Ideal S8x8192x16x64 .f32) : FVec Ideal S8x8192x16x64 .f32 :=
  Host.divf (mulf t (broadcastInDim S8x8192x16x64 ![] bcast_S_S8x8192x16x64 (constant S_ .f32 0x3E000000#32)))
    (broadcastInDim S8x8192x16x64 ![] bcast_S_S8x8192x16x64 (Host.log (constant S_ .f32 0x40000000#32)))

/-- One row per token. -/
def flat (t : FVec Ideal S8x8192x16x64 .f32) : FVec Ideal S65536x1024 .f32 := shapeCast _ t shapeCasts_S8x8192x16x64_S65536x1024

theorem heads_apply (h : FVec Ideal S8x8192x1024 .f32) (w : FVec Ideal S1024x3072 .f32) (b : Fin 8) (s : Fin 8192) (n : Fin 48) (d : Fin 64) :
    heads h w (ix4 b s n d) = ∑ j : Fin 1024, (h (ix3 b s j) : EReal) * w (ix2 j ⟨n.val * 64 + d.val, by omega⟩) := by
  unfold heads
  pointwise

theorem third0_apply (a : FVec Ideal S8x8192x48x64 .f32) (b : Fin 8) (s : Fin 8192) (n : Fin 16) (d : Fin 64) :
    third0 a (ix4 b s n d) = a (ix4 b s ⟨n.val, by omega⟩ d) := by
  unfold third0
  pointwise

theorem third1_apply (a : FVec Ideal S8x8192x48x64 .f32) (b : Fin 8) (s : Fin 8192) (n : Fin 16) (d : Fin 64) :
    third1 a (ix4 b s n d) = a (ix4 b s ⟨16 + n.val, by omega⟩ d) := by
  unfold third1
  pointwise

theorem third2_apply (a : FVec Ideal S8x8192x48x64 .f32) (b : Fin 8) (s : Fin 8192) (n : Fin 16) (d : Fin 64) :
    third2 a (ix4 b s n d) = a (ix4 b s ⟨32 + n.val, by omega⟩ d) := by
  unfold third2
  pointwise

theorem half0_apply (a : FVec Ideal S8x8192x16x64 .f32) (b : Fin 8) (s : Fin 8192) (n : Fin 16) (d : Fin 32) :
    half0 a (ix4 b s n d) = a (ix4 b s n ⟨d.val, by omega⟩) := by
  unfold half0
  pointwise

theorem half1_apply (a : FVec Ideal S8x8192x16x64 .f32) (b : Fin 8) (s : Fin 8192) (n : Fin 16) (d : Fin 32) :
    half1 a (ix4 b s n d) = a (ix4 b s n ⟨32 + d.val, by omega⟩) := by
  unfold half1
  pointwise

theorem spread_apply (a : FVec Ideal S8x8192x32 .f32) (b : Fin 8) (s : Fin 8192) (n : Fin 16) (d : Fin 32) :
    spread a (ix4 b s n d) = a (ix3 b s d) := by
  unfold spread
  pointwise

theorem joined_apply (x y : FVec Ideal S8x8192x16x32 .f32) (b : Fin 8) (s : Fin 8192) (n : Fin 16) (d : Fin 64) :
    joined x y (ix4 b s n d) = if h : d.val < 32 then x (ix4 b s n ⟨d.val, h⟩) else y (ix4 b s n ⟨d.val - 32, by omega⟩) := by
  unfold joined
  pointwise

theorem flat_apply (t : FVec Ideal S8x8192x16x64 .f32) (i : Fin 65536) (l : Fin 1024) :
    flat t (ix2 i l) = t (ix4 (seqOf i) (posOf i) ⟨l.val / 64, by omega⟩ ⟨l.val % 64, Nat.mod_lt _ (by decide)⟩) := by
  unfold flat
  pointwise

theorem scaled_apply (t : FVec Ideal S8x8192x16x64 .f32) (y : S8x8192x16x64.Idx) :
    (scaled t y : EReal) = (t y : EReal) * (((1 / 8) * (Real.log 2)⁻¹ : ℝ) : EReal) := by
  rw [← scale_eq]
  rfl

/-- The rotated heads, one row per token. -/
theorem turned_apply (t : FVec Ideal S8x8192x16x64 .f32) (c s : FVec Ideal S8x8192x32 .f32) (i : Fin 65536) (l : Fin 1024) :
    (turned t c s (ix4 (seqOf i) (posOf i) ⟨l.val / 64, by omega⟩ ⟨l.val % 64, Nat.mod_lt _ (by decide)⟩) : EReal)
      = lanes (fun l => flat t (ix2 i l)) (fun j => c (ix3 (seqOf i) (posOf i) j)) (fun j => s (ix3 (seqOf i) (posOf i) j)) l := by
  rw [← turn_eq]
  unfold turned turn
  refine (joined_apply _ _ _ _ _ _).trans ?_
  by_cases h : l.val % 64 < 32
  · rw [dif_pos h, if_pos h]
    have e : (⟨l.val % 64, h⟩ : Fin 32) = freq l := Fin.ext (show l.val % 64 = l.val % 32 by omega)
    rw [e]
    refine congrArg₂ (fun a b : EReal => a - b) (congrArg₂ (fun a b : EReal => a * b) ?_ (spread_apply c _ _ _ _))
      (congrArg₂ (fun a b : EReal => a * b) ?_ (spread_apply s _ _ _ _))
    · refine (half0_apply _ _ _ _ _).trans (Eq.trans ?_ (flat_apply t i l).symm)
      exact congrArg (fun d => t (ix4 _ _ _ d)) (Fin.ext (show l.val % 32 = l.val % 64 by omega))
    · refine (half1_apply _ _ _ _ _).trans (Eq.trans ?_ (flat_apply t i (mate l)).symm)
      have hm : (mate l).val = l.val + 32 := if_pos h
      exact congrArg₂ (fun n d => t (ix4 _ _ n d)) (Fin.ext (show l.val / 64 = (mate l).val / 64 by omega))
        (Fin.ext (show 32 + l.val % 32 = (mate l).val % 64 by omega))
  · rw [dif_neg h, if_neg h]
    have e : (⟨l.val % 64 - 32, by omega⟩ : Fin 32) = freq l := Fin.ext (show l.val % 64 - 32 = l.val % 32 by omega)
    rw [e]
    refine congrArg₂ (fun a b : EReal => a + b) (congrArg₂ (fun a b : EReal => a * b) ?_ (spread_apply c _ _ _ _))
      (congrArg₂ (fun a b : EReal => a * b) ?_ (spread_apply s _ _ _ _))
    · refine (half1_apply _ _ _ _ _).trans (Eq.trans ?_ (flat_apply t i l).symm)
      exact congrArg (fun d => t (ix4 _ _ _ d)) (Fin.ext (show 32 + l.val % 32 = l.val % 64 by omega))
    · refine (half0_apply _ _ _ _ _).trans (Eq.trans ?_ (flat_apply t i (mate l)).symm)
      have hm : (mate l).val = l.val - 32 := if_neg h
      exact congrArg₂ (fun n d => t (ix4 _ _ n d)) (Fin.ext (show l.val / 64 = (mate l).val / 64 by omega))
        (Fin.ext (show l.val % 32 = (mate l).val % 64 by omega))

variable (x : FVec Ideal S8x8192x1024 .f32) (p : IVec S8x8192 32) (g : FVec Ideal S1024 .f32) (w : FVec Ideal S1024x3072 .f32)

/-- A projected head's entry. -/
theorem heads_row (i : Fin 65536) (n : Fin 48) (d : Fin 64) (q : Fin 3072) (hq : n.val * 64 + d.val = q.val) :
    heads (normX x g) w (ix4 (seqOf i) (posOf i) n d) = projAt x g w i q := by
  refine (heads_apply _ _ _ _ n d).trans ?_
  rw [show (⟨n.val * 64 + d.val, by omega⟩ : Fin 3072) = q from Fin.ext hq]
  exact Finset.sum_congr rfl fun k _ => congrArg (fun a : EReal => a * _) (normX_apply x g _ _ k)

theorem rows0 (i : Fin 65536) (l : Fin 1024) : flat (third0 (heads (normX x g) w)) (ix2 i l) = projAt x g w i (col 0 l) :=
  (flat_apply _ i l).trans ((third0_apply _ _ _ _ _).trans (heads_row x g w i _ _ _ (show l.val / 64 * 64 + l.val % 64 = 0 * 1024 + l.val by omega)))

theorem rows1 (i : Fin 65536) (l : Fin 1024) : flat (third1 (heads (normX x g) w)) (ix2 i l) = projAt x g w i (col 1 l) :=
  (flat_apply _ i l).trans ((third1_apply _ _ _ _ _).trans (heads_row x g w i _ _ _ (show (16 + l.val / 64) * 64 + l.val % 64 = 1 * 1024 + l.val by omega)))

theorem rows2 (i : Fin 65536) (l : Fin 1024) : flat (third2 (heads (normX x g) w)) (ix2 i l) = projAt x g w i (col 2 l) :=
  (flat_apply _ i l).trans ((third2_apply _ _ _ _ _).trans (heads_row x g w i _ _ _ (show (32 + l.val / 64) * 64 + l.val % 64 = 2 * 1024 + l.val by omega)))

theorem queries_eq : flat (scaled (turned (third0 (heads (normX x g) w)) (Host.cos (angles p)) (Host.sin (angles p)))) = queries x p g w := by
  funext y
  idx_vars y
  refine (flat_apply _ y0 y1).trans ((scaled_apply _ _).trans (congrArg (fun a : EReal => a * _) ((turned_apply _ _ _ y0 y1).trans ?_)))
  exact congrArg (fun f => lanes f _ _ y1) (funext fun l => rows0 x g w y0 l)

theorem keys_eq : flat (turned (third1 (heads (normX x g) w)) (Host.cos (angles p)) (Host.sin (angles p))) = keys x p g w := by
  funext y
  idx_vars y
  refine (flat_apply _ y0 y1).trans ((turned_apply _ _ _ y0 y1).trans ?_)
  exact congrArg (fun f => lanes f _ _ y1) (funext fun l => rows1 x g w y0 l)

theorem values_eq : flat (third2 (heads (normX x g) w)) = values x g w := by
  funext y
  idx_vars y
  exact rows2 x g w y0 y1

variable (m : (ℓ : Loc nD τ sig) → Buf (Elt Ideal) ℓ)

theorem value0 (c : Dev nD) : Value.res_main_v89 m c = queries (m ((c : Thread nD τ).loc main_arg0)) (m ((c : Thread nD τ).loc main_arg1)) (m ((c : Thread nD τ).loc main_arg2)) (m ((c : Thread nD τ).loc main_arg3)) := by
  have e : Value.res_main_v89 m c = flat (scaled (turned (third0 (heads (normX (m ((c : Thread nD τ).loc main_arg0)) (m ((c : Thread nD τ).loc main_arg2))) (m ((c : Thread nD τ).loc main_arg3)))) (Host.cos (angles (m ((c : Thread nD τ).loc main_arg1)))) (Host.sin (angles (m ((c : Thread nD τ).loc main_arg1)))))) := by
    unfold Value.res_main_v89
    rfl
  exact e.trans (queries_eq _ _ _ _)

theorem value1 (c : Dev nD) : Value.res_main_v90 m c = keys (m ((c : Thread nD τ).loc main_arg0)) (m ((c : Thread nD τ).loc main_arg1)) (m ((c : Thread nD τ).loc main_arg2)) (m ((c : Thread nD τ).loc main_arg3)) := by
  have e : Value.res_main_v90 m c = flat (turned (third1 (heads (normX (m ((c : Thread nD τ).loc main_arg0)) (m ((c : Thread nD τ).loc main_arg2))) (m ((c : Thread nD τ).loc main_arg3)))) (Host.cos (angles (m ((c : Thread nD τ).loc main_arg1)))) (Host.sin (angles (m ((c : Thread nD τ).loc main_arg1))))) := by
    unfold Value.res_main_v90
    rfl
  exact e.trans (keys_eq _ _ _ _)

/-- The values, as the reference's run states them. -/
theorem value2 (c : Dev nD) (v : FVec Ideal S65536x1024 .f32)
    (h : v = flat (third2 (heads (normX (m ((c : Thread nD τ).loc main_arg0)) (m ((c : Thread nD τ).loc main_arg2))) (m ((c : Thread nD τ).loc main_arg3))))) : v = values (m ((c : Thread nD τ).loc main_arg0)) (m ((c : Thread nD τ).loc main_arg2)) (m ((c : Thread nD τ).loc main_arg3)) :=
  h.trans (values_eq _ _ _)

end Cert.Rope.Ref

end
-- ==== Proof.Rope.Claims.lean ====
/-
  The claims about the second layer's projections: the frames, the one named constant, and that the call computes the
  reference's rotated queries and keys and its values, of all arguments.
-/
module

public import proofs.«01_k».proof.Defs
public import proofs.«01_k».proof.Proof.Gen.Kernel6.Frame
public import proofs.«01_k».proof.Proof.Gen.Kernel6Ideal.Value
public import proofs.«01_k».proof.Proof.Rope.Value
public import proofs.«01_k».proof.Proof.Rope.Ref
public import Idealize.ShloMosaic.Lib.Quiescent

@[expose] public section

noncomputable section

open Idealize.ShloMosaic Idealize.ShloMosaic.TcCoe Idealize.SL.Sem

namespace Cert.Proof.RopeClaims

theorem frame_kernel6 : Cert.quiescent_Kernel6 := fun m ρ _ => Cert.Kernel6.Gen.frame m ρ

theorem frame_kernel6_ideal : Cert.quiescent_Kernel6Ideal := fun m ρ _ => Cert.Kernel6Ideal.Gen.frame m ρ

theorem frame_reference6 : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

theorem preserves6 : Cert.preserves_Kernel6_Kernel6Ideal :=
  IdealRules.named_const.statement Cert.Kernel6Ideal.κ "q_log2_scale" .f32 0x3E38AA3B#32 (((1 / 8) * (Real.log 2)⁻¹ : ℝ) : EReal) rfl

theorem algebraic6 : Cert.algebraic_Kernel6Ideal_Reference6Ideal := fun m ρ m' ρ' _ hag =>
  ⟨fun c => Cert.Rope.result5 m c, fun c => Cert.Rope.result6 m c, fun c => Cert.Rope.result7 m c,
    (θ_run Cert.Kernel6Ideal.defs _ _).mono
      (fun _ h c => ⟨(h c).1.trans (Cert.Rope.final5 m c), (h c).2.1.trans (Cert.Rope.final6 m c), (h c).2.2.1.trans (Cert.Rope.final7 m c), (h c).2.2.2⟩)
      (Cert.Kernel6Ideal.Value.run_blocks m ρ),
    (θ_run Cert.Reference6Ideal.defs _ _).mono
      (fun _ h c => ⟨(h c).1.trans ((Cert.Rope.Ref.value0 m' c).trans (by
          unfold Cert.Rope.result5
          rw [(hag c).1, (hag c).2.1, (hag c).2.2.1, (hag c).2.2.2])),
        (h c).2.1.trans ((Cert.Rope.Ref.value1 m' c).trans (by
          unfold Cert.Rope.result6
          rw [(hag c).1, (hag c).2.1, (hag c).2.2.1, (hag c).2.2.2])),
        (h c).2.2.1.trans ((Cert.Rope.Ref.value2 m' c _ rfl).trans (by
          unfold Cert.Rope.result7
          rw [(hag c).1, (hag c).2.2.1, (hag c).2.2.2])),
        (h c).2.2.2⟩)
      (Cert.Reference6Ideal.Value.run (F := Ideal) m' ρ')⟩

end Cert.Proof.RopeClaims

end
-- ==== Proof.lean ====
module

public import proofs.«01_k».proof.Defs
public import proofs.«01_k».proof.Proof.Ffn.Claims
public import proofs.«01_k».proof.Proof.Mla.Claims
public import proofs.«01_k».proof.Proof.Xattn.Claims
public import proofs.«01_k».proof.Proof.Rope.Claims
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel.Frame
public import proofs.«01_k».proof.Proof.Gen.Kernel.Loops
public import proofs.«01_k».proof.Proof.Gen.KernelIdeal.Frame
public import proofs.«01_k».proof.Proof.Gen.KernelIdeal.Loops
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import Idealize.ShloMosaic.Adequacy
public import Idealize.ShloMosaic.Init

@[expose] public section

noncomputable section

namespace Cert.Proof

open Idealize.ShloMosaic Idealize.SL.Sem Cert.Kernel2

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, MlaClaims.pre_facts, XattnClaims.pre_facts4, XattnClaims.pre_facts5,
    MlaClaims.frame_kernel, MlaClaims.frame_kernel_ideal, MlaClaims.frame_kernel_ideal_pre, MlaClaims.frame_reference, MlaClaims.frame_reference_pre,
    FfnClaims.frame_kernel2, FfnClaims.frame_kernel2_ideal, FfnClaims.frame_reference2,
    FfnClaims.frame_kernel3, FfnClaims.frame_kernel3_ideal, FfnClaims.frame_reference3,
    XattnClaims.frame_kernel4, XattnClaims.frame_kernel4_ideal, XattnClaims.frame_kernel4_ideal_pre, XattnClaims.frame_reference4, XattnClaims.frame_reference4_pre,
    XattnClaims.frame_kernel5, XattnClaims.frame_kernel5_ideal, XattnClaims.frame_kernel5_ideal_pre, XattnClaims.frame_reference5, XattnClaims.frame_reference5_pre,
    RopeClaims.frame_kernel6, RopeClaims.frame_kernel6_ideal, RopeClaims.frame_reference6,
    MlaClaims.preserves, MlaClaims.algebraic,
    FfnClaims.preserves2, FfnClaims.algebraic2, FfnClaims.preserves3, FfnClaims.algebraic3,
    XattnClaims.preserves4, XattnClaims.algebraic4, XattnClaims.preserves5, XattnClaims.algebraic5,
    RopeClaims.preserves6, RopeClaims.algebraic6⟩

end Cert.Proof

end
